-- ==== Defs.lean ====
def Pre_Kernel [hPre_distinct_tokens : Cert.Pre_distinct_tokens.Facts] (m : (ℓ : Loc Cert.Kernel.nD Cert.Kernel.τ Cert.Kernel.sig) → Buf (Elt Bits) ℓ) : Prop :=
  ∀ c : Dev Cert.Kernel.nD,
    (Cert.Pre_distinct_tokens.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_distinct_tokens : Cert.Pre_distinct_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite_layer [hPre_finite_layer : Cert.Pre_finite_layer.Facts] (m : (ℓ : Loc Cert.KernelIdeal.nD Cert.KernelIdeal.τ Cert.KernelIdeal.sig) → Buf (Elt Ideal) ℓ) : Prop :=
  ∀ c : Dev Cert.KernelIdeal.nD,
    (Cert.Pre_finite_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_layer [hPre_finite_layer : Cert.Pre_finite_layer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores [hPre_finite_scores : Cert.Pre_finite_scores.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores [hPre_finite_scores : Cert.Pre_finite_scores.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_projection [hPre_finite_projection : Cert.Pre_finite_projection.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_projection.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_projection [hPre_finite_projection : Cert.Pre_finite_projection.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_projection.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_states [hPre_finite_states : Cert.Pre_finite_states.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_states.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_states [hPre_finite_states : Cert.Pre_finite_states.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_states.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def quiescent_Kernel [hKernel : Cert.Kernel.Facts] [hPre_distinct_tokens : Cert.Pre_distinct_tokens.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_distinct_tokens : Cert.Pre_distinct_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_layer [hKernelIdeal : Cert.KernelIdeal.Facts] [hPre_finite_layer : Cert.Pre_finite_layer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_layer m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_layer [hReferenceIdeal : Cert.ReferenceIdeal.Facts] [hPre_finite_layer : Cert.Pre_finite_layer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_layer m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_scores [hKernel2Ideal : Cert.Kernel2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_scores [hReference2Ideal : Cert.Reference2Ideal.Facts] [hPre_finite_scores : Cert.Pre_finite_scores.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite_projection [hKernel4Ideal : Cert.Kernel4Ideal.Facts] [hPre_finite_projection : Cert.Pre_finite_projection.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_projection m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_projection [hReference4Ideal : Cert.Reference4Ideal.Facts] [hPre_finite_projection : Cert.Pre_finite_projection.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_projection m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite_states [hKernel5Ideal : Cert.Kernel5Ideal.Facts] [hPre_finite_states : Cert.Pre_finite_states.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_states m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite_states [hReference5Ideal : Cert.Reference5Ideal.Facts] [hPre_finite_states : Cert.Pre_finite_states.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_states m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal_pre_finite_layer [hKernelIdeal : Cert.KernelIdeal.Facts] [hReferenceIdeal : Cert.ReferenceIdeal.Facts] [hPre_finite_layer : Cert.Pre_finite_layer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_layer m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite_scores [hKernel2Ideal : Cert.Kernel2Ideal.Facts] [hReference2Ideal : Cert.Reference2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_projection [hKernel4Ideal : Cert.Kernel4Ideal.Facts] [hReference4Ideal : Cert.Reference4Ideal.Facts] [hPre_finite_projection : Cert.Pre_finite_projection.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_projection m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)) (v2 : (c : Dev Cert.Kernel4Ideal.nD) → Buf (Elt Ideal) ((c.tc : Thread Cert.Kernel4Ideal.nD Cert.Kernel4Ideal.τ).loc Cert.Kernel4Ideal.main_v26_2)) (v3 : (c : Dev Cert.Kernel4Ideal.nD) → Buf (Elt Ideal) ((c.tc : Thread Cert.Kernel4Ideal.nD Cert.Kernel4Ideal.τ).loc Cert.Kernel4Ideal.main_v26_3)) (v4 : (c : Dev Cert.Kernel4Ideal.nD) → Buf (Elt Ideal) ((c.tc : Thread Cert.Kernel4Ideal.nD Cert.Kernel4Ideal.τ).loc Cert.Kernel4Ideal.main_v26_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_v26_2) = v2 c
          ∧ r.2.mem ((c.tc : Thread Cert.Kernel4Ideal.nD Cert.Kernel4Ideal.τ).loc Cert.Kernel4Ideal.main_v26_3) = v3 c
          ∧ r.2.mem ((c.tc : Thread Cert.Kernel4Ideal.nD Cert.Kernel4Ideal.τ).loc Cert.Kernel4Ideal.main_v26_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v92) = v2 c
          ∧ r.2.mem ((c.tc : Thread Cert.Reference4Ideal.nD Cert.Reference4Ideal.τ).loc Cert.Reference4Ideal.main_v94) = v3 c
          ∧ r.2.mem ((c.tc : Thread Cert.Reference4Ideal.nD Cert.Reference4Ideal.τ).loc Cert.Reference4Ideal.main_v95) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite_states [hKernel5Ideal : Cert.Kernel5Ideal.Facts] [hReference5Ideal : Cert.Reference5Ideal.Facts] [hPre_finite_states : Cert.Pre_finite_states.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_states m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_distinct_tokens : Cert.Pre_distinct_tokens.Facts) (hPre_finite_layer : Cert.Pre_finite_layer.Facts) (hPre_finite_scores : Cert.Pre_finite_scores.Facts) (hPre_finite_projection : Cert.Pre_finite_projection.Facts) (hPre_finite_states : Cert.Pre_finite_states.Facts),
    quiescent_Kernel (hKernel := hKernel) (hPre_distinct_tokens := hPre_distinct_tokens)
    ∧ quiescent_KernelIdeal (hKernelIdeal := hKernelIdeal) (hPre_distinct_tokens := hPre_distinct_tokens)
    ∧ quiescent_KernelIdeal_pre_finite_layer (hKernelIdeal := hKernelIdeal) (hPre_finite_layer := hPre_finite_layer)
    ∧ quiescent_ReferenceIdeal (hReferenceIdeal := hReferenceIdeal)
    ∧ quiescent_ReferenceIdeal_pre_finite_layer (hReferenceIdeal := hReferenceIdeal) (hPre_finite_layer := hPre_finite_layer)
    ∧ quiescent_Kernel2 (hKernel2 := hKernel2)
    ∧ quiescent_Kernel2Ideal (hKernel2Ideal := hKernel2Ideal)
    ∧ quiescent_Kernel2Ideal_pre_finite_scores (hKernel2Ideal := hKernel2Ideal) (hPre_finite_scores := hPre_finite_scores)
    ∧ quiescent_Reference2Ideal (hReference2Ideal := hReference2Ideal)
    ∧ quiescent_Reference2Ideal_pre_finite_scores (hReference2Ideal := hReference2Ideal) (hPre_finite_scores := hPre_finite_scores)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_projection (hKernel4Ideal := hKernel4Ideal) (hPre_finite_projection := hPre_finite_projection)
    ∧ quiescent_Reference4Ideal (hReference4Ideal := hReference4Ideal)
    ∧ quiescent_Reference4Ideal_pre_finite_projection (hReference4Ideal := hReference4Ideal) (hPre_finite_projection := hPre_finite_projection)
    ∧ quiescent_Kernel5 (hKernel5 := hKernel5)
    ∧ quiescent_Kernel5Ideal (hKernel5Ideal := hKernel5Ideal)
    ∧ quiescent_Kernel5Ideal_pre_finite_states (hKernel5Ideal := hKernel5Ideal) (hPre_finite_states := hPre_finite_states)
    ∧ quiescent_Reference5Ideal (hReference5Ideal := hReference5Ideal)
    ∧ quiescent_Reference5Ideal_pre_finite_states (hReference5Ideal := hReference5Ideal) (hPre_finite_states := hPre_finite_states)
    ∧ preserves_Kernel_KernelIdeal
    ∧ algebraic_KernelIdeal_ReferenceIdeal_pre_finite_layer (hKernelIdeal := hKernelIdeal) (hReferenceIdeal := hReferenceIdeal) (hPre_finite_layer := hPre_finite_layer)
    ∧ preserves_Kernel2_Kernel2Ideal
    ∧ algebraic_Kernel2Ideal_Reference2Ideal_pre_finite_scores (hKernel2Ideal := hKernel2Ideal) (hReference2Ideal := hReference2Ideal) (hPre_finite_scores := hPre_finite_scores)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_projection (hKernel4Ideal := hKernel4Ideal) (hReference4Ideal := hReference4Ideal) (hPre_finite_projection := hPre_finite_projection)
    ∧ preserves_Kernel5_Kernel5Ideal
    ∧ algebraic_Kernel5Ideal_Reference5Ideal_pre_finite_states (hKernel5Ideal := hKernel5Ideal) (hReference5Ideal := hReference5Ideal) (hPre_finite_states := hPre_finite_states)
-- ==== Pre_distinct_tokens.lean ====
abbrev S4x16x1024 : Shape := ⟨3, ![4, 16, 1024]⟩
abbrev S4x8192x1024 : Shape := ⟨3, ![4, 8192, 1024]⟩
abbrev S4x8192x16 : Shape := ⟨3, ![4, 8192, 16]⟩
abbrev S4x1x1024 : Shape := ⟨3, ![4, 1, 1024]⟩
abbrev S16x1024x2048 : Shape := ⟨3, ![16, 1024, 2048]⟩
abbrev S16x2048x1024 : Shape := ⟨3, ![16, 2048, 1024]⟩
abbrev S1024 : Shape := ⟨1, ![1024]⟩
abbrev S4x16x1024x1 : Shape := ⟨4, ![4, 16, 1024, 1]⟩
abbrev S4x16x1x1024 : Shape := ⟨4, ![4, 16, 1, 1024]⟩
abbrev S_ : Shape := ⟨0, ![]⟩
abbrev S4x16x1024x1024 : Shape := ⟨4, ![4, 16, 1024, 1024]⟩
abbrev S1024x1 : Shape := ⟨2, ![1024, 1]⟩
abbrev S1x1024 : Shape := ⟨2, ![1, 1024]⟩
abbrev S1024x1024 : Shape := ⟨2, ![1024, 1024]⟩
abbrev S1x1x1024x1024 : Shape := ⟨4, ![1, 1, 1024, 1024]⟩

class Facts : Prop where
  bcast_S4x16x1024_S4x16x1024x1_0_1_2 : S4x16x1024.BroadcastsInDim S4x16x1024x1 (![0, 1, 2] : Fin 3 → Fin S4x16x1024x1.rank)
  bcast_S4x16x1024_S4x16x1x1024_0_1_3 : S4x16x1024.BroadcastsInDim S4x16x1x1024 (![0, 1, 3] : Fin 3 → Fin S4x16x1x1024.rank)
  bcast_S_S4x16x1024x1 : S_.BroadcastsInDim S4x16x1024x1 (![] : Fin 0 → Fin S4x16x1024x1.rank)
  bcast_S4x16x1024x1_S4x16x1024x1024_0_1_2_3 : S4x16x1024x1.BroadcastsInDim S4x16x1024x1024 (![0, 1, 2, 3] : Fin 4 → Fin S4x16x1024x1024.rank)
  bcast_S4x16x1x1024_S4x16x1024x1024_0_1_2_3 : S4x16x1x1024.BroadcastsInDim S4x16x1024x1024 (![0, 1, 2, 3] : Fin 4 → Fin S4x16x1024x1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S1024x1024_S1x1x1024x1024_2_3 : S1024x1024.BroadcastsInDim S1x1x1024x1024 (![2, 3] : Fin 2 → Fin S1x1x1024x1024.rank)
  bcast_S1x1x1024x1024_S4x16x1024x1024_0_1_2_3 : S1x1x1024x1024.BroadcastsInDim S4x16x1024x1024 (![0, 1, 2, 3] : Fin 4 → Fin S4x16x1024x1024.rank)

variable [Facts]

def fn {F : FTy → Type} [FloatOps F] (main_arg0 : IVec S4x16x1024 32) (main_arg1 : FVec F S4x8192x1024 .f32) (main_arg2 : FVec F S4x8192x16 .f32) (main_arg3 : FVec F S4x8192x1024 .f32) (main_arg4 : FVec F S4x1x1024 .f32) (main_arg5 : FVec F S16x1024x2048 .f32) (main_arg6 : FVec F S16x1024x2048 .f32) (main_arg7 : FVec F S16x2048x1024 .f32) : IVec S4x16x1024x1024 1 :=
  let main_v0 : IVec S1024 32 := iotaInDim S1024 32 0
  let main_v1 : IVec S4x16x1024x1 32 := broadcastInDim S4x16x1024x1 ![0, 1, 2] bcast_S4x16x1024_S4x16x1024x1_0_1_2 main_arg0
  let main_v2 : IVec S4x16x1x1024 32 := broadcastInDim S4x16x1x1024 ![0, 1, 3] bcast_S4x16x1024_S4x16x1x1024_0_1_3 main_arg0
  let main_c : IVec S_ 32 := constantI S_ 32 0#32
  let main_v3 : IVec S4x16x1024x1 32 := broadcastInDim S4x16x1024x1 ![] bcast_S_S4x16x1024x1 main_c
  let main_v4 : IVec S4x16x1024x1 1 := cmpi .sge main_v1 main_v3
  let main_c_0 : IVec S_ 32 := constantI S_ 32 8192#32
  let main_v5 : IVec S4x16x1024x1 32 := broadcastInDim S4x16x1024x1 ![] bcast_S_S4x16x1024x1 main_c_0
  let main_v6 : IVec S4x16x1024x1 1 := cmpi .slt main_v1 main_v5
  let main_v7 : IVec S4x16x1024x1 1 := andi main_v4 main_v6
  let main_v8 : IVec S4x16x1024x1024 32 := broadcastInDim S4x16x1024x1024 ![0, 1, 2, 3] bcast_S4x16x1024x1_S4x16x1024x1024_0_1_2_3 main_v1
  let main_v9 : IVec S4x16x1024x1024 32 := broadcastInDim S4x16x1024x1024 ![0, 1, 2, 3] bcast_S4x16x1x1024_S4x16x1024x1024_0_1_2_3 main_v2
  let main_v10 : IVec S4x16x1024x1024 1 := cmpi .ne main_v8 main_v9
  let main_v11 : IVec S1024x1 32 := broadcastInDim S1024x1 ![0] bcast_S1024_S1024x1_0 main_v0
  let main_v12 : IVec S1x1024 32 := broadcastInDim S1x1024 ![1] bcast_S1024_S1x1024_1 main_v0
  let main_v13 : IVec S1024x1024 32 := broadcastInDim S1024x1024 ![0, 1] bcast_S1024x1_S1024x1024_0_1 main_v11
  let main_v14 : IVec S1024x1024 32 := broadcastInDim S1024x1024 ![0, 1] bcast_S1x1024_S1024x1024_0_1 main_v12
  let main_v15 : IVec S1024x1024 1 := cmpi .eq main_v13 main_v14
  let main_v16 : IVec S1x1x1024x1024 1 := broadcastInDim S1x1x1024x1024 ![2, 3] bcast_S1024x1024_S1x1x1024x1024_2_3 main_v15
  let main_v17 : IVec S4x16x1024x1024 1 := broadcastInDim S4x16x1024x1024 ![0, 1, 2, 3] bcast_S1x1x1024x1024_S4x16x1024x1024_0_1_2_3 main_v16
  let main_v18 : IVec S4x16x1024x1024 1 := ori main_v10 main_v17
  let main_v19 : IVec S4x16x1024x1024 1 := broadcastInDim S4x16x1024x1024 ![0, 1, 2, 3] bcast_S4x16x1024x1_S4x16x1024x1024_0_1_2_3 main_v7
  let main_v20 : IVec S4x16x1024x1024 1 := andi main_v19 main_v18
  main_v20
-- ==== Pre_finite_layer.lean ====
abbrev S4x16x1024 : Shape := ⟨3, ![4, 16, 1024]⟩
abbrev S4x8192x1024 : Shape := ⟨3, ![4, 8192, 1024]⟩
abbrev S4x8192x16 : Shape := ⟨3, ![4, 8192, 16]⟩
abbrev S4x1x1024 : Shape := ⟨3, ![4, 1, 1024]⟩
abbrev S16x1024x2048 : Shape := ⟨3, ![16, 1024, 2048]⟩
abbrev S16x2048x1024 : Shape := ⟨3, ![16, 2048, 1024]⟩
abbrev S_ : Shape := ⟨0, ![]⟩
abbrev S1024 : Shape := ⟨1, ![1024]⟩
abbrev S4x16x1024x1 : Shape := ⟨4, ![4, 16, 1024, 1]⟩
abbrev S4x16x1x1024 : Shape := ⟨4, ![4, 16, 1, 1024]⟩
abbrev S4x16x1024x1024 : Shape := ⟨4, ![4, 16, 1024, 1024]⟩
abbrev S1024x1 : Shape := ⟨2, ![1024, 1]⟩
abbrev S1x1024 : Shape := ⟨2, ![1, 1024]⟩
abbrev S1024x1024 : Shape := ⟨2, ![1024, 1024]⟩
abbrev S1x1x1024x1024 : Shape := ⟨4, ![1, 1, 1024, 1024]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x8192x16 : S_.BroadcastsInDim S4x8192x16 (![] : Fin 0 → Fin S4x8192x16.rank)
  reducesTo_S4x8192x16_S_d0_1_2 : S4x8192x16.ReducesTo [0, 1, 2] S_
  bcast_S_S4x1x1024 : S_.BroadcastsInDim S4x1x1024 (![] : Fin 0 → Fin S4x1x1024.rank)
  reducesTo_S4x1x1024_S_d0_1_2 : S4x1x1024.ReducesTo [0, 1, 2] S_
  bcast_S_S16x1024x2048 : S_.BroadcastsInDim S16x1024x2048 (![] : Fin 0 → Fin S16x1024x2048.rank)
  reducesTo_S16x1024x2048_S_d0_1_2 : S16x1024x2048.ReducesTo [0, 1, 2] S_
  bcast_S_S16x2048x1024 : S_.BroadcastsInDim S16x2048x1024 (![] : Fin 0 → Fin S16x2048x1024.rank)
  reducesTo_S16x2048x1024_S_d0_1_2 : S16x2048x1024.ReducesTo [0, 1, 2] S_
  bcast_S4x16x1024_S4x16x1024x1_0_1_2 : S4x16x1024.BroadcastsInDim S4x16x1024x1 (![0, 1, 2] : Fin 3 → Fin S4x16x1024x1.rank)
  bcast_S4x16x1024_S4x16x1x1024_0_1_3 : S4x16x1024.BroadcastsInDim S4x16x1x1024 (![0, 1, 3] : Fin 3 → Fin S4x16x1x1024.rank)
  bcast_S_S4x16x1024x1 : S_.BroadcastsInDim S4x16x1024x1 (![] : Fin 0 → Fin S4x16x1024x1.rank)
  bcast_S4x16x1024x1_S4x16x1024x1024_0_1_2_3 : S4x16x1024x1.BroadcastsInDim S4x16x1024x1024 (![0, 1, 2, 3] : Fin 4 → Fin S4x16x1024x1024.rank)
  bcast_S4x16x1x1024_S4x16x1024x1024_0_1_2_3 : S4x16x1x1024.BroadcastsInDim S4x16x1024x1024 (![0, 1, 2, 3] : Fin 4 → Fin S4x16x1024x1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S1024x1024_S1x1x1024x1024_2_3 : S1024x1024.BroadcastsInDim S1x1x1024x1024 (![2, 3] : Fin 2 → Fin S1x1x1024x1024.rank)
  bcast_S1x1x1024x1024_S4x16x1024x1024_0_1_2_3 : S1x1x1024x1024.BroadcastsInDim S4x16x1024x1024 (![0, 1, 2, 3] : Fin 4 → Fin S4x16x1024x1024.rank)
  bcast_S_S4x16x1024x1024 : S_.BroadcastsInDim S4x16x1024x1024 (![] : Fin 0 → Fin S4x16x1024x1024.rank)

variable [Facts]

def fn_part2 {F : FTy → Type} [FloatOps F] (main_v28 : IVec S_ 1) (main_v29 : IVec S1024 32) (main_v30 : IVec S4x16x1024x1 32) (main_v31 : IVec S4x16x1x1024 32) (main_v33 : IVec S4x16x1024x1 1) (main_c_11 : IVec S_ 32) : IVec S4x16x1024x1024 1 :=
  let main_v34 : IVec S4x16x1024x1 32 := broadcastInDim S4x16x1024x1 ![] bcast_S_S4x16x1024x1 main_c_11
  let main_v35 : IVec S4x16x1024x1 1 := cmpi .slt main_v30 main_v34
  let main_v36 : IVec S4x16x1024x1 1 := andi main_v33 main_v35
  let main_v37 : IVec S4x16x1024x1024 32 := broadcastInDim S4x16x1024x1024 ![0, 1, 2, 3] bcast_S4x16x1024x1_S4x16x1024x1024_0_1_2_3 main_v30
  let main_v38 : IVec S4x16x1024x1024 32 := broadcastInDim S4x16x1024x1024 ![0, 1, 2, 3] bcast_S4x16x1x1024_S4x16x1024x1024_0_1_2_3 main_v31
  let main_v39 : IVec S4x16x1024x1024 1 := cmpi .ne main_v37 main_v38
  let main_v40 : IVec S1024x1 32 := broadcastInDim S1024x1 ![0] bcast_S1024_S1024x1_0 main_v29
  let main_v41 : IVec S1x1024 32 := broadcastInDim S1x1024 ![1] bcast_S1024_S1x1024_1 main_v29
  let main_v42 : IVec S1024x1024 32 := broadcastInDim S1024x1024 ![0, 1] bcast_S1024x1_S1024x1024_0_1 main_v40
  let main_v43 : IVec S1024x1024 32 := broadcastInDim S1024x1024 ![0, 1] bcast_S1x1024_S1024x1024_0_1 main_v41
  let main_v44 : IVec S1024x1024 1 := cmpi .eq main_v42 main_v43
  let main_v45 : IVec S1x1x1024x1024 1 := broadcastInDim S1x1x1024x1024 ![2, 3] bcast_S1024x1024_S1x1x1024x1024_2_3 main_v44
  let main_v46 : IVec S4x16x1024x1024 1 := broadcastInDim S4x16x1024x1024 ![0, 1, 2, 3] bcast_S1x1x1024x1024_S4x16x1024x1024_0_1_2_3 main_v45
  let main_v47 : IVec S4x16x1024x1024 1 := ori main_v39 main_v46
  let main_v48 : IVec S4x16x1024x1024 1 := broadcastInDim S4x16x1024x1024 ![0, 1, 2, 3] bcast_S4x16x1024x1_S4x16x1024x1024_0_1_2_3 main_v36
  let main_v49 : IVec S4x16x1024x1024 1 := andi main_v48 main_v47
  let main_v50 : IVec S4x16x1024x1024 1 := broadcastInDim S4x16x1024x1024 ![] bcast_S_S4x16x1024x1024 main_v28
  let main_v51 : IVec S4x16x1024x1024 1 := andi main_v49 main_v50
  main_v51

def fn_part1 {F : FTy → Type} [FloatOps F] (main_arg0 : IVec S4x16x1024 32) (main_arg6 : FVec F S16x1024x2048 .f32) (main_arg7 : FVec F S16x2048x1024 .f32) (main_v13 : IVec S_ 1) (main_v16 : IVec S16x1024x2048 1) : IVec S4x16x1024x1024 1 :=
  let main_c_5 : IVec S_ 1 := constantI S_ 1 1#1
  let main_v17 : IVec S_ 1 := (fun x v => Host.reduce IntOp.andi x v reducesTo_S16x1024x2048_S_d0_1_2 h_S_) main_v16 main_c_5
  let main_v18 : IVec S_ 1 := andi main_v13 main_v17
  let main_v19 : FVec F S16x1024x2048 .f32 := Host.absf main_arg6
  let main_cst_6 : FVec F S_ .f32 := constant S_ .f32 0x7F800000#32
  let main_v20 : FVec F S16x1024x2048 .f32 := broadcastInDim S16x1024x2048 ![] bcast_S_S16x1024x2048 main_cst_6
  let main_v21 : IVec S16x1024x2048 1 := cmpf .olt main_v19 main_v20
  let main_c_7 : IVec S_ 1 := constantI S_ 1 1#1
  let main_v22 : IVec S_ 1 := (fun x v => Host.reduce IntOp.andi x v reducesTo_S16x1024x2048_S_d0_1_2 h_S_) main_v21 main_c_7
  let main_v23 : IVec S_ 1 := andi main_v18 main_v22
  let main_v24 : FVec F S16x2048x1024 .f32 := Host.absf main_arg7
  let main_cst_8 : FVec F S_ .f32 := constant S_ .f32 0x7F800000#32
  let main_v25 : FVec F S16x2048x1024 .f32 := broadcastInDim S16x2048x1024 ![] bcast_S_S16x2048x1024 main_cst_8
  let main_v26 : IVec S16x2048x1024 1 := cmpf .olt main_v24 main_v25
  let main_c_9 : IVec S_ 1 := constantI S_ 1 1#1
  let main_v27 : IVec S_ 1 := (fun x v => Host.reduce IntOp.andi x v reducesTo_S16x2048x1024_S_d0_1_2 h_S_) main_v26 main_c_9
  let main_v28 : IVec S_ 1 := andi main_v23 main_v27
  let main_v29 : IVec S1024 32 := iotaInDim S1024 32 0
  let main_v30 : IVec S4x16x1024x1 32 := broadcastInDim S4x16x1024x1 ![0, 1, 2] bcast_S4x16x1024_S4x16x1024x1_0_1_2 main_arg0
  let main_v31 : IVec S4x16x1x1024 32 := broadcastInDim S4x16x1x1024 ![0, 1, 3] bcast_S4x16x1024_S4x16x1x1024_0_1_3 main_arg0
  let main_c_10 : IVec S_ 32 := constantI S_ 32 0#32
  let main_v32 : IVec S4x16x1024x1 32 := broadcastInDim S4x16x1024x1 ![] bcast_S_S4x16x1024x1 main_c_10
  let main_v33 : IVec S4x16x1024x1 1 := cmpi .sge main_v30 main_v32
  let main_c_11 : IVec S_ 32 := constantI S_ 32 8192#32
  fn_part2 (F := F) main_v28 main_v29 main_v30 main_v31 main_v33 main_c_11

def fn {F : FTy → Type} [FloatOps F] (main_arg0 : IVec S4x16x1024 32) (main_arg1 : FVec F S4x8192x1024 .f32) (main_arg2 : FVec F S4x8192x16 .f32) (main_arg3 : FVec F S4x8192x1024 .f32) (main_arg4 : FVec F S4x1x1024 .f32) (main_arg5 : FVec F S16x1024x2048 .f32) (main_arg6 : FVec F S16x1024x2048 .f32) (main_arg7 : FVec F S16x2048x1024 .f32) : IVec S4x16x1024x1024 1 :=
  let main_v0 : FVec F S4x8192x1024 .f32 := Host.absf main_arg1
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x8192x16 .f32 := Host.absf main_arg2
  let main_cst_0 : FVec F S_ .f32 := constant S_ .f32 0x7F800000#32
  let main_v5 : FVec F S4x8192x16 .f32 := broadcastInDim S4x8192x16 ![] bcast_S_S4x8192x16 main_cst_0
  let main_v6 : IVec S4x8192x16 1 := cmpf .olt main_v4 main_v5
  let main_c_1 : IVec S_ 1 := constantI S_ 1 1#1
  let main_v7 : IVec S_ 1 := (fun x v => Host.reduce IntOp.andi x v reducesTo_S4x8192x16_S_d0_1_2 h_S_) main_v6 main_c_1
  let main_v8 : IVec S_ 1 := andi main_v3 main_v7
  let main_v9 : FVec F S4x1x1024 .f32 := Host.absf main_arg4
  let main_cst_2 : FVec F S_ .f32 := constant S_ .f32 0x7F800000#32
  let main_v10 : FVec F S4x1x1024 .f32 := broadcastInDim S4x1x1024 ![] bcast_S_S4x1x1024 main_cst_2
  let main_v11 : IVec S4x1x1024 1 := cmpf .olt main_v9 main_v10
  let main_c_3 : IVec S_ 1 := constantI S_ 1 1#1
  let main_v12 : IVec S_ 1 := (fun x v => Host.reduce IntOp.andi x v reducesTo_S4x1x1024_S_d0_1_2 h_S_) main_v11 main_c_3
  let main_v13 : IVec S_ 1 := andi main_v8 main_v12
  let main_v14 : FVec F S16x1024x2048 .f32 := Host.absf main_arg5
  let main_cst_4 : FVec F S_ .f32 := constant S_ .f32 0x7F800000#32
  let main_v15 : FVec F S16x1024x2048 .f32 := broadcastInDim S16x1024x2048 ![] bcast_S_S16x1024x2048 main_cst_4
  let main_v16 : IVec S16x1024x2048 1 := cmpf .olt main_v14 main_v15
  fn_part1 (F := F) main_arg0 main_arg6 main_arg7 main_v13 main_v16
-- ==== Pre_finite_projection.lean ====
abbrev S4x8192x1024 : Shape := ⟨3, ![4, 8192, 1024]⟩
abbrev S4x1x1024 : Shape := ⟨3, ![4, 1, 1024]⟩
abbrev S1024 : Shape := ⟨1, ![1024]⟩
abbrev S1024x1792 : Shape := ⟨2, ![1024, 1792]⟩
abbrev S64 : Shape := ⟨1, ![64]⟩
abbrev S8192x32 : Shape := ⟨2, ![8192, 32]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x1x1024 : S_.BroadcastsInDim S4x1x1024 (![] : Fin 0 → Fin S4x1x1024.rank)
  reducesTo_S4x1x1024_S_d0_1_2 : S4x1x1024.ReducesTo [0, 1, 2] S_
  bcast_S_S1024 : S_.BroadcastsInDim S1024 (![] : Fin 0 → Fin S1024.rank)
  reducesTo_S1024_S_d0 : S1024.ReducesTo [0] S_
  bcast_S_S1024x1792 : S_.BroadcastsInDim S1024x1792 (![] : Fin 0 → Fin S1024x1792.rank)
  reducesTo_S1024x1792_S_d0_1 : S1024x1792.ReducesTo [0, 1] S_

variable [Facts]

def fn_part1 {F : FTy → Type} [FloatOps F] (main_arg4 : FVec F S1024x1792 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1792 .f32 := Host.absf main_arg4
  let main_cst_6 : FVec F S_ .f32 := constant S_ .f32 0x7F800000#32
  let main_v20 : FVec F S1024x1792 .f32 := broadcastInDim S1024x1792 ![] bcast_S_S1024x1792 main_cst_6
  let main_v21 : IVec S1024x1792 1 := cmpf .olt main_v19 main_v20
  let main_c_7 : IVec S_ 1 := constantI S_ 1 1#1
  let main_v22 : IVec S_ 1 := (fun x v => Host.reduce IntOp.andi x v reducesTo_S1024x1792_S_d0_1 h_S_) main_v21 main_c_7
  let main_v23 : IVec S_ 1 := andi main_v18 main_v22
  main_v23

def fn {F : FTy → Type} [FloatOps F] (main_arg0 : FVec F S4x8192x1024 .f32) (main_arg1 : FVec F S4x1x1024 .f32) (main_arg2 : FVec F S4x1x1024 .f32) (main_arg3 : FVec F S1024 .f32) (main_arg4 : FVec F S1024x1792 .f32) (main_arg5 : FVec F S64 .f32) (main_arg6 : FVec F S64 .f32) (main_arg7 : FVec F S8192x32 .f32) (main_arg8 : FVec F S8192x32 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x1x1024 .f32 := Host.absf main_arg1
  let main_cst_0 : FVec F S_ .f32 := constant S_ .f32 0x7F800000#32
  let main_v5 : FVec F S4x1x1024 .f32 := broadcastInDim S4x1x1024 ![] bcast_S_S4x1x1024 main_cst_0
  let main_v6 : IVec S4x1x1024 1 := cmpf .olt main_v4 main_v5
  let main_c_1 : IVec S_ 1 := constantI S_ 1 1#1
  let main_v7 : IVec S_ 1 := (fun x v => Host.reduce IntOp.andi x v reducesTo_S4x1x1024_S_d0_1_2 h_S_) main_v6 main_c_1
  let main_v8 : IVec S_ 1 := andi main_v3 main_v7
  let main_v9 : FVec F S4x1x1024 .f32 := Host.absf main_arg2
  let main_cst_2 : FVec F S_ .f32 := constant S_ .f32 0x7F800000#32
  let main_v10 : FVec F S4x1x1024 .f32 := broadcastInDim S4x1x1024 ![] bcast_S_S4x1x1024 main_cst_2
  let main_v11 : IVec S4x1x1024 1 := cmpf .olt main_v9 main_v10
  let main_c_3 : IVec S_ 1 := constantI S_ 1 1#1
  let main_v12 : IVec S_ 1 := (fun x v => Host.reduce IntOp.andi x v reducesTo_S4x1x1024_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_finite_scores.lean ====
abbrev S4x8192x8x64 : Shape := ⟨4, ![4, 8192, 8, 64]⟩
abbrev S4x8192x2x64 : Shape := ⟨4, ![4, 8192, 2, 64]⟩
abbrev S4x256x2x64 : Shape := ⟨4, ![4, 256, 2, 64]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x2x64 : S_.BroadcastsInDim S4x8192x2x64 (![] : Fin 0 → Fin S4x8192x2x64.rank)
  reducesTo_S4x8192x2x64_S_d0_1_2_3 : S4x8192x2x64.ReducesTo [0, 1, 2, 3] S_
  bcast_S_S4x256x2x64 : S_.BroadcastsInDim S4x256x2x64 (![] : Fin 0 → Fin S4x256x2x64.rank)
  reducesTo_S4x256x2x64_S_d0_1_2_3 : S4x256x2x64.ReducesTo [0, 1, 2, 3] S_

variable [Facts]

def fn {F : FTy → Type} [FloatOps F] (main_arg0 : FVec F S4x8192x8x64 .f32) (main_arg1 : FVec F S4x8192x2x64 .f32) (main_arg2 : FVec F S4x8192x2x64 .f32) (main_arg3 : FVec F S4x256x2x64 .f32) (main_arg4 : FVec F S4x256x2x64 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x2x64 .f32 := Host.absf main_arg1
  let main_cst_0 : FVec F S_ .f32 := constant S_ .f32 0x7F800000#32
  let main_v5 : FVec F S4x8192x2x64 .f32 := broadcastInDim S4x8192x2x64 ![] bcast_S_S4x8192x2x64 main_cst_0
  let main_v6 : IVec S4x8192x2x64 1 := cmpf .olt main_v4 main_v5
  let main_c_1 : IVec S_ 1 := constantI S_ 1 1#1
  let main_v7 : IVec S_ 1 := (fun x v => Host.reduce IntOp.andi x v reducesTo_S4x8192x2x64_S_d0_1_2_3 h_S_) main_v6 main_c_1
  let main_v8 : IVec S_ 1 := andi main_v3 main_v7
  let main_v9 : FVec F S4x256x2x64 .f32 := Host.absf main_arg3
  let main_cst_2 : FVec F S_ .f32 := constant S_ .f32 0x7F800000#32
  let main_v10 : FVec F S4x256x2x64 .f32 := broadcastInDim S4x256x2x64 ![] bcast_S_S4x256x2x64 main_cst_2
  let main_v11 : IVec S4x256x2x64 1 := cmpf .olt main_v9 main_v10
  let main_c_3 : IVec S_ 1 := constantI S_ 1 1#1
  let main_v12 : IVec S_ 1 := (fun x v => Host.reduce IntOp.andi x v reducesTo_S4x256x2x64_S_d0_1_2_3 h_S_) main_v11 main_c_3
  let main_v13 : IVec S_ 1 := andi main_v8 main_v12
  main_v13
-- ==== Pre_finite_states.lean ====
abbrev S4x8192x1024 : Shape := ⟨3, ![4, 8192, 1024]⟩
abbrev S4x1x1024 : Shape := ⟨3, ![4, 1, 1024]⟩
abbrev S4x8192x16x64 : Shape := ⟨4, ![4, 8192, 16, 64]⟩
abbrev S1024 : Shape := ⟨1, ![1024]⟩
abbrev S1024x1024 : Shape := ⟨2, ![1024, 1024]⟩
abbrev S_ : Shape := ⟨0, ![]⟩

class Facts : Prop where
  bcast_S_S4x8192x16x64 : S_.BroadcastsInDim S4x8192x16x64 (![] : Fin 0 → Fin S4x8192x16x64.rank)
  reducesTo_S4x8192x16x64_S_d0_1_2_3 : S4x8192x16x64.ReducesTo [0, 1, 2, 3] S_
  h_S_ : 0 < S_.numel

variable [Facts]

def fn {F : FTy → Type} [FloatOps F] (main_arg0 : FVec F S4x8192x1024 .f32) (main_arg1 : FVec F S4x1x1024 .f32) (main_arg2 : FVec F S4x8192x16x64 .f32) (main_arg3 : FVec F S4x8192x16x64 .f32) (main_arg4 : FVec F S4x8192x16x64 .f32) (main_arg5 : FVec F S4x8192x1024 .f32) (main_arg6 : FVec F S1024 .f32) (main_arg7 : FVec F S1024 .f32) (main_arg8 : FVec F S1024x1024 .f32) : IVec S_ 1 :=
  let main_v0 : FVec F S4x8192x16x64 .f32 := Host.absf main_arg2
  let main_cst : FVec F S_ .f32 := constant S_ .f32 0x7F800000#32
  let main_v1 : FVec F S4x8192x16x64 .f32 := broadcastInDim S4x8192x16x64 ![] bcast_S_S4x8192x16x64 main_cst
  let main_v2 : IVec S4x8192x16x64 1 := cmpf .olt main_v0 main_v1
  let main_c : IVec S_ 1 := constantI S_ 1 1#1
  let main_v3 : IVec S_ 1 := (fun x v => Host.reduce IntOp.andi x v reducesTo_S4x8192x16x64_S_d0_1_2_3 h_S_) main_v2 main_c
  let main_v4 : FVec F S4x8192x16x64 .f32 := Host.absf main_arg3
  let main_cst_0 : FVec F S_ .f32 := constant S_ .f32 0x7F800000#32
  let main_v5 : FVec F S4x8192x16x64 .f32 := broadcastInDim S4x8192x16x64 ![] bcast_S_S4x8192x16x64 main_cst_0
  let main_v6 : IVec S4x8192x16x64 1 := cmpf .olt main_v4 main_v5
  let main_c_1 : IVec S_ 1 := constantI S_ 1 1#1
  let main_v7 : IVec S_ 1 := (fun x v => Host.reduce IntOp.andi x v reducesTo_S4x8192x16x64_S_d0_1_2_3 h_S_) main_v6 main_c_1
  let main_v8 : IVec S_ 1 := andi main_v3 main_v7
  main_v8
-- ==== Kernel.lean ====
abbrev S4x16x1024 : Shape := ⟨3, ![4, 16, 1024]⟩
abbrev S4x8192x1024 : Shape := ⟨3, ![4, 8192, 1024]⟩
abbrev S4x8192x16 : Shape := ⟨3, ![4, 8192, 16]⟩
abbrev S4x1x1024 : Shape := ⟨3, ![4, 1, 1024]⟩
abbrev S16x1024x2048 : Shape := ⟨3, ![16, 1024, 2048]⟩
abbrev S16x2048x1024 : Shape := ⟨3, ![16, 2048, 1024]⟩
abbrev S_ : Shape := ⟨0, ![]⟩
abbrev S4x8192x128 : Shape := ⟨3, ![4, 8192, 128]⟩
abbrev S4x8192x1152 : Shape := ⟨3, ![4, 8192, 1152]⟩
abbrev S4x16x1x1024 : Shape := ⟨4, ![4, 16, 1, 1024]⟩
abbrev S1x1x1x1024 : Shape := ⟨4, ![1, 1, 1, 1024]⟩
abbrev S1x1x1024 : Shape := ⟨3, ![1, 1, 1024]⟩
abbrev S1x1024x2048 : Shape := ⟨3, ![1, 1024, 2048]⟩
abbrev S1x2048x1024 : Shape := ⟨3, ![1, 2048, 1024]⟩
abbrev S1024x1152 : Shape := ⟨2, ![1024, 1152]⟩
abbrev S1024x1024 : Shape := ⟨2, ![1024, 1024]⟩
abbrev S3 : Shape := ⟨1, ![3]⟩
abbrev S1x1x1x1 : Shape := ⟨4, ![1, 1, 1, 1]⟩
abbrev S1 : Shape := ⟨1, ![1]⟩
abbrev S1x1152 : Shape := ⟨2, ![1, 1152]⟩
abbrev S1x1x1152 : Shape := ⟨3, ![1, 1, 1152]⟩
abbrev S1x1024 : Shape := ⟨2, ![1, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 17
  | .vmem => 10
  | .smem => 2
  | _ => 0

abbrev bufTy : (tb : Table) → Fin (tcTables nBuf tb) → BufTy
  | .hbm, ⟨0, _⟩ => ⟨S4x16x1024, .i32⟩
  | .hbm, ⟨1, _⟩ => ⟨S4x8192x1024, .f32⟩
  | .hbm, ⟨2, _⟩ => ⟨S4x8192x16, .f32⟩
  | .hbm, ⟨3, _⟩ => ⟨S4x8192x1024, .f32⟩
  | .hbm, ⟨4, _⟩ => ⟨S4x1x1024, .f32⟩
  | .hbm, ⟨5, _⟩ => ⟨S16x1024x2048, .f32⟩
  | .hbm, ⟨6, _⟩ => ⟨S16x1024x2048, .f32⟩
  | .hbm, ⟨7, _⟩ => ⟨S16x2048x1024, .f32⟩
  | .hbm, ⟨8, _⟩ => ⟨S_, .i32⟩
  | .hbm, ⟨9, _⟩ => ⟨S_, .f32⟩
  | .hbm, ⟨10, _⟩ => ⟨S4x8192x128, .f32⟩
  | .hbm, ⟨11, _⟩ => ⟨S4x8192x1152, .f32⟩
  | .hbm, ⟨12, _⟩ => ⟨S16x1024x2048, .bf16⟩
  | .hbm, ⟨13, _⟩ => ⟨S16x1024x2048, .bf16⟩
  | .hbm, ⟨14, _⟩ => ⟨S16x2048x1024, .bf16⟩
  | .hbm, ⟨15, _⟩ => ⟨S4x16x1x1024, .i32⟩
  | .hbm, ⟨16, _⟩ => ⟨S4x8192x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1024x1152, .f32⟩
  | .local _ .vmem, ⟨9, _⟩ => ⟨S1024x1024, .f32⟩
  | .local _ .smem, ⟨0, _⟩ => ⟨S1x1x1x1024, .i32⟩
  | .local _ .smem, ⟨1, _⟩ => ⟨S1x1x1x1024, .i32⟩
  | _, _ => ⟨S4x16x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c1024_i32 : BitVec 32 := 1024#32
  let v0 : BitVec 32 := Scalar.addi c0_i32 c1024_i32
  let c1_i32 : BitVec 32 := 1#32
  ⟨c0_i32, v0, c1_i32⟩
def k0_off1 (k0_t1 : Fin k0_t1_loop.trips) : Fin 4 → Nat :=
  let c0_78 : Index := 0#32
  let c0_79 : Index := 0#32
  let c0_80 : Index := 0#32
  let c0_i32 : BitVec 32 := 0#32
  let c1_i32 : BitVec 32 := 1#32
  let arg13 : BitVec 32 := Scf.iv c0_i32 c1_i32 k0_t1
  let v84 : Index := Scalar.indexCast arg13
  ![0, 0, 0, v84.toNat]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c0_i32_82 : BitVec 32 := 0#32
  ![arg13.toNat, 0]
def k0_off3 (i : grid0.Coords) (v85 : BitVec 32) : Fin 3 → Nat :=
  let arg1 : BitVec 32 := BitVec.ofNat 32 (i 1).val
  let c0_i32_83 : BitVec 32 := 0#32
  ![arg1.toNat, v85.toNat, 0]

def k0_chk1 (i : grid0.Coords) (v85 : BitVec 32) : Prop :=
  (∀ a, (k0_off3 i v85) a + S1x1x1152.size a ≤ S4x8192x1152.size a)
theorem k0_off3_inb : ∀ (i : grid0.Coords) (v85 : BitVec 32) (k0_hw1 : k0_chk1 i v85), ∀ a, (k0_off3 i v85) a + S1x1x1152.size a ≤ S4x8192x1152.size a := fun i v85 k0_hw1 => k0_hw1

@[reducible] def k0_t2_loop : Scf.Loop 32 :=
  let c0_i32_1 : BitVec 32 := 0#32
  let c1024_i32_2 : BitVec 32 := 1024#32
  let v1 : BitVec 32 := Scalar.addi c0_i32_1 c1024_i32_2
  let c1_i32_3 : BitVec 32 := 1#32
  ⟨c0_i32_1, v1, c1_i32_3⟩
def k0_off4 (k0_t2 : Fin k0_t2_loop.trips) : Fin 4 → Nat :=
  let c0_78 : Index := 0#32
  let c0_79 : Index := 0#32
  let c0_80 : Index := 0#32
  let c0_i32_1 : BitVec 32 := 0#32
  let c1_i32_3 : BitVec 32 := 1#32
  let arg13 : BitVec 32 := Scf.iv c0_i32_1 c1_i32_3 k0_t2
  let v84 : Index := Scalar.indexCast arg13
  ![0, 0, 0, v84.toNat]
def k0_off5 (k0_t2 : Fin k0_t2_loop.trips) : Fin 2 → Nat :=
  let c0_i32_1 : BitVec 32 := 0#32
  let c1_i32_3 : BitVec 32 := 1#32
  let arg13 : BitVec 32 := Scf.iv c0_i32_1 c1_i32_3 k0_t2
  let c0_i32_82 : BitVec 32 := 0#32
  ![arg13.toNat, 0]
def k0_off6 (i : grid0.Coords) (v85 : BitVec 32) : Fin 3 → Nat :=
  let arg1 : BitVec 32 := BitVec.ofNat 32 (i 1).val
  let c0_i32_83 : BitVec 32 := 0#32
  ![arg1.toNat, v85.toNat, 0]

def k0_chk2 (i : grid0.Coords) (v85 : BitVec 32) : Prop :=
  (∀ a, (k0_off6 i v85) a + S1x1x1024.size a ≤ S4x8192x1024.size a)
theorem k0_off6_inb : ∀ (i : grid0.Coords) (v85 : BitVec 32) (k0_hw2 : k0_chk2 i v85), ∀ a, (k0_off6 i v85) a + S1x1x1024.size a ≤ S4x8192x1024.size a := fun i v85 k0_hw2 => k0_hw2

@[reducible] def k0_t3_loop : Scf.Loop 32 :=
  let c0_i32_5 : BitVec 32 := 0#32
  let c1024_i32_6 : BitVec 32 := 1024#32
  let v2 : BitVec 32 := Scalar.addi c0_i32_5 c1024_i32_6
  let c1_i32_7 : BitVec 32 := 1#32
  ⟨c0_i32_5, v2, c1_i32_7⟩
def k0_off7 (k0_t3 : Fin k0_t3_loop.trips) : Fin 4 → Nat :=
  let c0_78 : Index := 0#32
  let c0_79 : Index := 0#32
  let c0_80 : Index := 0#32
  let c0_i32_5 : BitVec 32 := 0#32
  let c1_i32_7 : BitVec 32 := 1#32
  let arg13 : BitVec 32 := Scf.iv c0_i32_5 c1_i32_7 k0_t3
  let v84 : Index := Scalar.indexCast arg13
  ![0, 0, 0, v84.toNat]
def k0_off8 (k0_t3 : Fin k0_t3_loop.trips) : Fin 2 → Nat :=
  let c0_i32_5 : BitVec 32 := 0#32
  let c1_i32_7 : BitVec 32 := 1#32
  let arg13 : BitVec 32 := Scf.iv c0_i32_5 c1_i32_7 k0_t3
  let c0_i32_82 : BitVec 32 := 0#32
  ![arg13.toNat, 0]
def k0_off9 (i : grid0.Coords) (v85 : BitVec 32) : Fin 3 → Nat :=
  let arg1 : BitVec 32 := BitVec.ofNat 32 (i 1).val
  let c0_i32_83 : BitVec 32 := 0#32
  ![arg1.toNat, v85.toNat, 0]

def k0_chk3 (i : grid0.Coords) (v85 : BitVec 32) : Prop :=
  (∀ a, (k0_off9 i v85) a + S1x1x1152.size a ≤ S4x8192x1152.size a)
theorem k0_off9_inb : ∀ (i : grid0.Coords) (v85 : BitVec 32) (k0_hw3 : k0_chk3 i v85), ∀ a, (k0_off9 i v85) a + S1x1x1152.size a ≤ S4x8192x1152.size a := fun i v85 k0_hw3 => k0_hw3

@[reducible] def k0_t4_loop : Scf.Loop 32 :=
  let c0_i32_59 : BitVec 32 := 0#32
  let c1024_i32_60 : BitVec 32 := 1024#32
  let v70 : BitVec 32 := Scalar.addi c0_i32_59 c1024_i32_60
  let c1_i32_61 : BitVec 32 := 1#32
  ⟨c0_i32_59, v70, c1_i32_61⟩
def k0_off10 (k0_t4 : Fin k0_t4_loop.trips) : Fin 4 → Nat :=
  let c0_78 : Index := 0#32
  let c0_79 : Index := 0#32
  let c0_80 : Index := 0#32
  let c0_i32_59 : BitVec 32 := 0#32
  let c1_i32_61 : BitVec 32 := 1#32
  let arg13 : BitVec 32 := Scf.iv c0_i32_59 c1_i32_61 k0_t4
  let v84 : Index := Scalar.indexCast arg13
  ![0, 0, 0, v84.toNat]
def k0_off11 (k0_t4 : Fin k0_t4_loop.trips) : Fin 2 → Nat :=
  let c0_i32_59 : BitVec 32 := 0#32
  let c1_i32_61 : BitVec 32 := 1#32
  let arg13 : BitVec 32 := Scf.iv c0_i32_59 c1_i32_61 k0_t4
  let c0_i32_82 : BitVec 32 := 0#32
  ![arg13.toNat, 0]
def k0_off12 (i : grid0.Coords) (v85 : BitVec 32) : Fin 3 → Nat :=
  let arg1 : BitVec 32 := BitVec.ofNat 32 (i 1).val
  let c0_i32_83 : BitVec 32 := 0#32
  ![arg1.toNat, v85.toNat, 0]

def k0_chk4 (i : grid0.Coords) (v85 : BitVec 32) : Prop :=
  (∀ a, (k0_off12 i v85) a + S1x1x1024.size a ≤ S4x8192x1024.size a)
theorem k0_off12_inb : ∀ (i : grid0.Coords) (v85 : BitVec 32) (k0_hw4 : k0_chk4 i v85), ∀ a, (k0_off12 i v85) a + S1x1x1024.size a ≤ S4x8192x1024.size a := fun i v85 k0_hw4 => k0_hw4

@[reducible] def k0_t5_loop : Scf.Loop 32 :=
  let c0_i32_70 : BitVec 32 := 0#32
  let c1024_i32_71 : BitVec 32 := 1024#32
  let v82 : BitVec 32 := Scalar.addi c0_i32_70 c1024_i32_71
  let c1_i32_72 : BitVec 32 := 1#32
  ⟨c0_i32_70, v82, c1_i32_72⟩
def k0_off13 (k0_t5 : Fin k0_t5_loop.trips) : Fin 4 → Nat :=
  let c0_78 : Index := 0#32
  let c0_79 : Index := 0#32
  let c0_80 : Index := 0#32
  let c0_i32_70 : BitVec 32 := 0#32
  let c1_i32_72 : BitVec 32 := 1#32
  let arg13 : BitVec 32 := Scf.iv c0_i32_70 c1_i32_72 k0_t5
  let v84 : Index := Scalar.indexCast arg13
  ![0, 0, 0, v84.toNat]
def k0_off14 (i : grid0.Coords) (v85 : BitVec 32) : Fin 3 → Nat :=
  let arg1 : BitVec 32 := BitVec.ofNat 32 (i 1).val
  let c0_i32_81 : BitVec 32 := 0#32
  ![arg1.toNat, v85.toNat, 0]

def k0_chk5 (i : grid0.Coords) (v85 : BitVec 32) : Prop :=
  (∀ a, (k0_off14 i v85) a + S1x1x1024.size a ≤ S4x8192x1024.size a)
theorem k0_off14_inb : ∀ (i : grid0.Coords) (v85 : BitVec 32) (k0_hw5 : k0_chk5 i v85), ∀ a, (k0_off14 i v85) a + S1x1x1024.size a ≤ S4x8192x1024.size a := fun i v85 k0_hw5 => k0_hw5

def k0_off15 (k0_t5 : Fin k0_t5_loop.trips) : Fin 2 → Nat :=
  let c0_i32_70 : BitVec 32 := 0#32
  let c1_i32_72 : BitVec 32 := 1#32
  let arg13 : BitVec 32 := Scf.iv c0_i32_70 c1_i32_72 k0_t5
  let c0_i32_82 : BitVec 32 := 0#32
  ![arg13.toNat, 0]
@[reducible] def k0_t6_loop : Scf.Loop 32 :=
  let c0_i32_74 : BitVec 32 := 0#32
  let c1024_i32_75 : BitVec 32 := 1024#32
  let v83 : BitVec 32 := Scalar.addi c0_i32_74 c1024_i32_75
  let c1_i32_76 : BitVec 32 := 1#32
  ⟨c0_i32_74, v83, c1_i32_76⟩
def k0_off16 (k0_t6 : Fin k0_t6_loop.trips) : Fin 4 → Nat :=
  let c0_78 : Index := 0#32
  let c0_79 : Index := 0#32
  let c0_80 : Index := 0#32
  let c0_i32_74 : BitVec 32 := 0#32
  let c1_i32_76 : BitVec 32 := 1#32
  let arg13 : BitVec 32 := Scf.iv c0_i32_74 c1_i32_76 k0_t6
  let v84 : Index := Scalar.indexCast arg13
  ![0, 0, 0, v84.toNat]
def k0_off17 (i : grid0.Coords) (v85 : BitVec 32) : Fin 3 → Nat :=
  let arg1 : BitVec 32 := BitVec.ofNat 32 (i 1).val
  let c0_i32_81 : BitVec 32 := 0#32
  ![arg1.toNat, v85.toNat, 0]

def k0_chk6 (i : grid0.Coords) (v85 : BitVec 32) : Prop :=
  (∀ a, (k0_off17 i v85) a + S1x1x1024.size a ≤ S4x8192x1024.size a)
theorem k0_off17_inb : ∀ (i : grid0.Coords) (v85 : BitVec 32) (k0_hw6 : k0_chk6 i v85), ∀ a, (k0_off17 i v85) a + S1x1x1024.size a ≤ S4x8192x1024.size a := fun i v85 k0_hw6 => k0_hw6

def k0_off18 (k0_t6 : Fin k0_t6_loop.trips) : Fin 2 → Nat :=
  let c0_i32_74 : BitVec 32 := 0#32
  let c1_i32_76 : BitVec 32 := 1#32
  let arg13 : BitVec 32 := Scf.iv c0_i32_74 c1_i32_76 k0_t6
  let c0_i32_82 : BitVec 32 := 0#32
  ![arg13.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4x16x1024 : Shape := ⟨3, ![4, 16, 1024]⟩
abbrev S4x8192x1024 : Shape := ⟨3, ![4, 8192, 1024]⟩
abbrev S4x8192x16 : Shape := ⟨3, ![4, 8192, 16]⟩
abbrev S4x1x1024 : Shape := ⟨3, ![4, 1, 1024]⟩
abbrev S16x1024x2048 : Shape := ⟨3, ![16, 1024, 2048]⟩
abbrev S16x2048x1024 : Shape := ⟨3, ![16, 2048, 1024]⟩
abbrev S4 : Shape := ⟨1, ![4]⟩
abbrev S4x1x1 : Shape := ⟨3, ![4, 1, 1]⟩
abbrev S_ : Shape := ⟨0, ![]⟩
abbrev S4x16x1024x1 : Shape := ⟨4, ![4, 16, 1024, 1]⟩
abbrev S4x16x1024x2 : Shape := ⟨4, ![4, 16, 1024, 2]⟩
abbrev S4x16x1024x1024 : Shape := ⟨4, ![4, 16, 1024, 1024]⟩
abbrev S16 : Shape := ⟨1, ![16]⟩
abbrev S1x16x1 : Shape := ⟨3, ![1, 16, 1]⟩
abbrev S4x16x1024x3 : Shape := ⟨4, ![4, 16, 1024, 3]⟩
abbrev S16x2048x4x1024 : Shape := ⟨4, ![16, 2048, 4, 1024]⟩
abbrev S4x16x1024x2048 : Shape := ⟨4, ![4, 16, 1024, 2048]⟩
abbrev S16x1024x4x1024 : Shape := ⟨4, ![16, 1024, 4, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4x16x1024, .i32⟩
  | .hbm, ⟨1, _⟩ => ⟨S4x8192x1024, .f32⟩
  | .hbm, ⟨2, _⟩ => ⟨S4x8192x16, .f32⟩
  | .hbm, ⟨3, _⟩ => ⟨S4x8192x1024, .f32⟩
  | .hbm, ⟨4, _⟩ => ⟨S4x1x1024, .f32⟩
  | .hbm, ⟨5, _⟩ => ⟨S16x1024x2048, .f32⟩
  | .hbm, ⟨6, _⟩ => ⟨S16x1024x2048, .f32⟩
  | .hbm, ⟨7, _⟩ => ⟨S16x2048x1024, .f32⟩
  | .hbm, ⟨8, _⟩ => ⟨S4, .i32⟩
  | .hbm, ⟨9, _⟩ => ⟨S4x1x1, .i32⟩
  | .hbm, ⟨10, _⟩ => ⟨S_, .i32⟩
  | .hbm, ⟨11, _⟩ => ⟨S4x1x1, .i32⟩
  | .hbm, ⟨12, _⟩ => ⟨S4x1x1, .i1⟩
  | .hbm, ⟨13, _⟩ => ⟨S_, .i32⟩
  | .hbm, ⟨14, _⟩ => ⟨S4x1x1, .i32⟩
  | .hbm, ⟨15, _⟩ => ⟨S4x1x1, .i32⟩
  | .hbm, ⟨16, _⟩ => ⟨S4x1x1, .i32⟩
  | .hbm, ⟨17, _⟩ => ⟨S_, .i32⟩
  | .hbm, ⟨18, _⟩ => ⟨S4x16x1024, .i32⟩
  | .hbm, ⟨19, _⟩ => ⟨S4x16x1024, .i1⟩
  | .hbm, ⟨20, _⟩ => ⟨S_, .i32⟩
  | .hbm, ⟨21, _⟩ => ⟨S4x16x1024, .i32⟩
  | .hbm, ⟨22, _⟩ => ⟨S4x16x1024, .i32⟩
  | .hbm, ⟨23, _⟩ => ⟨S4x16x1024, .i32⟩
  | .hbm, ⟨24, _⟩ => ⟨S4x16x1024, .i32⟩
  | .hbm, ⟨25, _⟩ => ⟨S4x16x1024x1, .i32⟩
  | .hbm, ⟨26, _⟩ => ⟨S4x16x1024x1, .i32⟩
  | .hbm, ⟨27, _⟩ => ⟨S4x16x1024x2, .i32⟩
  | .hbm, ⟨28, _⟩ => ⟨S4x16x1024x1024, .f32⟩
  | .hbm, ⟨29, _⟩ => ⟨S16, .i32⟩
  | .hbm, ⟨30, _⟩ => ⟨S1x16x1, .i32⟩
  | .hbm, ⟨31, _⟩ => ⟨S_, .i32⟩
  | .hbm, ⟨32, _⟩ => ⟨S4x1x1, .i32⟩
  | .hbm, ⟨33, _⟩ => ⟨S4x1x1, .i1⟩
  | .hbm, ⟨34, _⟩ => ⟨S_, .i32⟩
  | .hbm, ⟨35, _⟩ => ⟨S4x1x1, .i32⟩
  | .hbm, ⟨36, _⟩ => ⟨S4x1x1, .i32⟩
  | .hbm, ⟨37, _⟩ => ⟨S4x1x1, .i32⟩
  | .hbm, ⟨38, _⟩ => ⟨S_, .i32⟩
  | .hbm, ⟨39, _⟩ => ⟨S4x16x1024, .i32⟩
  | .hbm, ⟨40, _⟩ => ⟨S4x16x1024, .i1⟩
  | .hbm, ⟨41, _⟩ => ⟨S_, .i32⟩
  | .hbm, ⟨42, _⟩ => ⟨S4x16x1024, .i32⟩
  | .hbm, ⟨43, _⟩ => ⟨S4x16x1024, .i32⟩
  | .hbm, ⟨44, _⟩ => ⟨S4x16x1024, .i32⟩
  | .hbm, ⟨45, _⟩ => ⟨S_, .i32⟩
  | .hbm, ⟨46, _⟩ => ⟨S1x16x1, .i32⟩
  | .hbm, ⟨47, _⟩ => ⟨S1x16x1, .i1⟩
  | .hbm, ⟨48, _⟩ => ⟨S_, .i32⟩
  | .hbm, ⟨49, _⟩ => ⟨S1x16x1, .i32⟩
  | .hbm, ⟨50, _⟩ => ⟨S1x16x1, .i32⟩
  | .hbm, ⟨51, _⟩ => ⟨S1x16x1, .i32⟩
  | .hbm, ⟨52, _⟩ => ⟨S4x16x1024, .i32⟩
  | .hbm, ⟨53, _⟩ => ⟨S4x16x1024, .i32⟩
  | .hbm, ⟨54, _⟩ => ⟨S4x16x1024x1, .i32⟩
  | .hbm, ⟨55, _⟩ => ⟨S4x16x1024x1, .i32⟩
  | .hbm, ⟨56, _⟩ => ⟨S4x16x1024x1, .i32⟩
  | .hbm, ⟨57, _⟩ => ⟨S4x16x1024x3, .i32⟩
  | .hbm, ⟨58, _⟩ => ⟨S4x16x1024, .f32⟩
  | .hbm, ⟨59, _⟩ => ⟨S16x2048x4x1024, .f32⟩
  | .hbm, ⟨60, _⟩ => ⟨S4x16x1024x2048, .f32⟩
  | .hbm, ⟨61, _⟩ => ⟨S4x16x1024x2048, .f32⟩
  | .hbm, ⟨62, _⟩ => ⟨S4x16x1024x2048, .f32⟩
  | .hbm, ⟨63, _⟩ => ⟨S_, .f32⟩
  | .hbm, ⟨64, _⟩ => ⟨S4x16x1024x2048, .f32⟩
  | .hbm, ⟨65, _⟩ => ⟨S4x16x1024x2048, .f32⟩
  | .hbm, ⟨66, _⟩ => ⟨S_, .f32⟩
  | .hbm, ⟨67, _⟩ => ⟨S4x16x1024x2048, .f32⟩
  | .hbm, ⟨68, _⟩ => ⟨S4x16x1024x2048, .f32⟩
  | .hbm, ⟨69, _⟩ => ⟨S4x16x1024x2048, .f32⟩
  | .hbm, ⟨70, _⟩ => ⟨S16x2048x4x1024, .f32⟩
  | .hbm, ⟨71, _⟩ => ⟨S4x16x1024x2048, .f32⟩
  | .hbm, ⟨72, _⟩ => ⟨S4x16x1024x2048, .f32⟩
  | .hbm, ⟨73, _⟩ => ⟨S16x1024x4x1024, .f32⟩
  | .hbm, ⟨74, _⟩ => ⟨S4x16x1024x1024, .f32⟩
  | .hbm, ⟨75, _⟩ => ⟨S4x16x1024x1, .f32⟩
  | .hbm, ⟨76, _⟩ => ⟨S4x16x1024x1024, .f32⟩
  | .hbm, ⟨77, _⟩ => ⟨S4x16x1024x1024, .f32⟩
  | .hbm, ⟨78, _⟩ => ⟨S_, .f32⟩
  | .hbm, ⟨79, _⟩ => ⟨S4x8192x1024, .f32⟩
  | .hbm, ⟨80, _⟩ => ⟨S_, .i32⟩
  | .hbm, ⟨81, _⟩ => ⟨S4x1x1, .i32⟩
  | .hbm, ⟨82, _⟩ => ⟨S4x1x1, .i1⟩
  | .hbm, ⟨83, _⟩ => ⟨S_, .i32⟩
  | .hbm, ⟨84, _⟩ => ⟨S4x1x1, .i32⟩
  | .hbm, ⟨85, _⟩ => ⟨S4x1x1, .i32⟩
  | .hbm, ⟨86, _⟩ => ⟨S4x1x1, .i32⟩
  | .hbm, ⟨87, _⟩ => ⟨S_, .i32⟩
  | .hbm, ⟨88, _⟩ => ⟨S4x16x1024, .i32⟩
  | .hbm, ⟨89, _⟩ => ⟨S4x16x1024, .i1⟩
  | .hbm, ⟨90, _⟩ => ⟨S_, .i32⟩
  | .hbm, ⟨91, _⟩ => ⟨S4x16x1024, .i32⟩
  | .hbm, ⟨92, _⟩ => ⟨S4x16x1024, .i32⟩
  | .hbm, ⟨93, _⟩ => ⟨S4x16x1024, .i32⟩
  | .hbm, ⟨94, _⟩ => ⟨S4x16x1024, .i32⟩
  | .hbm, ⟨95, _⟩ => ⟨S4x16x1024x1, .i32⟩
  | .hbm, ⟨96, _⟩ => ⟨S4x16x1024x1, .i32⟩
  | .hbm, ⟨97, _⟩ => ⟨S4x16x1024x2, .i32⟩
  | .hbm, ⟨98, _⟩ => ⟨S4x8192x1024, .f32⟩
  | .hbm, ⟨99, _⟩ => ⟨S4x8192x1024, .f32⟩
  | .hbm, ⟨100, _⟩ => ⟨S4x8192x1024, .f32⟩
  | .hbm, ⟨101, _⟩ => ⟨S4x8192x1024, .f32⟩
  | _, _ => ⟨S4x16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_c_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩

abbrev nD : Nat := 1
abbrev τ : Topo := Topo.v7x

variable {F : FTy → Type} [FloatOps F]
-- ==== Kernel2.lean ====
abbrev S4x8192x8x64 : Shape := ⟨4, ![4, 8192, 8, 64]⟩
abbrev S4x8192x2x64 : Shape := ⟨4, ![4, 8192, 2, 64]⟩
abbrev S4x256x2x64 : Shape := ⟨4, ![4, 256, 2, 64]⟩
abbrev S4x8192x512 : Shape := ⟨3, ![4, 8192, 512]⟩
abbrev S_ : Shape := ⟨0, ![]⟩
abbrev S4x8192x128 : Shape := ⟨3, ![4, 8192, 128]⟩
abbrev S4x2x64x8192 : Shape := ⟨4, ![4, 2, 64, 8192]⟩
abbrev S4x2x8192x64 : Shape := ⟨4, ![4, 2, 8192, 64]⟩
abbrev S4x256x128 : Shape := ⟨3, ![4, 256, 128]⟩
abbrev S4x2x64x256 : Shape := ⟨4, ![4, 2, 64, 256]⟩
abbrev S4x2x256x64 : Shape := ⟨4, ![4, 2, 256, 64]⟩
abbrev S1x128x256 : Shape := ⟨3, ![1, 128, 256]⟩
abbrev S1x1x64x8192 : Shape := ⟨4, ![1, 1, 64, 8192]⟩
abbrev S1x1x8192x64 : Shape := ⟨4, ![1, 1, 8192, 64]⟩
abbrev S1x1x64x256 : Shape := ⟨4, ![1, 1, 64, 256]⟩
abbrev S1x1x256x64 : Shape := ⟨4, ![1, 1, 256, 64]⟩
abbrev S1x128x64 : Shape := ⟨3, ![1, 128, 64]⟩
abbrev S128x64 : Shape := ⟨2, ![128, 64]⟩
abbrev S64x8192 : Shape := ⟨2, ![64, 8192]⟩
abbrev S128x8192 : Shape := ⟨2, ![128, 8192]⟩
abbrev S64x256 : Shape := ⟨2, ![64, 256]⟩
abbrev S128x256 : Shape := ⟨2, ![128, 256]⟩
abbrev S128 : Shape := ⟨1, ![128]⟩
abbrev S128x1 : Shape := ⟨2, ![128, 1]⟩
abbrev S8192x64 : Shape := ⟨2, ![8192, 64]⟩
abbrev S256x64 : Shape := ⟨2, ![256, 64]⟩

abbrev nBuf : Space → Nat
  | .hbm => 27
  | .vmem => 12
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S4x256x2x64, .f32⟩
  | .hbm, ⟨4, _⟩ => ⟨S4x256x2x64, .f32⟩
  | .hbm, ⟨5, _⟩ => ⟨S4x8192x512, .f32⟩
  | .hbm, ⟨6, _⟩ => ⟨S_, .f32⟩
  | .hbm, ⟨7, _⟩ => ⟨S4x8192x512, .f32⟩
  | .hbm, ⟨8, _⟩ => ⟨S4x8192x512, .f32⟩
  | .hbm, ⟨9, _⟩ => ⟨S4x8192x512, .bf16⟩
  | .hbm, ⟨10, _⟩ => ⟨S4x8192x128, .f32⟩
  | .hbm, ⟨11, _⟩ => ⟨S4x8192x128, .bf16⟩
  | .hbm, ⟨12, _⟩ => ⟨S4x8192x128, .f32⟩
  | .hbm, ⟨13, _⟩ => ⟨S4x8192x128, .bf16⟩
  | .hbm, ⟨14, _⟩ => ⟨S4x8192x2x64, .bf16⟩
  | .hbm, ⟨15, _⟩ => ⟨S4x2x64x8192, .bf16⟩
  | .hbm, ⟨16, _⟩ => ⟨S4x8192x2x64, .bf16⟩
  | .hbm, ⟨17, _⟩ => ⟨S4x2x8192x64, .bf16⟩
  | .hbm, ⟨18, _⟩ => ⟨S4x256x128, .f32⟩
  | .hbm, ⟨19, _⟩ => ⟨S4x256x128, .bf16⟩
  | .hbm, ⟨20, _⟩ => ⟨S4x256x128, .f32⟩
  | .hbm, ⟨21, _⟩ => ⟨S4x256x128, .bf16⟩
  | .hbm, ⟨22, _⟩ => ⟨S4x256x2x64, .bf16⟩
  | .hbm, ⟨23, _⟩ => ⟨S4x2x64x256, .bf16⟩
  | .hbm, ⟨24, _⟩ => ⟨S4x256x2x64, .bf16⟩
  | .hbm, ⟨25, _⟩ => ⟨S4x2x256x64, .bf16⟩
  | .hbm, ⟨26, _⟩ => ⟨S4x8192x512, .bf16⟩
  | .local _ .vmem, ⟨0, _⟩ => ⟨S1x128x256, .bf16⟩
  | .local _ .vmem, ⟨1, _⟩ => ⟨S1x128x256, .bf16⟩
  | .local _ .vmem, ⟨2, _⟩ => ⟨S1x1x64x8192, .bf16⟩
  | .local _ .vmem, ⟨3, _⟩ => ⟨S1x1x64x8192, .bf16⟩
  | .local _ .vmem, ⟨4, _⟩ => ⟨S1x1x8192x64, .bf16⟩
  | .local _ .vmem, ⟨5, _⟩ => ⟨S1x1x8192x64, .bf16⟩
  | .local _ .vmem, ⟨6, _⟩ => ⟨S1x1x64x256, .bf16⟩
  | .local _ .vmem, ⟨7, _⟩ => ⟨S1x1x64x256, .bf16⟩
  | .local _ .vmem, ⟨8, _⟩ => ⟨S1x1x256x64, .bf16⟩
  | .local _ .vmem, ⟨9, _⟩ => ⟨S1x1x256x64, .bf16⟩
  | .local _ .vmem, ⟨10, _⟩ => ⟨S1x128x256, .bf16⟩
  | .local _ .vmem, ⟨11, _⟩ => ⟨S1x128x256, .bf16⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 64], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S4x8192x8x64 : Shape := ⟨4, ![4, 8192, 8, 64]⟩
abbrev S4x8192x2x64 : Shape := ⟨4, ![4, 8192, 2, 64]⟩
abbrev S4x256x2x64 : Shape := ⟨4, ![4, 256, 2, 64]⟩
abbrev S4x8448x2x64 : Shape := ⟨4, ![4, 8448, 2, 64]⟩
abbrev S4x8192x2x4x64 : Shape := ⟨5, ![4, 8192, 2, 4, 64]⟩
abbrev S4x2x4x8192x64 : Shape := ⟨5, ![4, 2, 4, 8192, 64]⟩
abbrev S4x2x4x8192x8448 : Shape := ⟨5, ![4, 2, 4, 8192, 8448]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x8192x512 : Shape := ⟨3, ![4, 8192, 512]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S4x256x2x64, .f32⟩
  | .hbm, ⟨4, _⟩ => ⟨S4x256x2x64, .f32⟩
  | .hbm, ⟨5, _⟩ => ⟨S4x8448x2x64, .f32⟩
  | .hbm, ⟨6, _⟩ => ⟨S4x8448x2x64, .f32⟩
  | .hbm, ⟨7, _⟩ => ⟨S4x8192x2x4x64, .f32⟩
  | .hbm, ⟨8, _⟩ => ⟨S4x2x4x8192x64, .f32⟩
  | .hbm, ⟨9, _⟩ => ⟨S4x2x4x8192x8448, .f32⟩
  | .hbm, ⟨10, _⟩ => ⟨S_, .f32⟩
  | .hbm, ⟨11, _⟩ => ⟨S4x2x4x8192x8448, .f32⟩
  | .hbm, ⟨12, _⟩ => ⟨S4x2x4x8192x8448, .f32⟩
  | .hbm, ⟨13, _⟩ => ⟨S_, .f32⟩
  | .hbm, ⟨14, _⟩ => ⟨S4x2x4x8192, .f32⟩
  | .hbm, ⟨15, _⟩ => ⟨S_, .f32⟩
  | .hbm, ⟨16, _⟩ => ⟨S4x2x4x8192, .f32⟩
  | .hbm, ⟨17, _⟩ => ⟨S4x2x4x8192, .f32⟩
  | .hbm, ⟨18, _⟩ => ⟨S4x2x4x8192x1, .f32⟩
  | .hbm, ⟨19, _⟩ => ⟨S4x2x4x8192x8448, .f32⟩
  | .hbm, ⟨20, _⟩ => ⟨S4x2x4x8192x8448, .f32⟩
  | .hbm, ⟨21, _⟩ => ⟨S4x2x4x8192x8448, .f32⟩
  | .hbm, ⟨22, _⟩ => ⟨S_, .f32⟩
  | .hbm, ⟨23, _⟩ => ⟨S4x2x4x8192, .f32⟩
  | .hbm, ⟨24, _⟩ => ⟨S4x2x4x8192x1, .f32⟩
  | .hbm, ⟨25, _⟩ => ⟨S4x2x4x8192x8448, .f32⟩
  | .hbm, ⟨26, _⟩ => ⟨S4x2x4x8192x8448, .f32⟩
  | .hbm, ⟨27, _⟩ => ⟨S4x2x4x8192x64, .f32⟩
  | .hbm, ⟨28, _⟩ => ⟨S4x8192x2x4x64, .f32⟩
  | .hbm, ⟨29, _⟩ => ⟨S4x8192x512, .f32⟩
  | .hbm, ⟨30, _⟩ => ⟨S4x8192x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x1x1024 : Shape := ⟨3, ![4, 1, 1024]⟩
abbrev S4x8192x512 : Shape := ⟨3, ![4, 8192, 512]⟩
abbrev S1024x1024 : Shape := ⟨2, ![1024, 1024]⟩
abbrev S512x1024 : Shape := ⟨2, ![512, 1024]⟩
abbrev S1x512x1024 : Shape := ⟨3, ![1, 512, 1024]⟩
abbrev S1x1x1024 : Shape := ⟨3, ![1, 1, 1024]⟩
abbrev S1x512x512 : Shape := ⟨3, ![1, 512, 512]⟩
abbrev S512x512 : Shape := ⟨2, ![512, 512]⟩
abbrev S1x1024 : Shape := ⟨2, ![1, 1024]⟩

abbrev nBuf : Space → Nat
  | .hbm => 11
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x8192x512, .f32⟩
  | .hbm, ⟨3, _⟩ => ⟨S4x8192x512, .f32⟩
  | .hbm, ⟨4, _⟩ => ⟨S1024x1024, .f32⟩
  | .hbm, ⟨5, _⟩ => ⟨S1024x1024, .bf16⟩
  | .hbm, ⟨6, _⟩ => ⟨S4x8192x512, .bf16⟩
  | .hbm, ⟨7, _⟩ => ⟨S4x8192x512, .bf16⟩
  | .hbm, ⟨8, _⟩ => ⟨S512x1024, .bf16⟩
  | .hbm, ⟨9, _⟩ => ⟨S512x1024, .bf16⟩
  | .hbm, ⟨10, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S512x1024, .bf16⟩
  | .local _ .vmem, ⟨9, _⟩ => ⟨S512x1024, .bf16⟩
  | .local _ .vmem, ⟨10, _⟩ => ⟨S1x512x1024, .f32⟩
  | .local _ .vmem, ⟨11, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x8192x1024 : Shape := ⟨3, ![4, 8192, 1024]⟩
abbrev S4x1x1024 : Shape := ⟨3, ![4, 1, 1024]⟩
abbrev S4x8192x512 : Shape := ⟨3, ![4, 8192, 512]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x8192x512, .f32⟩
  | .hbm, ⟨3, _⟩ => ⟨S4x8192x512, .f32⟩
  | .hbm, ⟨4, _⟩ => ⟨S1024x1024, .f32⟩
  | .hbm, ⟨5, _⟩ => ⟨S4x8192x1024, .f32⟩
  | .hbm, ⟨6, _⟩ => ⟨S4x8192x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1x1024 : Shape := ⟨3, ![4, 1, 1024]⟩
abbrev S1024 : Shape := ⟨1, ![1024]⟩
abbrev S1024x1792 : Shape := ⟨2, ![1024, 1792]⟩
abbrev S64 : Shape := ⟨1, ![64]⟩
abbrev S8192x32 : Shape := ⟨2, ![8192, 32]⟩
abbrev S2 : Shape := ⟨1, ![2]⟩
abbrev S128x128 : Shape := ⟨2, ![128, 128]⟩
abbrev S1x2 : Shape := ⟨2, ![1, 2]⟩
abbrev S32x2 : Shape := ⟨2, ![32, 2]⟩
abbrev S8192x32x2 : Shape := ⟨3, ![8192, 32, 2]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S1x1024 : Shape := ⟨2, ![1, 1024]⟩
abbrev S4x8192x512 : Shape := ⟨3, ![4, 8192, 512]⟩
abbrev S4x8192x128 : Shape := ⟨3, ![4, 8192, 128]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x128 : Shape := ⟨3, ![1, 512, 128]⟩
abbrev S512x1024 : Shape := ⟨2, ![512, 1024]⟩
abbrev S512x1 : Shape := ⟨2, ![512, 1]⟩
abbrev S512x1792 : Shape := ⟨2, ![512, 1792]⟩
abbrev S512x512 : Shape := ⟨2, ![512, 512]⟩

abbrev nBuf : Space → Nat
  | .hbm => 42
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x1792, .f32⟩
  | .hbm, ⟨5, _⟩ => ⟨S64, .f32⟩
  | .hbm, ⟨6, _⟩ => ⟨S64, .f32⟩
  | .hbm, ⟨7, _⟩ => ⟨S8192x32, .f32⟩
  | .hbm, ⟨8, _⟩ => ⟨S8192x32, .f32⟩
  | .hbm, ⟨9, _⟩ => ⟨S2, .f32⟩
  | .hbm, ⟨10, _⟩ => ⟨S128x128, .bf16⟩
  | .hbm, ⟨11, _⟩ => ⟨S1x2, .f32⟩
  | .hbm, ⟨12, _⟩ => ⟨S32x2, .f32⟩
  | .hbm, ⟨13, _⟩ => ⟨S64, .f32⟩
  | .hbm, ⟨14, _⟩ => ⟨S8192x32x2, .f32⟩
  | .hbm, ⟨15, _⟩ => ⟨S8192x64, .f32⟩
  | .hbm, ⟨16, _⟩ => ⟨S1x8192x1x64, .f32⟩
  | .hbm, ⟨17, _⟩ => ⟨S1x8192x2x64, .f32⟩
  | .hbm, ⟨18, _⟩ => ⟨S8192x128, .f32⟩
  | .hbm, ⟨19, _⟩ => ⟨S8192x32x2, .f32⟩
  | .hbm, ⟨20, _⟩ => ⟨S8192x64, .f32⟩
  | .hbm, ⟨21, _⟩ => ⟨S1x64, .f32⟩
  | .hbm, ⟨22, _⟩ => ⟨S8192x64, .f32⟩
  | .hbm, ⟨23, _⟩ => ⟨S8192x64, .f32⟩
  | .hbm, ⟨24, _⟩ => ⟨S1x8192x1x64, .f32⟩
  | .hbm, ⟨25, _⟩ => ⟨S1x8192x2x64, .f32⟩
  | .hbm, ⟨26, _⟩ => ⟨S8192x128, .f32⟩
  | .hbm, ⟨27, _⟩ => ⟨S1024x1792, .bf16⟩
  | .hbm, ⟨28, _⟩ => ⟨S1x64, .f32⟩
  | .hbm, ⟨29, _⟩ => ⟨S8x64, .f32⟩
  | .hbm, ⟨30, _⟩ => ⟨S512, .f32⟩
  | .hbm, ⟨31, _⟩ => ⟨S1x512, .f32⟩
  | .hbm, ⟨32, _⟩ => ⟨S1x64, .f32⟩
  | .hbm, ⟨33, _⟩ => ⟨S2x64, .f32⟩
  | .hbm, ⟨34, _⟩ => ⟨S128, .f32⟩
  | .hbm, ⟨35, _⟩ => ⟨S1x128, .f32⟩
  | .hbm, ⟨36, _⟩ => ⟨S1x1024, .f32⟩
  | .hbm, ⟨37, _⟩ => ⟨S4x8192x512, .f32⟩
  | .hbm, ⟨38, _⟩ => ⟨S4x8192x512, .f32⟩
  | .hbm, ⟨39, _⟩ => ⟨S4x8192x512, .bf16⟩
  | .hbm, ⟨40, _⟩ => ⟨S4x8192x128, .bf16⟩
  | .hbm, ⟨41, _⟩ => ⟨S4x8192x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1792, .bf16⟩
  | .local _ .vmem, ⟨8, _⟩ => ⟨S1x512, .f32⟩
  | .local _ .vmem, ⟨9, _⟩ => ⟨S1x128, .f32⟩
  | .local _ .vmem, ⟨10, _⟩ => ⟨S128x128, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .bf16⟩
  | .local _ .vmem, ⟨20, _⟩ => ⟨S1x512x512, .bf16⟩
  | .local _ .vmem, ⟨21, _⟩ => ⟨S1x512x128, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x128, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev main_v26_3 : Ref sig .tc := ⟨.hbm, 40, rfl⟩
abbrev main_v26_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S4x8192x1024 : Shape := ⟨3, ![4, 8192, 1024]⟩
abbrev S4x1x1024 : Shape := ⟨3, ![4, 1, 1024]⟩
abbrev S1024 : Shape := ⟨1, ![1024]⟩
abbrev S1024x1792 : Shape := ⟨2, ![1024, 1792]⟩
abbrev S64 : Shape := ⟨1, ![64]⟩
abbrev S8192x32 : Shape := ⟨2, ![8192, 32]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1792 : Shape := ⟨3, ![4, 8192, 1792]⟩
abbrev S4x8192x512 : Shape := ⟨3, ![4, 8192, 512]⟩
abbrev S4x8192x128 : Shape := ⟨3, ![4, 8192, 128]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x8x32 : Shape := ⟨4, ![4, 8192, 8, 32]⟩
abbrev S1x8192x1x32 : Shape := ⟨4, ![1, 8192, 1, 32]⟩
abbrev S4x8192x8x32x1 : Shape := ⟨5, ![4, 8192, 8, 32, 1]⟩
abbrev S4x8192x8x32x2 : Shape := ⟨5, ![4, 8192, 8, 32, 2]⟩
abbrev S4x8192x2x64 : Shape := ⟨4, ![4, 8192, 2, 64]⟩
abbrev S4x8192x2 : Shape := ⟨3, ![4, 8192, 2]⟩
abbrev S4x8192x2x1 : Shape := ⟨4, ![4, 8192, 2, 1]⟩
abbrev S4x8192x2x32 : Shape := ⟨4, ![4, 8192, 2, 32]⟩
abbrev S4x8192x2x32x1 : Shape := ⟨5, ![4, 8192, 2, 32, 1]⟩
abbrev S4x8192x2x32x2 : Shape := ⟨5, ![4, 8192, 2, 32, 2]⟩

abbrev nBuf : Space → Nat
  | .hbm => 116
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x1792, .f32⟩
  | .hbm, ⟨5, _⟩ => ⟨S64, .f32⟩
  | .hbm, ⟨6, _⟩ => ⟨S64, .f32⟩
  | .hbm, ⟨7, _⟩ => ⟨S8192x32, .f32⟩
  | .hbm, ⟨8, _⟩ => ⟨S8192x32, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1792, .f32⟩
  | .hbm, ⟨33, _⟩ => ⟨S4x8192x512, .f32⟩
  | .hbm, ⟨34, _⟩ => ⟨S4x8192x512, .f32⟩
  | .hbm, ⟨35, _⟩ => ⟨S4x8192x512, .f32⟩
  | .hbm, ⟨36, _⟩ => ⟨S4x8192x128, .f32⟩
  | .hbm, ⟨37, _⟩ => ⟨S4x8192x128, .f32⟩
  | .hbm, ⟨38, _⟩ => ⟨S4x8192x8x64, .f32⟩
  | .hbm, ⟨39, _⟩ => ⟨S4x8192x8x64, .f32⟩
  | .hbm, ⟨40, _⟩ => ⟨S_, .f32⟩
  | .hbm, ⟨41, _⟩ => ⟨S4x8192x8, .f32⟩
  | .hbm, ⟨42, _⟩ => ⟨S4x8192x8x1, .f32⟩
  | .hbm, ⟨43, _⟩ => ⟨S_, .f32⟩
  | .hbm, ⟨44, _⟩ => ⟨S4x8192x8x1, .f32⟩
  | .hbm, ⟨45, _⟩ => ⟨S4x8192x8x1, .f32⟩
  | .hbm, ⟨46, _⟩ => ⟨S_, .f32⟩
  | .hbm, ⟨47, _⟩ => ⟨S4x8192x8x1, .f32⟩
  | .hbm, ⟨48, _⟩ => ⟨S4x8192x8x1, .f32⟩
  | .hbm, ⟨49, _⟩ => ⟨S4x8192x8x1, .f32⟩
  | .hbm, ⟨50, _⟩ => ⟨S4x8192x8x64, .f32⟩
  | .hbm, ⟨51, _⟩ => ⟨S4x8192x8x64, .f32⟩
  | .hbm, ⟨52, _⟩ => ⟨S1x1x1x64, .f32⟩
  | .hbm, ⟨53, _⟩ => ⟨S4x8192x8x64, .f32⟩
  | .hbm, ⟨54, _⟩ => ⟨S4x8192x8x64, .f32⟩
  | .hbm, ⟨55, _⟩ => ⟨S4x8192x8x32, .f32⟩
  | .hbm, ⟨56, _⟩ => ⟨S4x8192x8x32, .f32⟩
  | .hbm, ⟨57, _⟩ => ⟨S1x8192x1x32, .f32⟩
  | .hbm, ⟨58, _⟩ => ⟨S1x8192x1x32, .f32⟩
  | .hbm, ⟨59, _⟩ => ⟨S4x8192x8x32, .f32⟩
  | .hbm, ⟨60, _⟩ => ⟨S4x8192x8x32, .f32⟩
  | .hbm, ⟨61, _⟩ => ⟨S4x8192x8x32, .f32⟩
  | .hbm, ⟨62, _⟩ => ⟨S4x8192x8x32, .f32⟩
  | .hbm, ⟨63, _⟩ => ⟨S4x8192x8x32, .f32⟩
  | .hbm, ⟨64, _⟩ => ⟨S4x8192x8x32, .f32⟩
  | .hbm, ⟨65, _⟩ => ⟨S4x8192x8x32, .f32⟩
  | .hbm, ⟨66, _⟩ => ⟨S4x8192x8x32, .f32⟩
  | .hbm, ⟨67, _⟩ => ⟨S4x8192x8x32, .f32⟩
  | .hbm, ⟨68, _⟩ => ⟨S4x8192x8x32, .f32⟩
  | .hbm, ⟨69, _⟩ => ⟨S4x8192x8x32x1, .f32⟩
  | .hbm, ⟨70, _⟩ => ⟨S4x8192x8x32x1, .f32⟩
  | .hbm, ⟨71, _⟩ => ⟨S4x8192x8x32x2, .f32⟩
  | .hbm, ⟨72, _⟩ => ⟨S4x8192x8x64, .f32⟩
  | .hbm, ⟨73, _⟩ => ⟨S_, .f32⟩
  | .hbm, ⟨74, _⟩ => ⟨S4x8192x8x64, .f32⟩
  | .hbm, ⟨75, _⟩ => ⟨S4x8192x8x64, .f32⟩
  | .hbm, ⟨76, _⟩ => ⟨S4x8192x2x64, .f32⟩
  | .hbm, ⟨77, _⟩ => ⟨S4x8192x2x64, .f32⟩
  | .hbm, ⟨78, _⟩ => ⟨S_, .f32⟩
  | .hbm, ⟨79, _⟩ => ⟨S4x8192x2, .f32⟩
  | .hbm, ⟨80, _⟩ => ⟨S4x8192x2x1, .f32⟩
  | .hbm, ⟨81, _⟩ => ⟨S_, .f32⟩
  | .hbm, ⟨82, _⟩ => ⟨S4x8192x2x1, .f32⟩
  | .hbm, ⟨83, _⟩ => ⟨S4x8192x2x1, .f32⟩
  | .hbm, ⟨84, _⟩ => ⟨S_, .f32⟩
  | .hbm, ⟨85, _⟩ => ⟨S4x8192x2x1, .f32⟩
  | .hbm, ⟨86, _⟩ => ⟨S4x8192x2x1, .f32⟩
  | .hbm, ⟨87, _⟩ => ⟨S4x8192x2x1, .f32⟩
  | .hbm, ⟨88, _⟩ => ⟨S4x8192x2x64, .f32⟩
  | .hbm, ⟨89, _⟩ => ⟨S4x8192x2x64, .f32⟩
  | .hbm, ⟨90, _⟩ => ⟨S1x1x1x64, .f32⟩
  | .hbm, ⟨91, _⟩ => ⟨S4x8192x2x64, .f32⟩
  | .hbm, ⟨92, _⟩ => ⟨S4x8192x2x64, .f32⟩
  | .hbm, ⟨93, _⟩ => ⟨S4x8192x2x32, .f32⟩
  | .hbm, ⟨94, _⟩ => ⟨S4x8192x2x32, .f32⟩
  | .hbm, ⟨95, _⟩ => ⟨S1x8192x1x32, .f32⟩
  | .hbm, ⟨96, _⟩ => ⟨S1x8192x1x32, .f32⟩
  | .hbm, ⟨97, _⟩ => ⟨S4x8192x2x32, .f32⟩
  | .hbm, ⟨98, _⟩ => ⟨S4x8192x2x32, .f32⟩
  | .hbm, ⟨99, _⟩ => ⟨S4x8192x2x32, .f32⟩
  | .hbm, ⟨100, _⟩ => ⟨S4x8192x2x32, .f32⟩
  | .hbm, ⟨101, _⟩ => ⟨S4x8192x2x32, .f32⟩
  | .hbm, ⟨102, _⟩ => ⟨S4x8192x2x32, .f32⟩
  | .hbm, ⟨103, _⟩ => ⟨S4x8192x2x32, .f32⟩
  | .hbm, ⟨104, _⟩ => ⟨S4x8192x2x32, .f32⟩
  | .hbm, ⟨105, _⟩ => ⟨S4x8192x2x32, .f32⟩
  | .hbm, ⟨106, _⟩ => ⟨S4x8192x2x32, .f32⟩
  | .hbm, ⟨107, _⟩ => ⟨S4x8192x2x32x1, .f32⟩
  | .hbm, ⟨108, _⟩ => ⟨S4x8192x2x32x1, .f32⟩
  | .hbm, ⟨109, _⟩ => ⟨S4x8192x2x32x2, .f32⟩
  | .hbm, ⟨110, _⟩ => ⟨S4x8192x2x64, .f32⟩
  | .hbm, ⟨111, _⟩ => ⟨S4x8192x512, .f32⟩
  | .hbm, ⟨112, _⟩ => ⟨S4x8192x512, .bf16⟩
  | .hbm, ⟨113, _⟩ => ⟨S4x8192x128, .f32⟩
  | .hbm, ⟨114, _⟩ => ⟨S4x8192x128, .bf16⟩
  | .hbm, ⟨115, _⟩ => ⟨S4x8192x128, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x1x1024 : Shape := ⟨3, ![4, 1, 1024]⟩
abbrev S4x8192x16x64 : Shape := ⟨4, ![4, 8192, 16, 64]⟩
abbrev S1024 : Shape := ⟨1, ![1024]⟩
abbrev S1024x1024 : Shape := ⟨2, ![1024, 1024]⟩
abbrev S128x128 : Shape := ⟨2, ![128, 128]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256x128 : Shape := ⟨2, ![256, 128]⟩

abbrev nBuf : Space → Nat
  | .hbm => 18
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x8192x16x64, .f32⟩
  | .hbm, ⟨3, _⟩ => ⟨S4x8192x16x64, .f32⟩
  | .hbm, ⟨4, _⟩ => ⟨S4x8192x16x64, .f32⟩
  | .hbm, ⟨5, _⟩ => ⟨S4x8192x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S128x128, .bf16⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S1x1024, .f32⟩
  | .local _ .vmem, ⟨13, _⟩ => ⟨S1x1024, .f32⟩
  | .local _ .vmem, ⟨14, _⟩ => ⟨S128x128, .bf16⟩
  | .local _ .vmem, ⟨15, _⟩ => ⟨S1024x1024, .bf16⟩
  | .local _ .vmem, ⟨16, _⟩ => ⟨S1x256x1024, .f32⟩
  | .local _ .vmem, ⟨17, _⟩ => ⟨S1x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S4x8192x1024 : Shape := ⟨3, ![4, 8192, 1024]⟩
abbrev S4x1x1024 : Shape := ⟨3, ![4, 1, 1024]⟩
abbrev S4x8192x16x64 : Shape := ⟨4, ![4, 8192, 16, 64]⟩
abbrev S1024 : Shape := ⟨1, ![1024]⟩
abbrev S1024x1024 : Shape := ⟨2, ![1024, 1024]⟩
abbrev S_ : Shape := ⟨0, ![]⟩
abbrev S4x8192x16 : Shape := ⟨3, ![4, 8192, 16]⟩
abbrev S4x8192x16x1 : Shape := ⟨4, ![4, 8192, 16, 1]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x8192x16x64, .f32⟩
  | .hbm, ⟨3, _⟩ => ⟨S4x8192x16x64, .f32⟩
  | .hbm, ⟨4, _⟩ => ⟨S4x8192x16x64, .f32⟩
  | .hbm, ⟨5, _⟩ => ⟨S4x8192x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S4x8192x16x64, .f32⟩
  | .hbm, ⟨10, _⟩ => ⟨S_, .f32⟩
  | .hbm, ⟨11, _⟩ => ⟨S4x8192x16, .f32⟩
  | .hbm, ⟨12, _⟩ => ⟨S4x8192x16x1, .f32⟩
  | .hbm, ⟨13, _⟩ => ⟨S_, .f32⟩
  | .hbm, ⟨14, _⟩ => ⟨S4x8192x16x1, .f32⟩
  | .hbm, ⟨15, _⟩ => ⟨S4x8192x16x1, .f32⟩
  | .hbm, ⟨16, _⟩ => ⟨S4x8192x16x64, .f32⟩
  | .hbm, ⟨17, _⟩ => ⟨S4x8192x16x64, .f32⟩
  | .hbm, ⟨18, _⟩ => ⟨S4x8192x16x64, .f32⟩
  | .hbm, ⟨19, _⟩ => ⟨S_, .f32⟩
  | .hbm, ⟨20, _⟩ => ⟨S4x8192x16, .f32⟩
  | .hbm, ⟨21, _⟩ => ⟨S4x8192x16x1, .f32⟩
  | .hbm, ⟨22, _⟩ => ⟨S_, .f32⟩
  | .hbm, ⟨23, _⟩ => ⟨S4x8192x16x1, .f32⟩
  | .hbm, ⟨24, _⟩ => ⟨S4x8192x16x1, .f32⟩
  | .hbm, ⟨25, _⟩ => ⟨S4x8192x16x64, .f32⟩
  | .hbm, ⟨26, _⟩ => ⟨S4x8192x16x64, .f32⟩
  | .hbm, ⟨27, _⟩ => ⟨S_, .f32⟩
  | .hbm, ⟨28, _⟩ => ⟨S4x8192x16x1, .f32⟩
  | .hbm, ⟨29, _⟩ => ⟨S4x8192x16x1, .f32⟩
  | .hbm, ⟨30, _⟩ => ⟨S4x8192x16x1, .f32⟩
  | .hbm, ⟨31, _⟩ => ⟨S4x8192x16x64, .f32⟩
  | .hbm, ⟨32, _⟩ => ⟨S4x8192x16x64, .f32⟩
  | .hbm, ⟨33, _⟩ => ⟨S4x8192x1024, .f32⟩
  | .hbm, ⟨34, _⟩ => ⟨S1x1x1024, .f32⟩
  | .hbm, ⟨35, _⟩ => ⟨S4x8192x1024, .f32⟩
  | .hbm, ⟨36, _⟩ => ⟨S4x8192x1024, .f32⟩
  | .hbm, ⟨37, _⟩ => ⟨S1x1x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Proof.Rows.lean ====
/-
  The rows the kernel's copies move.  A row of the padded activations (`main_v1`), of the output (`main_v6`), of the
  gathered activations (`cc0_scratch0`) and of the gathered output rows (`cc0_scratch1`): which elements of its buffer
  it is, and what a copy of one row onto another leaves.
-/
module

public import proofs.«01_k».proof.Proof.Gen.KernelIdeal
public import Idealize.ShloMosaic.Lib.ValueLayout
public import Idealize.ShloMosaic.Lib.ValueIdxCore
public import Idealize.ShloMosaic.Lib.Ring
public import Idealize.ShloMosaic.Lib.Tactic

@[expose] public section

noncomputable section

namespace Cert.Moe

open Cert.KernelIdeal Cert.KernelIdeal.Gen
open Idealize.ShloMosaic Idealize.ShloMosaic.TcCoe Idealize.ShloMosaic.ValueIdx

/-- The elements of row `t` of sequence `b` of the padded activations. -/
def hSet (b : Fin 4) (t : Fin 8192) : Finset S4x8192x1152.Idx := Finset.univ.filter fun y => (y 0).val = b.val ∧ (y 1).val = t.val
/-- The elements of row `t` of sequence `b` of the output. -/
def oSet (b : Fin 4) (t : Fin 8192) : Finset S4x8192x1024.Idx := Finset.univ.filter fun y => (y 0).val = b.val ∧ (y 1).val = t.val
/-- The elements of row `r` of the gathered activations. -/
def xSet (r : Fin 1024) : Finset S1024x1152.Idx := Finset.univ.filter fun y => (y 0).val = r.val
/-- The elements of row `r` of the gathered output rows. -/
def rSet (r : Fin 1024) : Finset S1024x1024.Idx := Finset.univ.filter fun y => (y 0).val = r.val

/-- A row of the padded activations, as the kernel names it. -/
abbrev hRow (off : Fin 3 → ℕ) (inb : ∀ a, off a + S1x1x1152.size a ≤ S4x8192x1152.size a) : Memref sig .tc .hbm S1x1152 .f32 :=
  ((Memref.whole main_v1).slice (Rect.unit (s := S4x8192x1152) off S1x1x1152.size inb) (fun _ => rfl)).squeeze S1x1152 squeezes_S1x1x1152_S1x1152
/-- A row of the output, as the kernel names it. -/
abbrev oRow (off : Fin 3 → ℕ) (inb : ∀ a, off a + S1x1x1024.size a ≤ S4x8192x1024.size a) : Memref sig .tc .hbm S1x1024 .f32 :=
  ((Memref.whole main_v6).slice (Rect.unit (s := S4x8192x1024) off S1x1x1024.size inb) (fun _ => rfl)).squeeze S1x1024 squeezes_S1x1x1024_S1x1024
/-- A row of the gathered activations, as the kernel names it. -/
abbrev xRow (off : Fin 2 → ℕ) (inb : ∀ a, off a + S1x1152.size a ≤ S1024x1152.size a) : Memref sig .tc .vmem S1x1152 .f32 :=
  (Memref.whole cc0_scratch0).slice (Rect.unit (s := S1024x1152) off S1x1152.size inb) (fun _ => rfl)
/-- A row of the gathered output rows, as the kernel names it. -/
abbrev rRow (off : Fin 2 → ℕ) (inb : ∀ a, off a + S1x1024.size a ≤ S1024x1024.size a) : Memref sig .tc .vmem S1x1024 .f32 :=
  (Memref.whole cc0_scratch1).slice (Rect.unit (s := S1024x1024) off S1x1024.size inb) (fun _ => rfl)

section Sets

theorem mem_hSet {b : Fin 4} {t : Fin 8192} {y : S4x8192x1152.Idx} : y ∈ hSet b t ↔ y 0 = b ∧ y 1 = t := by
  unfold hSet; rw [Finset.mem_filter]; exact ⟨fun h => ⟨Fin.ext h.2.1, Fin.ext h.2.2⟩, fun h => ⟨Finset.mem_univ _, congrArg Fin.val h.1, congrArg Fin.val h.2⟩⟩
theorem mem_oSet {b : Fin 4} {t : Fin 8192} {y : S4x8192x1024.Idx} : y ∈ oSet b t ↔ y 0 = b ∧ y 1 = t := by
  unfold oSet; rw [Finset.mem_filter]; exact ⟨fun h => ⟨Fin.ext h.2.1, Fin.ext h.2.2⟩, fun h => ⟨Finset.mem_univ _, congrArg Fin.val h.1, congrArg Fin.val h.2⟩⟩
theorem mem_xSet {r : Fin 1024} {y : S1024x1152.Idx} : y ∈ xSet r ↔ y 0 = r := by
  unfold xSet; rw [Finset.mem_filter]; exact ⟨fun h => Fin.ext h.2, fun h => ⟨Finset.mem_univ _, congrArg Fin.val h⟩⟩
theorem mem_rSet {r : Fin 1024} {y : S1024x1024.Idx} : y ∈ rSet r ↔ y 0 = r := by
  unfold rSet; rw [Finset.mem_filter]; exact ⟨fun h => Fin.ext h.2, fun h => ⟨Finset.mem_univ _, congrArg Fin.val h⟩⟩

variable {b : Fin 4} {t : Fin 8192} {r : Fin 1024}

theorem hRow_set (off inb) (h : off = ![b.val, t.val, 0]) : (hRow off inb).view.set = hSet b t := by
  subst h
  refine ((View.set_reshape _ _).trans (View.set_slice_whole _ _)).trans ?_
  ext y
  rw [Rect.mem_set_unit, mem_hSet]
  have h2 : (y 2).val < 1152 := (y 2).isLt
  constructor
  · intro H
    have a0 : b.val ≤ (y 0).val ∧ (y 0).val < b.val + 1 := H 0
    have a1 : t.val ≤ (y 1).val ∧ (y 1).val < t.val + 1 := H 1
    exact ⟨Fin.ext (by omega), Fin.ext (by omega)⟩
  · rintro ⟨e0, e1⟩ a
    have e0 : (y 0).val = b.val := congrArg Fin.val e0
    have e1 : (y 1).val = t.val := congrArg Fin.val e1
    fin_cases a
    · show b.val ≤ (y 0).val ∧ (y 0).val < b.val + 1; omega
    · show t.val ≤ (y 1).val ∧ (y 1).val < t.val + 1; omega
    · show 0 ≤ (y 2).val ∧ (y 2).val < 0 + 1152; omega

theorem oRow_set (off inb) (h : off = ![b.val, t.val, 0]) : (oRow off inb).view.set = oSet b t := by
  subst h
  refine ((View.set_reshape _ _).trans (View.set_slice_whole _ _)).trans ?_
  ext y
  rw [Rect.mem_set_unit, mem_oSet]
  have h2 : (y 2).val < 1024 := (y 2).isLt
  constructor
  · intro H
    have a0 : b.val ≤ (y 0).val ∧ (y 0).val < b.val + 1 := H 0
    have a1 : t.val ≤ (y 1).val ∧ (y 1).val < t.val + 1 := H 1
    exact ⟨Fin.ext (by omega), Fin.ext (by omega)⟩
  · rintro ⟨e0, e1⟩ a
    have e0 : (y 0).val = b.val := congrArg Fin.val e0
    have e1 : (y 1).val = t.val := congrArg Fin.val e1
    fin_cases a
    · show b.val ≤ (y 0).val ∧ (y 0).val < b.val + 1; omega
    · show t.val ≤ (y 1).val ∧ (y 1).val < t.val + 1; omega
    · show 0 ≤ (y 2).val ∧ (y 2).val < 0 + 1024; omega

theorem xRow_set (off inb) (h : off = ![r.val, 0]) : (xRow off inb).view.set = xSet r := by
  subst h
  refine (View.set_slice_whole _ _).trans ?_
  ext y
  rw [Rect.mem_set_unit, mem_xSet]
  have h2 : (y 1).val < 1152 := (y 1).isLt
  constructor
  · intro H
    have a0 : r.val ≤ (y 0).val ∧ (y 0).val < r.val + 1 := H 0
    exact Fin.ext (by omega)
  · rintro e0 a
    have e0 : (y 0).val = r.val := congrArg Fin.val e0
    fin_cases a
    · show r.val ≤ (y 0).val ∧ (y 0).val < r.val + 1; omega
    · show 0 ≤ (y 1).val ∧ (y 1).val < 0 + 1152; omega

theorem rRow_set (off inb) (h : off = ![r.val, 0]) : (rRow off inb).view.set = rSet r := by
  subst h
  refine (View.set_slice_whole _ _).trans ?_
  ext y
  rw [Rect.mem_set_unit, mem_rSet]
  have h2 : (y 1).val < 1024 := (y 1).isLt
  constructor
  · intro H
    have a0 : r.val ≤ (y 0).val ∧ (y 0).val < r.val + 1 := H 0
    exact Fin.ext (by omega)
  · rintro e0 a
    have e0 : (y 0).val = r.val := congrArg Fin.val e0
    fin_cases a
    · show r.val ≤ (y 0).val ∧ (y 0).val < r.val + 1; omega
    · show 0 ≤ (y 1).val ∧ (y 1).val < 0 + 1024; omega

/-- Element `l` of a row of the padded activations. -/
theorem hRow_emb (off inb) (h : off = ![b.val, t.val, 0]) (l : Fin 1152) :
    (hRow off inb).view.emb (ix2 (0 : Fin 1) l) = (ix3 b t l : S4x8192x1152.Idx) := by
  subst h
  show (Rect.unit (s := S4x8192x1152) ![b.val, t.val, 0] S1x1x1152.size inb).emb
    (Shape.reshapeEquiv squeezes_S1x1x1152_S1x1152.numel_eq (ix2 (0 : Fin 1) l)) = _
  have e := reshapeEquiv_ix2_1ab (a := 1) (b := 1152) squeezes_S1x1x1152_S1x1152.numel_eq 0 l
  refine (congrArg _ e).trans ?_
  funext a; apply Fin.ext
  fin_cases a
  · show b.val + 1 * 0 = b.val; omega
  · show t.val + 1 * 0 = t.val; omega
  · show 0 + 1 * l.val = l.val; omega

theorem oRow_emb (off inb) (h : off = ![b.val, t.val, 0]) (l : Fin 1024) :
    (oRow off inb).view.emb (ix2 (0 : Fin 1) l) = (ix3 b t l : S4x8192x1024.Idx) := by
  subst h
  show (Rect.unit (s := S4x8192x1024) ![b.val, t.val, 0] S1x1x1024.size inb).emb
    (Shape.reshapeEquiv squeezes_S1x1x1024_S1x1024.numel_eq (ix2 (0 : Fin 1) l)) = _
  have e := reshapeEquiv_ix2_1ab (a := 1) (b := 1024) squeezes_S1x1x1024_S1x1024.numel_eq 0 l
  refine (congrArg _ e).trans ?_
  funext a; apply Fin.ext
  fin_cases a
  · show b.val + 1 * 0 = b.val; omega
  · show t.val + 1 * 0 = t.val; omega
  · show 0 + 1 * l.val = l.val; omega

theorem xRow_emb (off inb) (h : off = ![r.val, 0]) (l : Fin 1152) :
    (xRow off inb).view.emb (ix2 (0 : Fin 1) l) = (ix2 r l : S1024x1152.Idx) := by
  subst h
  funext a; apply Fin.ext
  fin_cases a
  · show r.val + 1 * 0 = r.val; omega
  · show 0 + 1 * l.val = l.val; omega

theorem rRow_emb (off inb) (h : off = ![r.val, 0]) (l : Fin 1024) :
    (rRow off inb).view.emb (ix2 (0 : Fin 1) l) = (ix2 r l : S1024x1024.Idx) := by
  subst h
  funext a; apply Fin.ext
  fin_cases a
  · show r.val + 1 * 0 = r.val; omega
  · show 0 + 1 * l.val = l.val; omega

end Sets

section Copies

/-- A view's whole image written: the element a view places at `y` is the written element. -/
theorem write_at {F : FTy → Type} {sp : Space} {s : Shape} {e : EltTy} (v : View sig .tc sp s e) (f : v.ty.Contents (Elt F)) (w : s.Idx → Elt F e)
    (j : s.Idx) (y : v.ty.Idx) (h : y = v.emb j) :
    v.write (Elt F) f w Finset.univ y = _root_.cast (congrArg (Elt F) v.elt_eq.symm) (w j) := by
  subst h; exact View.write_emb_of_mem _ _ (Finset.mem_univ _)

variable {F : FTy → Type} {b : Fin 4} {t : Fin 8192} {r : Fin 1024}

/-- A row of activations copied onto a gathered row. -/
theorem copy_hx (off inb off' inb') (h : off = ![b.val, t.val, 0]) (h' : off' = ![r.val, 0])
    (fs : S4x8192x1152.Idx → Elt F .f32) (fd : S1024x1152.Idx → Elt F .f32) (y : S1024x1152.Idx) (hy : y ∈ xSet r) :
    (xRow off' inb').view.write (Elt F) fd ((hRow off inb).view.read (Elt F) fs) Finset.univ y = fs (ix3 b t (y 1)) := by
  obtain rfl : y 0 = r := by first | exact (mem_xSet.mp hy) | exact (mem_rSet.mp hy)
  have e := xRow_emb off' inb' h' (y 1)
  have ey : y = ix2 (y 0) (y 1) := by funext a; fin_cases a <;> rfl
  refine (write_at (xRow off' inb').view _ _ _ y (ey.trans e.symm)).trans ?_
  rw [cast_eq, View.read_apply, cast_eq]; exact congrArg fs (hRow_emb off inb h (y 1))

/-- An output row copied onto a gathered row. -/
theorem copy_or (off inb off' inb') (h : off = ![b.val, t.val, 0]) (h' : off' = ![r.val, 0])
    (fs : S4x8192x1024.Idx → Elt F .f32) (fd : S1024x1024.Idx → Elt F .f32) (y : S1024x1024.Idx) (hy : y ∈ rSet r) :
    (rRow off' inb').view.write (Elt F) fd ((oRow off inb).view.read (Elt F) fs) Finset.univ y = fs (ix3 b t (y 1)) := by
  obtain rfl : y 0 = r := by first | exact (mem_xSet.mp hy) | exact (mem_rSet.mp hy)
  have e := rRow_emb off' inb' h' (y 1)
  have ey : y = ix2 (y 0) (y 1) := by funext a; fin_cases a <;> rfl
  refine (write_at (rRow off' inb').view _ _ _ y (ey.trans e.symm)).trans ?_
  rw [cast_eq, View.read_apply, cast_eq]; exact congrArg fs (oRow_emb off inb h (y 1))

/-- A gathered row copied back onto its output row. -/
theorem copy_ro (off inb off' inb') (h : off = ![b.val, t.val, 0]) (h' : off' = ![r.val, 0])
    (fs : S1024x1024.Idx → Elt F .f32) (fd : S4x8192x1024.Idx → Elt F .f32) (y : S4x8192x1024.Idx) (hy : y ∈ oSet b t) :
    (oRow off inb).view.write (Elt F) fd ((rRow off' inb').view.read (Elt F) fs) Finset.univ y = fs (ix2 r (y 2)) := by
  obtain ⟨h0, h1⟩ := mem_oSet.mp hy
  subst h0 h1
  have e := oRow_emb off inb h (y 2)
  have ey : y = ix3 (y 0) (y 1) (y 2) := by funext a; fin_cases a <;> rfl
  refine (write_at (oRow off inb).view _ _ _ y (ey.trans e.symm)).trans ?_
  rw [cast_eq, View.read_apply, cast_eq]; exact congrArg fs (rRow_emb off' inb' h' (y 2))

end Copies

/-! ## The offsets the loops compute -/

theorem iv_toNat (k : ℕ) (hk : k < 1024) : (Scf.iv (0#32) (1#32) k).toNat = k := by
  unfold Scf.iv
  simp only [BitVec.zero_add, BitVec.mul_one, BitVec.toNat_ofNat]
  omega

theorem coord_toNat (n : ℕ) (hn : n < 4) : (BitVec.ofNat 32 n).toNat = n := by
  simp only [BitVec.toNat_ofNat]; omega

end Cert.Moe

end
-- ==== Proof.Loops.lean ====
/-
  The kernel's six loops.  Three start a copy a trip, of the row the trip's staged word names, onto one semaphore; three
  wait for as many rows as were started, and the last wait of each hands back every row.
-/
module

public import proofs.«01_k».proof.Proof.Rows
public import proofs.«01_k».proof.Proof.Gen.KernelIdeal.Loops
public import Idealize.ShloMosaic.Lib.Batch
public import Idealize.ShloMosaic.Lib.Pipeline.FrameBody

@[expose] public section

noncomputable section

namespace Cert.Moe

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline's beside the copies' counters. -/
local notation "𝕄" => MT nD τ sig Unit (Elt F) ℕ (Pipeline.UD sig nD τ) ℕ

/-- A copy's counters. -/
abbrev EC : UEmb Counters (MT nD τ sig Unit (Elt F) ℕ (Pipeline.UD sig nD τ) ℕ) := countersEmb (U := Pipeline.UD sig nD τ)

variable (c : Dev nD) (b : Fin 4) (tok : Fin 1024 → Fin 8192)

/-- Row `tok r` of the padded activations, at contents `fh`. -/
def hAt (fh : S4x8192x1152.Idx → Elt F .f32) (r : Fin 1024) : sProp 𝕄 :=
  ((c : Thread nD τ).loc main_v1) ↦[hSet b (tok r)]{fullShare} fh
/-- Row `tok r` of the output, at contents `fo`. -/
def oAt (fo : S4x8192x1024.Idx → Elt F .f32) (r : Fin 1024) : sProp 𝕄 :=
  ((c : Thread nD τ).loc main_v6) ↦[oSet b (tok r)]{fullShare} fo
/-- Row `r` of the gathered activations, at contents `fx`. -/
def xAt (fx : S1024x1152.Idx → Elt F .f32) (r : Fin 1024) : sProp 𝕄 :=
  ((c : Thread nD τ).loc cc0_scratch0) ↦[xSet r]{fullShare} fx
/-- Row `r` of the gathered output rows, at contents `fr`. -/
def rAt (fr : S1024x1024.Idx → Elt F .f32) (r : Fin 1024) : sProp 𝕄 :=
  ((c : Thread nD τ).loc cc0_scratch1) ↦[rSet r]{fullShare} fr

/-- The gathered activations: row `r` is row `tok r` of sequence `b`. -/
def gath {n : ℕ} (f : (⟨3, ![4, 8192, n]⟩ : Shape).Idx → Elt F .f32) : (⟨2, ![1024, n]⟩ : Shape).Idx → Elt F .f32 :=
  fun y => f (ix3 b (tok (y 0)) (y 1))

/-- What the copy of row `r` of the activations hands back. -/
def D1 (fh : S4x8192x1152.Idx → Elt F .f32) (r : Fin 1024) : sProp 𝕄 := iprop(xAt c (gath b tok fh) r ∗ hAt c b tok fh r)
/-- What the copy of row `r` of the output rows hands back. -/
def D2 (fo : S4x8192x1024.Idx → Elt F .f32) (r : Fin 1024) : sProp 𝕄 := iprop(rAt c (gath b tok fo) r ∗ oAt c b tok fo r)
/-- What the copy of gathered row `r` back to the output hands back. -/
def D3 (fn : S4x8192x1024.Idx → Elt F .f32) (fr : S1024x1024.Idx → Elt F .f32) (r : Fin 1024) : sProp 𝕄 :=
  iprop(oAt c b tok fn r ∗ rAt c fr r)

instance D1_storable (fh : S4x8192x1152.Idx → Elt F .f32) (r : Fin 1024) : BI.Storable (upEmb : UEmb _ 𝕄) (D1 c b tok fh r) := by
  unfold D1 xAt hAt; infer_instance
instance D2_storable (fo : S4x8192x1024.Idx → Elt F .f32) (r : Fin 1024) : BI.Storable (upEmb : UEmb _ 𝕄) (D2 c b tok fo r) := by
  unfold D2 rAt oAt; infer_instance
instance D3_storable (fn : S4x8192x1024.Idx → Elt F .f32) (fr : S1024x1024.Idx → Elt F .f32) (r : Fin 1024) :
    BI.Storable (upEmb : UEmb _ 𝕄) (D3 c b tok fn fr r) := by
  unfold D3 rAt oAt; infer_instance

/-- A row of gathered activations' credit on its cell; -/
abbrev N1 : ℕ := (xRow ![0, 0] (by decide)).view.dmaCredit
/-- a gathered output row's; -/
abbrev N2 : ℕ := (rRow ![0, 0] (by decide)).view.dmaCredit
/-- an output row's. -/
abbrev N3 : ℕ := (oRow ![0, 0, 0] (by decide)).view.dmaCredit

variable (i : grid0.Coords) (hb : (i 1).val = b.val)
    (arg2 : Memref sig .tc .smem S1x1x1x1024 .i32) (harg2 : arg2.IsWhole)
    (arg4 : Memref sig .tc .hbm S4x8192x1024 .f32) (harg4 : arg4.IsWhole)
    (arg5 : Memref sig .tc .vmem S1x1x1024 .f32) (harg5 : arg5.IsWhole) (arg6 : Memref sig .tc .vmem S1x1024x2048 .bf16) (harg6 : arg6.IsWhole)
    (arg7 : Memref sig .tc .vmem S1x1024x2048 .bf16) (harg7 : arg7.IsWhole) (arg8 : Memref sig .tc .vmem S1x2048x1024 .bf16) (harg8 : arg8.IsWhole)
    (fi : Buf (Elt F) (arg2.view.loc (c : Thread nD τ)))
    (hfi : ∀ r : Fin 1024, ∃ w : BitVec 32, arg2.view.read (Elt F) fi (ix4 (0 : Fin 1) (0 : Fin 1) (0 : Fin 1) r) = w ∧ w.toNat = (tok r).val)

/-- The staged token rows. -/
abbrev sAt : sProp 𝕄 := arg2.view.loc (c : Thread nD τ) ↦[arg2.view.set]{fullShare} fi

/-- The word a loop loads at trip `r` is the one the staged token rows hold at `r`. -/
theorem word_read (r : Fin 1024) (off : Fin 4 → ℕ) (inb : ∀ a, off a + S1x1x1x1.size a ≤ S1x1x1x1024.size a) (h : off = ![0, 0, 0, r.val])
    (x : (Rect.unit (s := S1x1x1x1024) off S1x1x1x1.size inb).shape.Idx) :
    arg2.view.readAt (Elt F) (Rect.unit (s := S1x1x1x1024) off S1x1x1x1.size inb).toLoadRect fi x
      = arg2.view.read (Elt F) fi (ix4 (0 : Fin 1) (0 : Fin 1) (0 : Fin 1) r) := by
  subst h
  rw [View.readAt_apply]
  refine congrArg _ ?_
  have hx : ∀ a, (x a).val < 1 := fun a => by
    have := (x a).isLt; fin_cases a <;> exact this
  funext a; apply Fin.ext
  fin_cases a
  · show 0 + 1 * (x 0).val = 0; have := hx 0; omega
  · show 0 + 1 * (x 1).val = 0; have := hx 1; omega
  · show 0 + 1 * (x 2).val = 0; have := hx 2; omega
  · show r.val + 1 * (x 3).val = r.val; have := hx 3; omega

include hb in
/-- A row's offsets from the word that names it. -/
theorem row_off (w : BitVec 32) (r : Fin 1024) (hw : w.toNat = (tok r).val) :
    (![(BitVec.ofNat 32 (i 1).val).toNat, w.toNat, 0] : Fin 3 → ℕ) = ![b.val, (tok r).val, 0] := by
  rw [hb, coord_toNat _ b.isLt, hw]

/-- A row's offsets name a row of the padded activations; -/
theorem row_inb_h (off : Fin 3 → ℕ) (t : Fin 8192) (h : off = ![b.val, t.val, 0]) : ∀ a, off a + S1x1x1152.size a ≤ S4x8192x1152.size a := by
  subst h; intro a; have := b.isLt; have := t.isLt
  fin_cases a
  · show b.val + 1 ≤ 4; omega
  · show t.val + 1 ≤ 8192; omega
  · show 0 + 1152 ≤ 1152; omega
/-- and one of the output. -/
theorem row_inb_o (off : Fin 3 → ℕ) (t : Fin 8192) (h : off = ![b.val, t.val, 0]) : ∀ a, off a + S1x1x1024.size a ≤ S4x8192x1024.size a := by
  subst h; intro a; have := b.isLt; have := t.isLt
  fin_cases a
  · show b.val + 1 ≤ 4; omega
  · show t.val + 1 ≤ 8192; omega
  · show 0 + 1024 ≤ 1024; omega

/-- Before trip `k` of the first loop: `k` rows of activations in flight, the others' sources and destinations in hand. -/
def inv1 (fh : S4x8192x1152.Idx → Elt F .f32) (fx : S1024x1152.Idx → Elt F .f32) (k : ℕ) (_ : Unit) : sProp 𝕄 :=
  iprop(sAt c arg2 fi ∗ Transfers.Batch EC (c : Thread nD τ) (.dma 10) () N1 (D1 c b tok fh) k 0
    ∗ bigSep (Ring.rangeSet 1024 k 1024) (hAt c b tok fh) ∗ bigSep (Ring.rangeSet 1024 k 1024) (xAt c fx))

/-- The copy of a row of activations delivers the row gathered and the row back. -/
theorem deliver1 (fh : S4x8192x1152.Idx → Elt F .f32) (fx : S1024x1152.Idx → Elt F .f32) (r : Fin 1024) (off inb off' inb')
    (h : off = ![b.val, (tok r).val, 0]) (h' : off' = ![r.val, 0]) :
    (iprop(((xRow off' inb').view.loc (c : Thread nD τ) ↦[xSet r]{fullShare}
        ((xRow off' inb').view.write (Elt F) fx (ReadAs.same.apply ((hRow off inb).view.read (Elt F) fh)) Finset.univ))
      ∗ ((hRow off inb).view.loc (c : Thread nD τ) ↦[(hRow off inb).view.set]{fullShare} fh)) : sProp 𝕄) ⊢ D1 c b tok fh r := by
  rw [hRow_set off inb h]
  exact BI.sep_mono (Entails.of_eq (pointsTo_congr fun y hy => by
    unfold gath; obtain rfl : y 0 = r := mem_xSet.mp hy; exact copy_hx off inb off' inb' h h' fh fx y hy)) (Entails.refl _)

include hb hfi in
/-- One trip of the first loop. -/
theorem trip1 (fh : S4x8192x1152.Idx → Elt F .f32) (fx : S1024x1152.Idx → Elt F .f32) (k : Fin k0_t1_loop.trips) (acc : Unit) :
    inv1 c b tok arg2 fi fh fx k.val acc ⊢ wp frame (wpE defs₀ Variants.none (c : Thread nD τ) none) Set.univ
      (k0_t1_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2 k acc)
      (inv1 c b tok arg2 fi fh fx (k.val + 1)) := by
  have hk : k.val < 1024 := Nat.lt_of_lt_of_le k.isLt k0_t1_abs.2.1
  unfold inv1
  rw [Ring.bigSep_rangeSet_head (Φ := hAt c b tok fh) hk hk, Ring.bigSep_rangeSet_head (Φ := xAt c fx) hk hk]
  unfold hAt xAt
  iintro ⟨HS, HB, ⟨HH, HHs⟩, HX, HXs⟩
  dsimp only [k0_t1_body]
  sl_exec
  have hw : (trip1.sl.r c arg2 fi k).toNat = (tok ⟨k.val, hk⟩).val := by
    obtain ⟨w, e, e'⟩ := hfi ⟨k.val, hk⟩
    rw [← e', ← e]
    exact congrArg BitVec.toNat (word_read c arg2 fi ⟨k.val, hk⟩ _ _ (k0_off1_eq k) _)
  generalize trip1.sl.r c arg2 fi k = w at hw ⊢
  have ho : k0_off3 i w = ![b.val, (tok ⟨k.val, hk⟩).val, 0] := row_off b tok i hb w ⟨k.val, hk⟩ hw
  have hc : k0_chk1 i w := row_inb_h b _ _ ho
  iapply (wp_assume _ _ _ _ hc)
  dsimp only
  have hset1 := hRow_set (b := b) (t := tok ⟨k.val, hk⟩) _ (k0_off3_inb i w hc) ho
  have hset2 := xRow_set (r := ⟨k.val, hk⟩) _ (k0_off2_inb k) (k0_off2_eq k)
  iapply (Transfers.wp_dmaBatch EC Variants.none (c : Thread nD τ) none (src := hRow _ (k0_off3_inb i w hc)) (dst := xRow _ (k0_off2_inb k))
    (Sd := xSet ⟨k.val, hk⟩) (fd := fx) (fs := fh) (q := fullShare) (D := D1 c b tok fh) (j := k.val) (u := 0)
    () N1 rfl hset2.le hk (Nat.zero_le _) (deliver1 c b tok fh fx ⟨k.val, hk⟩ _ _ _ _ ho (k0_off2_eq k))) $$ [HH HX HB]
  · rw [hset1]
    isplitl [HH]; · iexact HH
    isplitl [HX]; · iexact HX
    iexact HB
  iintro HB
  dsimp only [Prog.bind, Pure.pure]
  sl_step
  isplitl [HS]; · iexact HS
  isplitl [HB]; · iexact HB
  isplitl [HHs]; · iexact HHs
  iexact HXs

/-- Before trip `k` of the second loop: `k` rows of the output in flight, the others' sources and destinations in hand. -/
def inv2 (fo : S4x8192x1024.Idx → Elt F .f32) (fr : S1024x1024.Idx → Elt F .f32) (k : ℕ) (_ : Unit) : sProp 𝕄 :=
  iprop(sAt c arg2 fi ∗ Transfers.Batch EC (c : Thread nD τ) (.dma 11) () N2 (D2 c b tok fo) k 0
    ∗ bigSep (Ring.rangeSet 1024 k 1024) (oAt c b tok fo) ∗ bigSep (Ring.rangeSet 1024 k 1024) (rAt c fr))

/-- The copy of a row of the output delivers the row gathered and the row back. -/
theorem deliver2 (fo : S4x8192x1024.Idx → Elt F .f32) (fr : S1024x1024.Idx → Elt F .f32) (r : Fin 1024) (off inb off' inb')
    (h : off = ![b.val, (tok r).val, 0]) (h' : off' = ![r.val, 0]) :
    (iprop(((rRow off' inb').view.loc (c : Thread nD τ) ↦[rSet r]{fullShare}
        ((rRow off' inb').view.write (Elt F) fr (ReadAs.same.apply ((oRow off inb).view.read (Elt F) fo)) Finset.univ))
      ∗ ((oRow off inb).view.loc (c : Thread nD τ) ↦[(oRow off inb).view.set]{fullShare} fo)) : sProp 𝕄) ⊢ D2 c b tok fo r := by
  rw [oRow_set off inb h]
  exact BI.sep_mono (Entails.of_eq (pointsTo_congr fun y hy => by
    unfold gath; obtain rfl : y 0 = r := mem_rSet.mp hy; exact copy_or off inb off' inb' h h' fo fr y hy)) (Entails.refl _)

include hb hfi in
/-- One trip of the second loop. -/
theorem trip2 (fo : S4x8192x1024.Idx → Elt F .f32) (fr : S1024x1024.Idx → Elt F .f32) (k : Fin k0_t2_loop.trips) (acc : Unit) :
    inv2 c b tok arg2 fi fo fr k.val acc ⊢ wp frame (wpE defs₀ Variants.none (c : Thread nD τ) none) Set.univ
      (k0_t2_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2 k acc)
      (inv2 c b tok arg2 fi fo fr (k.val + 1)) := by
  have hk : k.val < 1024 := Nat.lt_of_lt_of_le k.isLt k0_t2_abs.2.1
  unfold inv2
  rw [Ring.bigSep_rangeSet_head (Φ := oAt c b tok fo) hk hk, Ring.bigSep_rangeSet_head (Φ := rAt c fr) hk hk]
  unfold oAt rAt
  iintro ⟨HS, HB, ⟨HH, HHs⟩, HX, HXs⟩
  dsimp only [k0_t2_body]
  sl_exec
  have hw : (trip2.sl.r c arg2 fi k).toNat = (tok ⟨k.val, hk⟩).val := by
    obtain ⟨w, e, e'⟩ := hfi ⟨k.val, hk⟩
    rw [← e', ← e]
    exact congrArg BitVec.toNat (word_read c arg2 fi ⟨k.val, hk⟩ _ _ (k0_off4_eq k) _)
  generalize trip2.sl.r c arg2 fi k = w at hw ⊢
  have ho : k0_off6 i w = ![b.val, (tok ⟨k.val, hk⟩).val, 0] := row_off b tok i hb w ⟨k.val, hk⟩ hw
  have hc : k0_chk2 i w := row_inb_o b _ _ ho
  iapply (wp_assume _ _ _ _ hc)
  dsimp only
  have hset1 := oRow_set (b := b) (t := tok ⟨k.val, hk⟩) _ (k0_off6_inb i w hc) ho
  have hset2 := rRow_set (r := ⟨k.val, hk⟩) _ (k0_off5_inb k) (k0_off5_eq k)
  iapply (Transfers.wp_dmaBatch EC Variants.none (c : Thread nD τ) none (src := oRow _ (k0_off6_inb i w hc)) (dst := rRow _ (k0_off5_inb k))
    (Sd := rSet ⟨k.val, hk⟩) (fd := fr) (fs := fo) (q := fullShare) (D := D2 c b tok fo) (j := k.val) (u := 0)
    () N2 rfl hset2.le hk (Nat.zero_le _) (deliver2 c b tok fo fr ⟨k.val, hk⟩ _ _ _ _ ho (k0_off5_eq k))) $$ [HH HX HB]
  · rw [hset1]
    isplitl [HH]; · iexact HH
    isplitl [HX]; · iexact HX
    iexact HB
  iintro HB
  dsimp only [Prog.bind, Pure.pure]
  sl_step
  isplitl [HS]; · iexact HS
  isplitl [HB]; · iexact HB
  isplitl [HHs]; · iexact HHs
  iexact HXs

/-- Before trip `k` of the fifth loop: `k` gathered rows in flight to the output, the others' sources and destinations in hand. -/
def inv5 (fn : S4x8192x1024.Idx → Elt F .f32) (fr : S1024x1024.Idx → Elt F .f32) (fo : S4x8192x1024.Idx → Elt F .f32) (k : ℕ) (_ : Unit) : sProp 𝕄 :=
  iprop(sAt c arg2 fi ∗ Transfers.Batch EC (c : Thread nD τ) (.dma 12) () N3 (D3 c b tok fn fr) k 0
    ∗ bigSep (Ring.rangeSet 1024 k 1024) (oAt c b tok fo) ∗ bigSep (Ring.rangeSet 1024 k 1024) (rAt c fr))

/-- The copy of gathered row `r` delivers the output row at the row's contents and the gathered row back. -/
theorem deliver5 (fn : S4x8192x1024.Idx → Elt F .f32) (fr : S1024x1024.Idx → Elt F .f32) (fo : S4x8192x1024.Idx → Elt F .f32) (hfn : ∀ (r : Fin 1024) (l : Fin 1024), fn (ix3 b (tok r) l) = fr (ix2 r l))
    (r : Fin 1024) (off inb off' inb')
    (h : off = ![b.val, (tok r).val, 0]) (h' : off' = ![r.val, 0]) :
    (iprop(((oRow off inb).view.loc (c : Thread nD τ) ↦[oSet b (tok r)]{fullShare}
        ((oRow off inb).view.write (Elt F) fo (ReadAs.same.apply ((rRow off' inb').view.read (Elt F) fr)) Finset.univ))
      ∗ ((rRow off' inb').view.loc (c : Thread nD τ) ↦[(rRow off' inb').view.set]{fullShare} fr)) : sProp 𝕄) ⊢ D3 c b tok fn fr r := by
  rw [rRow_set off' inb' h']
  exact BI.sep_mono (Entails.of_eq (pointsTo_congr fun y hy => by
    obtain ⟨h0, h1⟩ := mem_oSet.mp hy
    have ey : y = ix3 b (tok r) (y 2) := by
      rw [← h0, ← h1]; funext a; fin_cases a <;> rfl
    exact (copy_ro off inb off' inb' h h' fr fo y hy).trans ((hfn r (y 2)).symm.trans (congrArg fn ey.symm)))) (Entails.refl _)

include hb hfi in
/-- One trip of the fifth loop. -/
theorem trip5 (fn : S4x8192x1024.Idx → Elt F .f32) (fr : S1024x1024.Idx → Elt F .f32) (fo : S4x8192x1024.Idx → Elt F .f32) (hfn : ∀ (r : Fin 1024) (l : Fin 1024), fn (ix3 b (tok r) l) = fr (ix2 r l)) (k : Fin k0_t5_loop.trips) (acc : Unit) :
    inv5 c b tok arg2 fi fn fr fo k.val acc ⊢ wp frame (wpE defs₀ Variants.none (c : Thread nD τ) none) Set.univ
      (k0_t5_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2 k acc)
      (inv5 c b tok arg2 fi fn fr fo (k.val + 1)) := by
  have hk : k.val < 1024 := Nat.lt_of_lt_of_le k.isLt k0_t5_abs.2.1
  unfold inv5
  rw [Ring.bigSep_rangeSet_head (Φ := oAt c b tok fo) hk hk, Ring.bigSep_rangeSet_head (Φ := rAt c fr) hk hk]
  unfold oAt rAt
  iintro ⟨HS, HB, ⟨HH, HHs⟩, HX, HXs⟩
  dsimp only [k0_t5_body]
  sl_exec
  have hw : (trip5.sl.r c arg2 fi k).toNat = (tok ⟨k.val, hk⟩).val := by
    obtain ⟨w, e, e'⟩ := hfi ⟨k.val, hk⟩
    rw [← e', ← e]
    exact congrArg BitVec.toNat (word_read c arg2 fi ⟨k.val, hk⟩ _ _ (k0_off13_eq k) _)
  generalize trip5.sl.r c arg2 fi k = w at hw ⊢
  have ho : k0_off14 i w = ![b.val, (tok ⟨k.val, hk⟩).val, 0] := row_off b tok i hb w ⟨k.val, hk⟩ hw
  have hc : k0_chk5 i w := row_inb_o b _ _ ho
  iapply (wp_assume _ _ _ _ hc)
  dsimp only
  have hset1 := oRow_set (b := b) (t := tok ⟨k.val, hk⟩) _ (k0_off14_inb i w hc) ho
  have hset2 := rRow_set (r := ⟨k.val, hk⟩) _ (k0_off15_inb k) (k0_off15_eq k)
  iapply (Transfers.wp_dmaBatch EC Variants.none (c : Thread nD τ) none (src := rRow _ (k0_off15_inb k)) (dst := oRow _ (k0_off14_inb i w hc))
    (Sd := oSet b (tok ⟨k.val, hk⟩)) (fd := fo) (fs := fr) (q := fullShare) (D := D3 c b tok fn fr) (j := k.val) (u := 0)
    () N3 rfl hset1.le hk (Nat.zero_le _) (deliver5 c b tok fn fr fo hfn ⟨k.val, hk⟩ _ _ _ _ ho (k0_off15_eq k))) $$ [HH HX HB]
  · rw [hset2]
    isplitl [HX]; · iexact HX
    isplitl [HH]; · iexact HH
    iexact HB
  iintro HB
  dsimp only [Prog.bind, Pure.pure]
  sl_step
  isplitl [HS]; · iexact HS
  isplitl [HB]; · iexact HB
  isplitl [HHs]; · iexact HHs
  iexact HXs

/-- A loop of waits before trip `k`: the copies' units consumed so far, or, after the last, everything delivered. -/
def wrest (sem : DmaSem sig) (N : ℕ) (D : Fin 1024 → sProp 𝕄) (k : ℕ) : sProp 𝕄 :=
  iprop((∃ W, owes (c : Thread nD τ) 0 W)
    ∗ (if k < 1024 then Transfers.Batch EC (c : Thread nD τ) (.dma sem) () N D 1024 (k * N)
       else iprop(bigSep Finset.univ D ∗ semVal ((c : Thread nD τ), SemLoc.dma sem) 0)))

/-- The same beside the staged token rows. -/
def winv (sem : DmaSem sig) (N : ℕ) (D : Fin 1024 → sProp 𝕄) (k : ℕ) (_ : Unit) : sProp 𝕄 :=
  iprop(sAt c arg2 fi ∗ wrest c sem N D k)

/-- One wait of a loop of waits, whatever view it names. -/
theorem wait_step (sem : DmaSem sig) (N : ℕ) (D : Fin 1024 → sProp 𝕄) (k : ℕ) (hk : k < 1024) {sp sp' : Space} {s s' : Shape} {e e' : EltTy}
    {srcw : Memref sig .tc sp' s' e'} {dstw : Memref sig .tc sp s e} {hsrc : srcw.view.WordExact} {hdst : dstw.view.WordExact}
    (hN : dstw.view.dmaCredit = N) (hN0 : 0 < N) :
    (iprop(sAt c arg2 fi ∗ wrest c sem N D k) : sProp 𝕄) ⊢ wp frame (wpE defs₀ Variants.none (c : Thread nD τ) none) Set.univ
      (.op (.waitDma2 sem srcw dstw hsrc hdst) fun _ => .ret ()) (fun _ => iprop(sAt c arg2 fi ∗ wrest c sem N D (k + 1))) := by
  unfold wrest
  rw [if_pos hk]
  iintro ⟨HS, ⟨%W, HO⟩, HB⟩
  rcases Nat.lt_or_ge (k + 1) 1024 with h1 | h1
  · simp only [if_pos h1]
    iapply (Transfers.wp_waitBatch EC Variants.none (c : Thread nD τ) none () hN (D := D) (u := k * N) (W := W)
      (by rw [← Nat.succ_mul, Nat.mul_comm N]; exact Nat.mul_lt_mul_of_pos_right h1 hN0)) $$ [HB HO]
    · isplitl [HB] <;> iassumption
    iintro ⟨HB, HO⟩
    sl_step
    isplitl [HS]; · iexact HS
    isplitl [HO]; · iexists _; iexact HO
    rw [Nat.succ_mul]; iexact HB
  · simp only [if_neg (Nat.not_lt.mpr h1)]
    iapply (Transfers.wp_waitBatchLast EC Variants.none (c : Thread nD τ) none () hN hN0 (D := D) (u := k * N) (W := W)
      (by rw [← Nat.succ_mul, Nat.mul_comm N, show k.succ = 1024 by omega])) $$ [HB HO]
    · isplitl [HB] <;> iassumption
    iintro ⟨HB, Hq, HO⟩
    sl_step
    isplitl [HS]; · iexact HS
    isplitl [HO]; · iexists _; iexact HO
    isplitl [HB] <;> iassumption

include hb hfi in
/-- One trip of the first loop of waits. -/
theorem trip3 (D : Fin 1024 → sProp 𝕄) (k : Fin k0_t3_loop.trips) (acc : Unit) :
    winv c arg2 fi 10 N1 D k.val acc ⊢ wp frame (wpE defs₀ Variants.none (c : Thread nD τ) none) Set.univ
      (k0_t3_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2 k acc)
      (winv c arg2 fi 10 N1 D (k.val + 1)) := by
  have hk : k.val < 1024 := Nat.lt_of_lt_of_le k.isLt k0_t3_abs.2.1
  unfold winv
  iintro ⟨HS, HB⟩
  dsimp only [k0_t3_body]
  sl_exec
  have hw : (trip3.sl.r c arg2 fi k).toNat = (tok ⟨k.val, hk⟩).val := by
    obtain ⟨w, e, e'⟩ := hfi ⟨k.val, hk⟩
    rw [← e', ← e]
    exact congrArg BitVec.toNat (word_read c arg2 fi ⟨k.val, hk⟩ _ _ (k0_off7_eq k) _)
  generalize trip3.sl.r c arg2 fi k = w at hw ⊢
  have hc : k0_chk3 i w := row_inb_h b _ _ (row_off b tok i hb w ⟨k.val, hk⟩ hw)
  iapply (wp_assume _ _ _ _ hc)
  dsimp only [Prog.lift, Prog.bind, Pure.pure, Bind.bind]
  iapply (wait_step c arg2 fi 10 N1 D k.val hk (srcw := hRow (k0_off9 i w) hc) (dstw := xRow (k0_off8 k) (k0_off8_inb k))
    (hsrc := (View.wordExact_bits rfl).reshape _ _) (hdst := View.wordExact_bits rfl) rfl (View.dmaCredit_pos _ (by decide)))
  isplitl [HS] <;> iassumption

include hb hfi in
/-- One trip of the second loop of waits. -/
theorem trip4 (D : Fin 1024 → sProp 𝕄) (k : Fin k0_t4_loop.trips) (acc : Unit) :
    winv c arg2 fi 11 N2 D k.val acc ⊢ wp frame (wpE defs₀ Variants.none (c : Thread nD τ) none) Set.univ
      (k0_t4_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2 k acc)
      (winv c arg2 fi 11 N2 D (k.val + 1)) := by
  have hk : k.val < 1024 := Nat.lt_of_lt_of_le k.isLt k0_t4_abs.2.1
  unfold winv
  iintro ⟨HS, HB⟩
  dsimp only [k0_t4_body]
  sl_exec
  have hw : (trip4.sl.r c arg2 fi k).toNat = (tok ⟨k.val, hk⟩).val := by
    obtain ⟨w, e, e'⟩ := hfi ⟨k.val, hk⟩
    rw [← e', ← e]
    exact congrArg BitVec.toNat (word_read c arg2 fi ⟨k.val, hk⟩ _ _ (k0_off10_eq k) _)
  generalize trip4.sl.r c arg2 fi k = w at hw ⊢
  have hc : k0_chk4 i w := row_inb_o b _ _ (row_off b tok i hb w ⟨k.val, hk⟩ hw)
  iapply (wp_assume _ _ _ _ hc)
  dsimp only [Prog.lift, Prog.bind, Pure.pure, Bind.bind]
  iapply (wait_step c arg2 fi 11 N2 D k.val hk (srcw := oRow (k0_off12 i w) hc) (dstw := rRow (k0_off11 k) (k0_off11_inb k))
    (hsrc := (View.wordExact_bits rfl).reshape _ _) (hdst := View.wordExact_bits rfl) rfl (View.dmaCredit_pos _ (by decide)))
  isplitl [HS] <;> iassumption

include hb hfi in
/-- One trip of the third loop of waits. -/
theorem trip6 (D : Fin 1024 → sProp 𝕄) (k : Fin k0_t6_loop.trips) (acc : Unit) :
    winv c arg2 fi 12 N3 D k.val acc ⊢ wp frame (wpE defs₀ Variants.none (c : Thread nD τ) none) Set.univ
      (k0_t6_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2 k acc)
      (winv c arg2 fi 12 N3 D (k.val + 1)) := by
  have hk : k.val < 1024 := Nat.lt_of_lt_of_le k.isLt k0_t6_abs.2.1
  unfold winv
  iintro ⟨HS, HB⟩
  dsimp only [k0_t6_body]
  sl_exec
  have hw : (trip6.sl.r c arg2 fi k).toNat = (tok ⟨k.val, hk⟩).val := by
    obtain ⟨w, e, e'⟩ := hfi ⟨k.val, hk⟩
    rw [← e', ← e]
    exact congrArg BitVec.toNat (word_read c arg2 fi ⟨k.val, hk⟩ _ _ (k0_off16_eq k) _)
  generalize trip6.sl.r c arg2 fi k = w at hw ⊢
  have hc : k0_chk6 i w := row_inb_o b _ _ (row_off b tok i hb w ⟨k.val, hk⟩ hw)
  iapply (wp_assume _ _ _ _ hc)
  dsimp only [Prog.lift, Prog.bind, Pure.pure, Bind.bind]
  iapply (wait_step c arg2 fi 12 N3 D k.val hk (srcw := rRow (k0_off18 k) (k0_off18_inb k)) (dstw := oRow (k0_off17 i w) hc)
    (hsrc := View.wordExact_bits rfl) (hdst := (View.wordExact_bits rfl).reshape _ _) rfl (View.dmaCredit_pos _ (by decide)))
  isplitl [HS] <;> iassumption

theorem trips1 : k0_t1_loop.trips = 1024 := by decide

include hb hfi in
/-- The first loop: every row of activations in flight. -/
theorem loop1 (fh : S4x8192x1152.Idx → Elt F .f32) (fx : S1024x1152.Idx → Elt F .f32) {β : Type} {kk : Unit → Prog (TpuEff nD τ sig (Elt F) Λ₀ .tc) β} {Q : β → sProp 𝕄} :
    (iprop(sAt c arg2 fi ∗ Transfers.Batch EC (c : Thread nD τ) (.dma 10) () N1 (D1 c b tok fh) 0 0 ∗ bigSep Finset.univ (hAt c b tok fh) ∗ bigSep Finset.univ (xAt c fx)) : sProp 𝕄)
      ⊢ iprop((iprop(sAt c arg2 fi ∗ Transfers.Batch EC (c : Thread nD τ) (.dma 10) () N1 (D1 c b tok fh) 1024 0) -∗ wp frame (wpE defs₀ Variants.none (c : Thread nD τ) none) Set.univ (kk ()) Q)
        -∗ wp frame (wpE defs₀ Variants.none (c : Thread nD τ) none) Set.univ
          (Scf.Loop.for k0_t1_loop k0_t1_ok ⟨⟩ (k0_t1_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2) >>= kk) Q) := by
  have hI := Scf.wp_for_bind frame (wpE defs₀ Variants.none (c : Thread nD τ) none) Set.univ k0_t1_loop.lb k0_t1_loop.ub k0_t1_loop.st k0_t1_ok ()
    (k0_t1_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2) (inv1 c b tok arg2 fi fh fx)
    (trip1 c b tok i hb arg2 harg2 arg4 harg4 arg5 harg5 arg6 harg6 arg7 harg7 arg8 harg8 fi hfi fh fx) (kk := kk) (Q := Q)
  iintro ⟨HS, HB, HA, HX⟩ HK
  iapply hI $$ [HS HB HA HX]
  · unfold inv1
    rw [Ring.rangeSet_univ]
    isplitl [HS]; · iexact HS
    isplitl [HB]; · iexact HB
    isplitl [HA] <;> iassumption
  iintro %acc HI
  iapply HK
  unfold inv1
  icases HI with ⟨HS, HB, -, -⟩
  isplitl [HS]; · iexact HS
  iexact HB

theorem trips2 : k0_t2_loop.trips = 1024 := by decide

include hb hfi in
/-- The second loop: every output row in flight. -/
theorem loop2 (fo : S4x8192x1024.Idx → Elt F .f32) (fr : S1024x1024.Idx → Elt F .f32) {β : Type} {kk : Unit → Prog (TpuEff nD τ sig (Elt F) Λ₀ .tc) β} {Q : β → sProp 𝕄} :
    (iprop(sAt c arg2 fi ∗ Transfers.Batch EC (c : Thread nD τ) (.dma 11) () N2 (D2 c b tok fo) 0 0 ∗ bigSep Finset.univ (oAt c b tok fo) ∗ bigSep Finset.univ (rAt c fr)) : sProp 𝕄)
      ⊢ iprop((iprop(sAt c arg2 fi ∗ Transfers.Batch EC (c : Thread nD τ) (.dma 11) () N2 (D2 c b tok fo) 1024 0) -∗ wp frame (wpE defs₀ Variants.none (c : Thread nD τ) none) Set.univ (kk ()) Q)
        -∗ wp frame (wpE defs₀ Variants.none (c : Thread nD τ) none) Set.univ
          (Scf.Loop.for k0_t2_loop k0_t2_ok ⟨⟩ (k0_t2_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2) >>= kk) Q) := by
  have hI := Scf.wp_for_bind frame (wpE defs₀ Variants.none (c : Thread nD τ) none) Set.univ k0_t2_loop.lb k0_t2_loop.ub k0_t2_loop.st k0_t2_ok ()
    (k0_t2_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2) (inv2 c b tok arg2 fi fo fr)
    (trip2 c b tok i hb arg2 harg2 arg4 harg4 arg5 harg5 arg6 harg6 arg7 harg7 arg8 harg8 fi hfi fo fr) (kk := kk) (Q := Q)
  iintro ⟨HS, HB, HA, HX⟩ HK
  iapply hI $$ [HS HB HA HX]
  · unfold inv2
    rw [Ring.rangeSet_univ]
    isplitl [HS]; · iexact HS
    isplitl [HB]; · iexact HB
    isplitl [HA] <;> iassumption
  iintro %acc HI
  iapply HK
  unfold inv2
  icases HI with ⟨HS, HB, -, -⟩
  isplitl [HS]; · iexact HS
  iexact HB

theorem trips3 : k0_t3_loop.trips = 1024 := by decide

include hb hfi in
/-- The third loop: every row of activations gathered. -/
theorem loop3 (D : Fin 1024 → sProp 𝕄) {β : Type} {kk : Unit → Prog (TpuEff nD τ sig (Elt F) Λ₀ .tc) β} {Q : β → sProp 𝕄} :
    (iprop(sAt c arg2 fi ∗ (∃ W, owes (c : Thread nD τ) 0 W) ∗ Transfers.Batch EC (c : Thread nD τ) (.dma 10) () N1 D 1024 0) : sProp 𝕄)
      ⊢ iprop((iprop(sAt c arg2 fi ∗ (∃ W, owes (c : Thread nD τ) 0 W) ∗ bigSep Finset.univ D ∗ semVal ((c : Thread nD τ), SemLoc.dma 10) 0)
          -∗ wp frame (wpE defs₀ Variants.none (c : Thread nD τ) none) Set.univ (kk ()) Q)
        -∗ wp frame (wpE defs₀ Variants.none (c : Thread nD τ) none) Set.univ
          (Scf.Loop.for k0_t3_loop k0_t3_ok ⟨⟩ (k0_t3_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2) >>= kk) Q) := by
  have hI := Scf.wp_for_bind frame (wpE defs₀ Variants.none (c : Thread nD τ) none) Set.univ k0_t3_loop.lb k0_t3_loop.ub k0_t3_loop.st k0_t3_ok ()
    (k0_t3_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2) (winv c arg2 fi 10 N1 D)
    (trip3 c b tok i hb arg2 harg2 arg4 harg4 arg5 harg5 arg6 harg6 arg7 harg7 arg8 harg8 fi hfi D) (kk := kk) (Q := Q)
  iintro ⟨HS, HO, HB⟩ HK
  iapply hI $$ [HS HB HO]
  · unfold winv wrest
    rw [if_pos (by decide), Nat.zero_mul]
    isplitl [HS]; · iexact HS
    isplitl [HO] <;> iassumption
  iintro %acc HI
  iapply HK
  unfold winv wrest
  rw [if_neg (by rw [show Scf.trips k0_t3_loop.lb k0_t3_loop.ub k0_t3_loop.st = 1024 from trips3]; decide)]
  iexact HI

theorem trips4 : k0_t4_loop.trips = 1024 := by decide

include hb hfi in
/-- The fourth loop: every output row gathered. -/
theorem loop4 (D : Fin 1024 → sProp 𝕄) {β : Type} {kk : Unit → Prog (TpuEff nD τ sig (Elt F) Λ₀ .tc) β} {Q : β → sProp 𝕄} :
    (iprop(sAt c arg2 fi ∗ (∃ W, owes (c : Thread nD τ) 0 W) ∗ Transfers.Batch EC (c : Thread nD τ) (.dma 11) () N2 D 1024 0) : sProp 𝕄)
      ⊢ iprop((iprop(sAt c arg2 fi ∗ (∃ W, owes (c : Thread nD τ) 0 W) ∗ bigSep Finset.univ D ∗ semVal ((c : Thread nD τ), SemLoc.dma 11) 0)
          -∗ wp frame (wpE defs₀ Variants.none (c : Thread nD τ) none) Set.univ (kk ()) Q)
        -∗ wp frame (wpE defs₀ Variants.none (c : Thread nD τ) none) Set.univ
          (Scf.Loop.for k0_t4_loop k0_t4_ok ⟨⟩ (k0_t4_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2) >>= kk) Q) := by
  have hI := Scf.wp_for_bind frame (wpE defs₀ Variants.none (c : Thread nD τ) none) Set.univ k0_t4_loop.lb k0_t4_loop.ub k0_t4_loop.st k0_t4_ok ()
    (k0_t4_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2) (winv c arg2 fi 11 N2 D)
    (trip4 c b tok i hb arg2 harg2 arg4 harg4 arg5 harg5 arg6 harg6 arg7 harg7 arg8 harg8 fi hfi D) (kk := kk) (Q := Q)
  iintro ⟨HS, HO, HB⟩ HK
  iapply hI $$ [HS HB HO]
  · unfold winv wrest
    rw [if_pos (by decide), Nat.zero_mul]
    isplitl [HS]; · iexact HS
    isplitl [HO] <;> iassumption
  iintro %acc HI
  iapply HK
  unfold winv wrest
  rw [if_neg (by rw [show Scf.trips k0_t4_loop.lb k0_t4_loop.ub k0_t4_loop.st = 1024 from trips4]; decide)]
  iexact HI

theorem trips5 : k0_t5_loop.trips = 1024 := by decide

include hb hfi in
/-- The fifth loop: every gathered row in flight to the output. -/
theorem loop5 (fn : S4x8192x1024.Idx → Elt F .f32) (fr : S1024x1024.Idx → Elt F .f32) (fo : S4x8192x1024.Idx → Elt F .f32) (hfn : ∀ (r : Fin 1024) (l : Fin 1024), fn (ix3 b (tok r) l) = fr (ix2 r l)) {β : Type} {kk : Unit → Prog (TpuEff nD τ sig (Elt F) Λ₀ .tc) β} {Q : β → sProp 𝕄} :
    (iprop(sAt c arg2 fi ∗ Transfers.Batch EC (c : Thread nD τ) (.dma 12) () N3 (D3 c b tok fn fr) 0 0 ∗ bigSep Finset.univ (oAt c b tok fo) ∗ bigSep Finset.univ (rAt c fr)) : sProp 𝕄)
      ⊢ iprop((iprop(sAt c arg2 fi ∗ Transfers.Batch EC (c : Thread nD τ) (.dma 12) () N3 (D3 c b tok fn fr) 1024 0) -∗ wp frame (wpE defs₀ Variants.none (c : Thread nD τ) none) Set.univ (kk ()) Q)
        -∗ wp frame (wpE defs₀ Variants.none (c : Thread nD τ) none) Set.univ
          (Scf.Loop.for k0_t5_loop k0_t5_ok ⟨⟩ (k0_t5_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2) >>= kk) Q) := by
  have hI := Scf.wp_for_bind frame (wpE defs₀ Variants.none (c : Thread nD τ) none) Set.univ k0_t5_loop.lb k0_t5_loop.ub k0_t5_loop.st k0_t5_ok ()
    (k0_t5_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2) (inv5 c b tok arg2 fi fn fr fo)
    (trip5 c b tok i hb arg2 harg2 arg4 harg4 arg5 harg5 arg6 harg6 arg7 harg7 arg8 harg8 fi hfi fn fr fo hfn) (kk := kk) (Q := Q)
  iintro ⟨HS, HB, HA, HX⟩ HK
  iapply hI $$ [HS HB HA HX]
  · unfold inv5
    rw [Ring.rangeSet_univ]
    isplitl [HS]; · iexact HS
    isplitl [HB]; · iexact HB
    isplitl [HA] <;> iassumption
  iintro %acc HI
  iapply HK
  unfold inv5
  icases HI with ⟨HS, HB, -, -⟩
  isplitl [HS]; · iexact HS
  iexact HB

theorem trips6 : k0_t6_loop.trips = 1024 := by decide

include hb hfi in
/-- The sixth loop: every output row written. -/
theorem loop6 (D : Fin 1024 → sProp 𝕄) {β : Type} {kk : Unit → Prog (TpuEff nD τ sig (Elt F) Λ₀ .tc) β} {Q : β → sProp 𝕄} :
    (iprop(sAt c arg2 fi ∗ (∃ W, owes (c : Thread nD τ) 0 W) ∗ Transfers.Batch EC (c : Thread nD τ) (.dma 12) () N3 D 1024 0) : sProp 𝕄)
      ⊢ iprop((iprop(sAt c arg2 fi ∗ (∃ W, owes (c : Thread nD τ) 0 W) ∗ bigSep Finset.univ D ∗ semVal ((c : Thread nD τ), SemLoc.dma 12) 0)
          -∗ wp frame (wpE defs₀ Variants.none (c : Thread nD τ) none) Set.univ (kk ()) Q)
        -∗ wp frame (wpE defs₀ Variants.none (c : Thread nD τ) none) Set.univ
          (Scf.Loop.for k0_t6_loop k0_t6_ok ⟨⟩ (k0_t6_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2) >>= kk) Q) := by
  have hI := Scf.wp_for_bind frame (wpE defs₀ Variants.none (c : Thread nD τ) none) Set.univ k0_t6_loop.lb k0_t6_loop.ub k0_t6_loop.st k0_t6_ok ()
    (k0_t6_body (F := F) i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2) (winv c arg2 fi 12 N3 D)
    (trip6 c b tok i hb arg2 harg2 arg4 harg4 arg5 harg5 arg6 harg6 arg7 harg7 arg8 harg8 fi hfi D) (kk := kk) (Q := Q)
  iintro ⟨HS, HO, HB⟩ HK
  iapply hI $$ [HS HB HO]
  · unfold winv wrest
    rw [if_pos (by decide), Nat.zero_mul]
    isplitl [HS]; · iexact HS
    isplitl [HO] <;> iassumption
  iintro %acc HI
  iapply HK
  unfold winv wrest
  rw [if_neg (by rw [show Scf.trips k0_t6_loop.lb k0_t6_loop.ub k0_t6_loop.st = 1024 from trips6]; decide)]
  iexact HI

end Cert.Moe

end
-- ==== Proof.Body.lean ====
/-
  One grid point of the kernel: sequence `b`'s chosen rows gathered, the expert's contribution added to the output rows
  gathered with them, and those written back.
-/
module

public import proofs.«01_k».proof.Proof.Loops
public import Idealize.ShloMosaic.Lib.VecWindow

@[expose] public section

noncomputable section

namespace Cert.Moe

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Rows

variable (tok : Fin 1024 → Fin 8192) (htok : Function.Injective tok) (b : Fin 4)

/-- The output after a point: the rows named by `tok` replaced by the rows `fr`. -/
def putRows (fr : S1024x1024.Idx → Elt F .f32) (fo : S4x8192x1024.Idx → Elt F .f32) : S4x8192x1024.Idx → Elt F .f32 := by
  classical
  exact fun y => if h : y 0 = b ∧ ∃ r, tok r = y 1 then fr (ix2 h.2.choose (y 2)) else fo y

include htok in
theorem putRows_row (fr : S1024x1024.Idx → Elt F .f32) (fo : S4x8192x1024.Idx → Elt F .f32) (r : Fin 1024) (l : Fin 1024) :
    putRows tok b fr fo (ix3 b (tok r) l) = fr (ix2 r l) := by
  have h : ((ix3 b (tok r) l : S4x8192x1024.Idx) 0 = b ∧ ∃ r', tok r' = (ix3 b (tok r) l : S4x8192x1024.Idx) 1) := ⟨rfl, r, rfl⟩
  unfold putRows
  refine (dif_pos h).trans ?_
  have e : h.2.choose = r := htok h.2.choose_spec
  rw [e]

theorem putRows_off (fr : S1024x1024.Idx → Elt F .f32) (fo : S4x8192x1024.Idx → Elt F .f32) (y : S4x8192x1024.Idx)
    (h : y 0 = b → ∀ r, tok r ≠ y 1) : putRows tok b fr fo y = fo y := by
  unfold putRows
  exact dif_neg fun ⟨h0, r, hr⟩ => h h0 r hr

/-- The rows of the padded activations the point reads; -/
def hRows : Finset S4x8192x1152.Idx := Finset.univ.biUnion fun r => hSet b (tok r)
/-- those of the output it replaces. -/
def oRows : Finset S4x8192x1024.Idx := Finset.univ.biUnion fun r => oSet b (tok r)

variable (c : Dev nD)

include htok in
theorem h_rows (fh : S4x8192x1152.Idx → Elt F .f32) :
    ((((c : Thread nD τ).loc main_v1) ↦[hRows tok b]{fullShare} fh) : sProp 𝕄) = bigSep Finset.univ (hAt c b tok fh) := by
  unfold hRows hAt
  exact pointsTo_biUnion Finset.univ _ fun r _ r' _ h => Finset.disjoint_left.mpr fun y hy hy' =>
    h (htok ((mem_hSet.mp hy).2.symm.trans (mem_hSet.mp hy').2))

include htok in
theorem o_rows (fo : S4x8192x1024.Idx → Elt F .f32) :
    ((((c : Thread nD τ).loc main_v6) ↦[oRows tok b]{fullShare} fo) : sProp 𝕄) = bigSep Finset.univ (oAt c b tok fo) := by
  unfold oRows oAt
  exact pointsTo_biUnion Finset.univ _ fun r _ r' _ h => Finset.disjoint_left.mpr fun y hy hy' =>
    h (htok ((mem_oSet.mp hy).2.symm.trans (mem_oSet.mp hy').2))

theorem mem_oRows {y : S4x8192x1024.Idx} : y ∈ oRows tok b ↔ ∃ r, y 0 = b ∧ y 1 = tok r := by
  unfold oRows
  rw [Finset.mem_biUnion]
  exact ⟨fun ⟨r, _, h⟩ => ⟨r, mem_oSet.mp h⟩, fun ⟨r, h⟩ => ⟨r, Finset.mem_univ r, mem_oSet.mpr h⟩⟩

/-- Off the rows replaced, the output is as it was. -/
theorem rest_eq (fr : S1024x1024.Idx → Elt F .f32) (fo : S4x8192x1024.Idx → Elt F .f32) (R : Finset S4x8192x1024.Idx)
    (hR : ∀ y ∈ R, y ∉ oRows tok b) :
    ((((c : Thread nD τ).loc main_v6) ↦[R]{fullShare} fo) : sProp 𝕄)
      = (((c : Thread nD τ).loc main_v6) ↦[R]{fullShare} putRows tok b fr fo) := by
  have h : ∀ y : S4x8192x1024.Idx, y ∈ R → fo y = putRows tok b fr fo y := by
    intro y hy
    symm
    apply putRows_off
    intro h0 r hr
    refine hR y hy ?_
    rw [mem_oRows]
    exact ⟨r, h0, hr.symm⟩
  exact pointsTo_congr h

theorem x_rows (fx : S1024x1152.Idx → Elt F .f32) :
    (((Memref.whole cc0_scratch0).view.loc (c : Thread nD τ) ↦{fullShare} fx) : sProp 𝕄) = bigSep Finset.univ (xAt c fx) :=
  Ring.pointsTo_blocks (ℓ := (c : Thread nD τ).loc cc0_scratch0) (q := fullShare) xSet
    (fun r r' h => Finset.disjoint_left.mpr fun y hy hy' => h ((mem_xSet.mp hy).symm.trans (mem_xSet.mp hy')))
    (by ext y; simp only [Finset.mem_biUnion, Finset.mem_univ, true_and, iff_true]; exact ⟨y 0, mem_xSet.mpr rfl⟩) fx

theorem r_rows (fr : S1024x1024.Idx → Elt F .f32) :
    (((Memref.whole cc0_scratch1).view.loc (c : Thread nD τ) ↦{fullShare} fr) : sProp 𝕄) = bigSep Finset.univ (rAt c fr) :=
  Ring.pointsTo_blocks (ℓ := (c : Thread nD τ).loc cc0_scratch1) (q := fullShare) rSet
    (fun r r' h => Finset.disjoint_left.mpr fun y hy hy' => h ((mem_rSet.mp hy).symm.trans (mem_rSet.mp hy')))
    (by ext y; simp only [Finset.mem_biUnion, Finset.mem_univ, true_and, iff_true]; exact ⟨y 0, mem_rSet.mpr rfl⟩) fr

end Rows

/-- A store of the whole buffer of output rows leaves the rows stored. -/
theorem full_writes (f : S1024x1024.Idx → Elt F .f32) (w : S1024x1024.Idx → Elt F .f32) :
    (Memref.whole cc0_scratch1).view.writes (Elt F) f [⟨Rect.unit (s := S1024x1024) ![0, 0] S1024x1024.size inb_S1024x1024_S1024x1024_0_0, w⟩] = w := by
  have h := View.read_writes_full (Val := Elt F) (Memref.whole cc0_scratch1).view f (off := ![0, 0]) inb_S1024x1024_S1024x1024_0_0 w []
  rw [View.read_whole] at h
  exact h

/-! ## The values of a point -/

section Values

/-- The expert's first partial results, from the gathered activations and its weights. -/
def val1 (e : BitVec 32) (xe : S1024x1152.Idx → Elt F .f32) (X6 X7 : S1x1024x2048.Idx → Elt F .bf16) (X8 : S1x2048x1024.Idx → Elt F .bf16) :
    Σ' (arg0 : BitVec 32) (v4 : FVec F S1024x1024 .bf16) (v19 : FVec F S1024x1024 .f32), FVec F S1024x512 .f32 :=
  ⟨e, k0_pay1 (fun j => xe ((Rect.unit (s := S1024x1152) ![0, 0] S1024x1024.size inb_S1024x1152_S1024x1024_0_0).toLoadRect.idx j)),
    k0_pay2 (fun j => xe ((Rect.unit (s := S1024x1152) ![0, 0] S1024x1024.size inb_S1024x1152_S1024x1024_0_0).toLoadRect.idx j))
      (fun j => X6 ((Rect.unit (s := S1x1024x2048) ![0, 0, 0] S1x1024x512.size inb_S1x1024x2048_S1x1024x512_0_0_0).toLoadRect.idx j))
      (fun j => X7 ((Rect.unit (s := S1x1024x2048) ![0, 0, 0] S1x1024x512.size inb_S1x1024x2048_S1x1024x512_0_0_0).toLoadRect.idx j))
      (fun j => X8 ((Rect.unit (s := S1x2048x1024) ![0, 0, 0] S1x512x1024.size inb_S1x2048x1024_S1x512x1024_0_0_0).toLoadRect.idx j)),
    k0_pay3 (fun j => xe ((Rect.unit (s := S1024x1152) ![0, 0] S1024x1024.size inb_S1024x1152_S1024x1024_0_0).toLoadRect.idx j))
      (fun j => X6 ((Rect.unit (s := S1x1024x2048) ![0, 0, 512] S1x1024x512.size inb_S1x1024x2048_S1x1024x512_0_0_512).toLoadRect.idx j))⟩

/-- The next. -/
def val2 (v4 : FVec F S1024x1024 .bf16) (v19 : FVec F S1024x1024 .f32) (v22 : FVec F S1024x512 .f32)
    (X6 X7 : S1x1024x2048.Idx → Elt F .bf16) (X8 : S1x2048x1024.Idx → Elt F .bf16) :
    Σ' (v47 : FVec F S1024x1024 .f32) (v53 : FVec F S1024x512 .f32), FVec F S1024x512 .f32 :=
  ⟨k0_pay4 v4 v19 v22
      (fun j => X7 ((Rect.unit (s := S1x1024x2048) ![0, 0, 512] S1x1024x512.size inb_S1x1024x2048_S1x1024x512_0_0_512).toLoadRect.idx j))
      (fun j => X8 ((Rect.unit (s := S1x2048x1024) ![0, 512, 0] S1x512x1024.size inb_S1x2048x1024_S1x512x1024_0_512_0).toLoadRect.idx j))
      (fun j => X6 ((Rect.unit (s := S1x1024x2048) ![0, 0, 1024] S1x1024x512.size inb_S1x1024x2048_S1x1024x512_0_0_1024).toLoadRect.idx j))
      (fun j => X7 ((Rect.unit (s := S1x1024x2048) ![0, 0, 1024] S1x1024x512.size inb_S1x1024x2048_S1x1024x512_0_0_1024).toLoadRect.idx j))
      (fun j => X8 ((Rect.unit (s := S1x2048x1024) ![0, 1024, 0] S1x512x1024.size inb_S1x2048x1024_S1x512x1024_0_1024_0).toLoadRect.idx j)),
    k0_pay5 v4 (fun j => X7 ((Rect.unit (s := S1x1024x2048) ![0, 0, 1536] S1x1024x512.size inb_S1x1024x2048_S1x1024x512_0_0_1536).toLoadRect.idx j)),
    k0_pay6 v4 (fun j => X6 ((Rect.unit (s := S1x1024x2048) ![0, 0, 1536] S1x1024x512.size inb_S1x1024x2048_S1x1024x512_0_0_1536).toLoadRect.idx j))⟩

/-- The output rows with expert `e`'s contribution: from the gathered activations `xe`, the scale row `X5`, the expert's
    three weights and the gathered output rows `og`. -/
def newRows (e : BitVec 32) (xe : S1024x1152.Idx → Elt F .f32) (X5 : S1x1x1024.Idx → Elt F .f32) (X6 X7 : S1x1024x2048.Idx → Elt F .bf16)
    (X8 : S1x2048x1024.Idx → Elt F .bf16) (og : S1024x1024.Idx → Elt F .f32) : S1024x1024.Idx → Elt F .f32 :=
  let p := val1 e xe X6 X7 X8
  let q := val2 p.2.1 p.2.2.1 p.2.2.2 X6 X7 X8
  k0_pay7 p.1 q.1 q.2.1 q.2.2
    (fun j => X8 ((Rect.unit (s := S1x2048x1024) ![0, 1536, 0] S1x512x1024.size inb_S1x2048x1024_S1x512x1024_0_1536_0).toLoadRect.idx j))
    (fun j => xe ((Rect.unit (s := S1024x1152) ![0, 1024] S1024x128.size inb_S1024x1152_S1024x128_0_1024).toLoadRect.idx j))
    (fun j => og ((Rect.unit (s := S1024x1024) ![0, 0] S1024x1024.size inb_S1024x1024_S1024x1024_0_0).toLoadRect.idx j))
    (fun j => X5 ((Rect.unit (s := S1x1x1024) ![0, 0, 0] S1x1x1024.size inb_S1x1x1024_S1x1x1024_0_0_0).toLoadRect.idx j))

end Values

/-! ## The run of a point -/

section Point

variable (c : Dev nD) (b : Fin 4) (tok : Fin 1024 → Fin 8192) (htok : Function.Injective tok) (i : grid0.Coords) (hb : (i 1).val = b.val)
    (arg2 : Memref sig .tc .smem S1x1x1x1024 .i32) (harg2 : arg2.IsWhole)
    (arg4 : Memref sig .tc .hbm S4x8192x1024 .f32) (harg4 : arg4.IsWhole)
    (arg5 : Memref sig .tc .vmem S1x1x1024 .f32) (harg5 : arg5.IsWhole) (arg6 : Memref sig .tc .vmem S1x1024x2048 .bf16) (harg6 : arg6.IsWhole)
    (arg7 : Memref sig .tc .vmem S1x1024x2048 .bf16) (harg7 : arg7.IsWhole) (arg8 : Memref sig .tc .vmem S1x2048x1024 .bf16) (harg8 : arg8.IsWhole)
    (fi : Buf (Elt F) (arg2.view.loc (c : Thread nD τ)))
    (hfi : ∀ r : Fin 1024, ∃ w : BitVec 32, arg2.view.read (Elt F) fi (ix4 (0 : Fin 1) (0 : Fin 1) (0 : Fin 1) r) = w ∧ w.toNat = (tok r).val)
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ)))
    (fh : S4x8192x1152.Idx → Elt F .f32) (fo : S4x8192x1024.Idx → Elt F .f32) (fx : S1024x1152.Idx → Elt F .f32) (fr : S1024x1024.Idx → Elt F .f32)

/-- A window's staging buffer held whole. -/
abbrev win {sp : Space} {s : Shape} {e : EltTy} (a : Memref sig .tc sp s e) (f : Buf (Elt F) (a.view.loc (c : Thread nD τ))) : sProp 𝕄 :=
  a.view.loc (c : Thread nD τ) ↦[a.view.set]{fullShare} f
/-- A buffer held whole. -/
abbrev held (r : Ref sig .tc) (f : r.ty.Contents (Elt F)) : sProp 𝕄 :=
  (Memref.whole r).view.loc (c : Thread nD τ) ↦{fullShare} f

include hb hfi in
/-- The first part: the rows of activations gathered, those of the output in flight. -/
theorem part1_run {Q : _ → sProp 𝕄} :
    (iprop(sAt c arg2 fi ∗ (∃ W, owes (c : Thread nD τ) 0 W) ∗ bigSep Finset.univ (hAt c b tok fh) ∗ bigSep Finset.univ (oAt c b tok fo)
      ∗ held c cc0_scratch0 fx ∗ held c cc0_scratch1 fr ∗ semVal ((c : Thread nD τ), SemLoc.dma 10) 0 ∗ semVal ((c : Thread nD τ), SemLoc.dma 11) 0
      ∗ win c arg6 f6 ∗ win c arg7 f7 ∗ win c arg8 f8) : sProp 𝕄)
    ⊢ iprop((iprop(sAt c arg2 fi ∗ (∃ W, owes (c : Thread nD τ) 0 W) ∗ bigSep Finset.univ (hAt c b tok fh)
          ∗ Transfers.Batch EC (c : Thread nD τ) (.dma 11) () N2 (D2 c b tok fo) 1024 0
          ∗ held c cc0_scratch0 (gath b tok fh) ∗ semVal ((c : Thread nD τ), SemLoc.dma 10) 0
          ∗ win c arg6 f6 ∗ win c arg7 f7 ∗ win c arg8 f8)
        -∗ Q (val1 (BitVec.ofNat 32 (i 0).val) (gath b tok fh) (arg6.view.read (Elt F) f6) (arg7.view.read (Elt F) f7) (arg8.view.read (Elt F) f8)))
      -∗ wp frame (wpE defs₀ Variants.none (c : Thread nD τ) none) Set.univ (k0_part1 i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2) Q) := by
  rw [k0_part1_eq_skeleton]
  unfold k0_part1_skel
  dsimp only
  iintro ⟨HS, HO, Hh, Ho, Hx, Hr, Hq0, Hq1, H6, H7, H8⟩ HQ
  ihave Hx := (Entails.of_eq (x_rows c fx)) $$ Hx
  ihave Hr := (Entails.of_eq (r_rows c fr)) $$ Hr
  imod (Transfers.batch_alloc' (Lvl := ℕ) EC (c : Thread nD τ) () N1 (D1 c b tok fh) (sm := SemLoc.dma 10) (E := Set.univ)) $$ Hq0 with HB0
  imod (Transfers.batch_alloc' (Lvl := ℕ) EC (c : Thread nD τ) () N2 (D2 c b tok fo) (sm := SemLoc.dma 11) (E := Set.univ)) $$ Hq1 with HB1
  iapply (loop1 c b tok i hb arg2 harg2 arg4 harg4 arg5 harg5 arg6 harg6 arg7 harg7 arg8 harg8 fi hfi fh fx) $$ [HS HB0 Hh Hx]
  · isplitl [HS]; · iexact HS
    isplitl [HB0]; · iexact HB0
    isplitl [Hh] <;> iassumption
  iintro ⟨HS, HB0⟩
  iapply (loop2 c b tok i hb arg2 harg2 arg4 harg4 arg5 harg5 arg6 harg6 arg7 harg7 arg8 harg8 fi hfi fo fr) $$ [HS HB1 Ho Hr]
  · isplitl [HS]; · iexact HS
    isplitl [HB1]; · iexact HB1
    isplitl [Ho] <;> iassumption
  iintro ⟨HS, HB1⟩
  iapply (loop3 c b tok i hb arg2 harg2 arg4 harg4 arg5 harg5 arg6 harg6 arg7 harg7 arg8 harg8 fi hfi (D1 c b tok fh)) $$ [HS HB0 HO]
  · isplitl [HS]; · iexact HS
    isplitl [HO] <;> iassumption
  iintro ⟨HS, HO, HD, Hq0⟩
  ihave HD' := (show bigSep Finset.univ (D1 c b tok fh) ⊢ iprop(bigSep Finset.univ (xAt c (gath b tok fh)) ∗ bigSep Finset.univ (hAt c b tok fh))
    from Entails.of_eq (BI.bigSep_sep _ _ _)) $$ HD
  icases HD' with ⟨Hx, Hh⟩
  ihave Hx := (Entails.of_eq (x_rows c (gath b tok fh)).symm) $$ Hx
  sl_exec
  sl_step
  change _ ⊢ Q (val1 (BitVec.ofNat 32 (i 0).val) (gath b tok fh) (arg6.view.read (Elt F) f6) (arg7.view.read (Elt F) f7) (arg8.view.read (Elt F) f8))
  iintro ⟨⟨⟨⟨⟨⟨⟨⟨⟨H6, H7⟩, H8⟩, HQ⟩, HB1⟩, HS⟩, HO⟩, Hq0⟩, Hh⟩, Hx⟩
  iapply HQ
  isplitl [HS]; · iexact HS
  isplitl [HO]; · iexact HO
  isplitl [Hh]; · iexact Hh
  isplitl [HB1]; · iexact HB1
  isplitl [Hx]; · iexact Hx
  isplitl [Hq0]; · iexact Hq0
  isplitl [H6]; · iexact H6
  isplitl [H7] <;> iassumption

/-- The second part: arithmetic on the weights alone. -/
theorem part2_run (v4 : FVec F S1024x1024 .bf16) (v19 : FVec F S1024x1024 .f32) (v22 : FVec F S1024x512 .f32) {Q : _ → sProp 𝕄} :
    (iprop(win c arg6 f6 ∗ win c arg7 f7 ∗ win c arg8 f8) : sProp 𝕄)
    ⊢ iprop((iprop(win c arg6 f6 ∗ win c arg7 f7 ∗ win c arg8 f8)
        -∗ Q (val2 v4 v19 v22 (arg6.view.read (Elt F) f6) (arg7.view.read (Elt F) f7) (arg8.view.read (Elt F) f8)))
      -∗ wp frame (wpE defs₀ Variants.none (c : Thread nD τ) none) Set.univ (k0_part2 i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2 v4 v19 v22) Q) := by
  rw [k0_part2_eq_skeleton]
  unfold k0_part2_skel
  iintro ⟨H6, H7, H8⟩ HQ
  sl_exec
  sl_step
  change _ ⊢ Q (val2 v4 v19 v22 (arg6.view.read (Elt F) f6) (arg7.view.read (Elt F) f7) (arg8.view.read (Elt F) f8))
  iintro ⟨⟨⟨H6, H7⟩, H8⟩, HQ⟩
  iapply HQ
  isplitl [H6]; · iexact H6
  isplitl [H7] <;> iassumption

include hb hfi htok in
set_option maxHeartbeats 2000000 in
/-- A grid point: from the buffers held whole and the three cells at zero to the same, the output with the rows `tok` names
    replaced. -/
theorem point_run :
    (iprop(sAt c arg2 fi ∗ (∃ W, owes (c : Thread nD τ) 0 W) ∗ held c main_v1 fh ∗ held c main_v6 fo
      ∗ held c cc0_scratch0 fx ∗ held c cc0_scratch1 fr ∗ semVal ((c : Thread nD τ), SemLoc.dma 10) 0 ∗ semVal ((c : Thread nD τ), SemLoc.dma 11) 0
      ∗ semVal ((c : Thread nD τ), SemLoc.dma 12) 0
      ∗ win c arg5 f5 ∗ win c arg6 f6 ∗ win c arg7 f7 ∗ win c arg8 f8) : sProp 𝕄)
    ⊢ wp frame (wpE defs₀ Variants.none (c : Thread nD τ) none) Set.univ (cc0_moe_experts i arg2 harg2 (Memref.whole main_v1) (Memref.isWhole_whole _) arg4 harg4 arg5 harg5 arg6 harg6 arg7 harg7 arg8 harg8 (Memref.whole main_v6) (Memref.isWhole_whole _) (Memref.whole cc0_scratch0) (Memref.isWhole_whole _) (Memref.whole cc0_scratch1) (Memref.isWhole_whole _) cc0_scratch2) (fun _ => iprop(
        sAt c arg2 fi ∗ (∃ W, owes (c : Thread nD τ) 0 W) ∗ held c main_v1 fh
        ∗ held c main_v6 (putRows tok b (newRows (BitVec.ofNat 32 (i 0).val) (gath b tok fh) (arg5.view.read (Elt F) f5) (arg6.view.read (Elt F) f6)
            (arg7.view.read (Elt F) f7) (arg8.view.read (Elt F) f8) (gath b tok fo)) fo)
        ∗ (∃ g, held c cc0_scratch0 g) ∗ (∃ g, held c cc0_scratch1 g)
        ∗ semVal ((c : Thread nD τ), SemLoc.dma 10) 0 ∗ semVal ((c : Thread nD τ), SemLoc.dma 11) 0 ∗ semVal ((c : Thread nD τ), SemLoc.dma 12) 0
        ∗ win c arg5 f5 ∗ win c arg6 f6 ∗ win c arg7 f7 ∗ win c arg8 f8)) := by
  rw [cc0_moe_experts_eq_skeleton]
  unfold cc0_moe_experts_skel
  rw [k0_part3_eq_skeleton]
  unfold k0_part3_skel
  iintro ⟨HS, HO, Hh, Ho, Hx, Hr, Hq0, Hq1, Hq2, H5, H6, H7, H8⟩
  ihave Hh := (pointsTo_split_subset (Finset.subset_univ (hRows tok b))).1 $$ Hh
  icases Hh with ⟨Hh, Hh'⟩
  ihave Hh := (Entails.of_eq (h_rows tok htok b c fh)) $$ Hh
  ihave Ho := (pointsTo_split_subset (Finset.subset_univ (oRows tok b))).1 $$ Ho
  icases Ho with ⟨Ho, Ho'⟩
  ihave Ho := (Entails.of_eq (o_rows tok htok b c fo)) $$ Ho
  rw [wp_bind, wp_bind]
  iapply (part1_run c b tok i hb arg2 harg2 arg4 harg4 arg5 harg5 arg6 harg6 arg7 harg7 arg8 harg8 fi hfi f6 f7 f8 fh fo fx fr)
    $$ [HS HO Hh Ho Hx Hr Hq0 Hq1 H6 H7 H8]
  · isplitl [HS]; · iexact HS
    isplitl [HO]; · iexact HO
    isplitl [Hh]; · iexact Hh
    isplitl [Ho]; · iexact Ho
    isplitl [Hx]; · iexact Hx
    isplitl [Hr]; · iexact Hr
    isplitl [Hq0]; · iexact Hq0
    isplitl [Hq1]; · iexact Hq1
    isplitl [H6]; · iexact H6
    isplitl [H7] <;> iassumption
  iintro ⟨HS, HO, Hh, HB1, Hx, Hq0, H6, H7, H8⟩
  dsimp only [val1]
  rw [wp_bind]
  iapply (part2_run c i arg2 harg2 arg4 harg4 arg5 harg5 arg6 harg6 arg7 harg7 arg8 harg8 f6 f7 f8) $$ [H6 H7 H8]
  · isplitl [H6]; · iexact H6
    isplitl [H7] <;> iassumption
  iintro ⟨H6, H7, H8⟩
  dsimp only [val2]
  sl_exec
  iapply (loop4 c b tok i hb arg2 harg2 arg4 harg4 arg5 harg5 arg6 harg6 arg7 harg7 arg8 harg8 fi hfi (D2 c b tok fo)) $$ [HS HB1 HO]
  · isplitl [HS]; · iexact HS
    isplitl [HO] <;> iassumption
  iintro ⟨HS, HO, HD, Hq1⟩
  ihave HD' := (show bigSep Finset.univ (D2 c b tok fo) ⊢ iprop(bigSep Finset.univ (rAt c (gath b tok fo)) ∗ bigSep Finset.univ (oAt c b tok fo))
    from Entails.of_eq (BI.bigSep_sep _ _ _)) $$ HD
  icases HD' with ⟨Hr, Ho⟩
  ihave Hr := (Entails.of_eq (r_rows c (gath b tok fo)).symm) $$ Hr
  sl_exec
  have hn : (Memref.whole cc0_scratch1).view.writes (Elt F) (Memref.whole cc0_scratch1).view.junk
      (point_run.sl.Hr_1 c b tok i arg5 arg6 arg7 arg8 f5 f6 f7 f8 fh fo)
      = newRows (BitVec.ofNat 32 (i 0).val) (gath b tok fh) (arg5.view.read (Elt F) f5) (arg6.view.read (Elt F) f6)
            (arg7.view.read (Elt F) f7) (arg8.view.read (Elt F) f8) (gath b tok fo) := by
    unfold point_run.sl.Hr_1
    exact (full_writes _ _).trans rfl
  rw [hn]
  generalize hnr : newRows (BitVec.ofNat 32 (i 0).val) (gath b tok fh) (arg5.view.read (Elt F) f5) (arg6.view.read (Elt F) f6)
            (arg7.view.read (Elt F) f7) (arg8.view.read (Elt F) f8) (gath b tok fo) = nr
  ihave Hr := (Entails.of_eq (r_rows c nr)) $$ Hr
  imod (Transfers.batch_alloc' (Lvl := ℕ) EC (c : Thread nD τ) () N3 (D3 c b tok (putRows tok b nr fo) nr) (sm := SemLoc.dma 12) (E := Set.univ)) $$ Hq2 with HB2
  iapply (loop5 c b tok i hb arg2 harg2 arg4 harg4 arg5 harg5 arg6 harg6 arg7 harg7 arg8 harg8 fi hfi (putRows tok b nr fo) nr fo
    (putRows_row tok htok b nr fo)) $$ [HS HB2 Ho Hr]
  · isplitl [HS]; · iexact HS
    isplitl [HB2]; · iexact HB2
    isplitl [Ho] <;> iassumption
  iintro ⟨HS, HB2⟩
  iapply (loop6 c b tok i hb arg2 harg2 arg4 harg4 arg5 harg5 arg6 harg6 arg7 harg7 arg8 harg8 fi hfi (D3 c b tok (putRows tok b nr fo) nr)) $$ [HS HB2 HO]
  · isplitl [HS]; · iexact HS
    isplitl [HO] <;> iassumption
  iintro ⟨HS, HO, HD, Hq2⟩
  ihave HD' := (show bigSep Finset.univ (D3 c b tok (putRows tok b nr fo) nr)
      ⊢ iprop(bigSep Finset.univ (oAt c b tok (putRows tok b nr fo)) ∗ bigSep Finset.univ (rAt c nr))
    from Entails.of_eq (BI.bigSep_sep _ _ _)) $$ HD
  icases HD' with ⟨Ho, Hr⟩
  ihave Hr := (Entails.of_eq (r_rows c nr).symm) $$ Hr
  ihave Hh := (Entails.of_eq (h_rows tok htok b c fh).symm) $$ Hh
  ihave Ho := (Entails.of_eq (o_rows tok htok b c (putRows tok b nr fo)).symm) $$ Ho
  ihave Ho' := (Entails.of_eq (rest_eq tok b c nr fo _ fun y hy => (Finset.mem_sdiff.mp hy).2)) $$ Ho'
  ihave Hh := (pointsTo_split_subset (ℓ := (c : Thread nD τ).loc main_v1) (q := fullShare) (f := fh) (Finset.subset_univ (hRows tok b))).2 $$ [Hh Hh']
  · isplitl [Hh] <;> iassumption
  ihave Ho := (pointsTo_split_subset (ℓ := (c : Thread nD τ).loc main_v6) (q := fullShare) (f := putRows tok b nr fo) (Finset.subset_univ (oRows tok b))).2 $$ [Ho Ho']
  · isplitl [Ho] <;> iassumption
  sl_step
  sl_step
  isplitl [HS]; · iexact HS
  isplitl [HO]; · iexact HO
  isplitl [Hh]; · iexact Hh
  isplitl [Ho]; · iexact Ho
  isplitl [Hx]; · iexists _; iexact Hx
  isplitl [Hr]; · iexists _; iexact Hr
  isplitl [Hq0]; · iexact Hq0
  isplitl [Hq1]; · iexact Hq1
  isplitl [Hq2]; · iexact Hq2
  isplitl [H5]; · iexact H5
  isplitl [H6]; · iexact H6
  isplitl [H7] <;> iassumption

end Point

end Cert.Moe

end
-- ==== Proof.Entry.lean ====
/-
  What the kernel's region finds: the host operations before it give the activations beside the padded affinities, the three
  weights in bfloat16, the token table reshaped, and the residual stream copied into the output; and what each window's block
  reads of them.
-/
module

public import proofs.«01_k».proof.Proof.Body
public import proofs.«01_k».proof.Proof.Gen.KernelIdeal.Frame
public import Idealize.ShloMosaic.Lib.Pipeline.ValueKit
public import Idealize.ShloMosaic.Lib.Claim
public import Idealize.ShloMosaic.Lib.Pointwise

@[expose] public section

noncomputable section

namespace Cert.Moe

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (c : Dev nD)

/-- An argument's contents at launch. -/
abbrev argAt (r : Ref sig .tc) : r.ty.Contents (Elt F) := m ((c : Thread nD τ).loc r)

theorem V_v6 : V m c main_v6 = argAt m c main_arg3 := by
  show StableHlo.after (List.flatten [hostOps0, hostOps0_1, hostOps0_2]) _ (Proc.devRef .tc main_v6) = _
  simp only [hostOps0, hostOps0_1, hostOps0_2, List.flatten_cons, List.flatten_nil, List.cons_append, List.nil_append]
  after_results
  rfl

theorem V_v5 : V m c main_v5 = shapeCast S4x16x1x1024 (argAt m c main_arg0 : S4x16x1024.Idx → BitVec 32) shapeCasts_S4x16x1024_S4x16x1x1024 := by
  show StableHlo.after (List.flatten [hostOps0, hostOps0_1, hostOps0_2]) _ (Proc.devRef .tc main_v5) = _
  simp only [hostOps0, hostOps0_1, hostOps0_2, List.flatten_cons, List.flatten_nil, List.cons_append, List.nil_append]
  after_results
  rfl

theorem V_v2 : V m c main_v2 = (truncf .bf16 (argAt m c main_arg5 : S16x1024x2048.Idx → F .f32) bitsLt_bf16_f32 : FVec F S16x1024x2048 .bf16) := by
  show StableHlo.after (List.flatten [hostOps0, hostOps0_1, hostOps0_2]) _ (Proc.devRef .tc main_v2) = _
  simp only [hostOps0, hostOps0_1, hostOps0_2, List.flatten_cons, List.flatten_nil, List.cons_append, List.nil_append]
  after_results

theorem V_v3 : V m c main_v3 = (truncf .bf16 (argAt m c main_arg6 : S16x1024x2048.Idx → F .f32) bitsLt_bf16_f32 : FVec F S16x1024x2048 .bf16) := by
  show StableHlo.after (List.flatten [hostOps0, hostOps0_1, hostOps0_2]) _ (Proc.devRef .tc main_v3) = _
  simp only [hostOps0, hostOps0_1, hostOps0_2, List.flatten_cons, List.flatten_nil, List.cons_append, List.nil_append]
  after_results

theorem V_v4 : V m c main_v4 = (truncf .bf16 (argAt m c main_arg7 : S16x2048x1024.Idx → F .f32) bitsLt_bf16_f32 : FVec F S16x2048x1024 .bf16) := by
  show StableHlo.after (List.flatten [hostOps0, hostOps0_1, hostOps0_2]) _ (Proc.devRef .tc main_v4) = _
  simp only [hostOps0, hostOps0_1, hostOps0_2, List.flatten_cons, List.flatten_nil, List.cons_append, List.nil_append]
  after_results

/-- The affinities padded to a lane row with the integer zero converted. -/
abbrev padAff : S4x8192x128.Idx → F .f32 :=
  pad S4x8192x128 ![0, 0, 0] ![0, 0, 112] ![0, 0, 0] (argAt m c main_arg2 : S4x8192x16.Idx → F .f32)
    (sitofp .f32 (constantI S_ 32 0#32)) pads_S4x8192x16_S4x8192x128_000_000_01120 h_S_

theorem V_v1 : V m c main_v1 = concatenate S4x8192x1152 2 [⟨S4x8192x1024, (argAt m c main_arg1 : S4x8192x1024.Idx → F .f32)⟩, ⟨S4x8192x128, padAff m c⟩]
    concatenates_S4x8192x1024_S4x8192x128_S4x8192x1152_d2 := by
  show StableHlo.after (List.flatten [hostOps0, hostOps0_1, hostOps0_2]) _ (Proc.devRef .tc main_v1) = _
  simp only [hostOps0, hostOps0_1, hostOps0_2, List.flatten_cons, List.flatten_nil, List.cons_append, List.nil_append]
  after_results
  rfl

/-! ## The blocks -/

/-- The expert of a grid point; -/
def eAt (t : Fin cfg0.N) : Fin 16 := ⟨(grid0.coords t 0).val, (grid0.coords t 0).isLt⟩
/-- its batch. -/
def bAt (t : Fin cfg0.N) : Fin 4 := ⟨(grid0.coords t 1).val, (grid0.coords t 1).isLt⟩

/-- Which block each window reads at a point: the token table's and the scale's by batch, the weights' by expert. -/
theorem idx (t : Fin cfg0.N) : win0_0.index t = ![(bAt t).val, (eAt t).val, 0, 0] ∧ win0_1.index t = ![(bAt t).val, 0, 0]
    ∧ win0_2.index t = ![(eAt t).val, 0, 0] ∧ win0_3.index t = ![(eAt t).val, 0, 0] ∧ win0_4.index t = ![(eAt t).val, 0, 0] := by
  revert t; decide

theorem iblk0 (t : Fin cfg0.N) (r : Fin 1024) :
    (iblk m c 0 t : S1x1x1x1024.Idx → BitVec 32) (ValueIdx.ix4 (0 : Fin 1) (0 : Fin 1) (0 : Fin 1) r)
      = (argAt m c main_arg0 : S4x16x1024.Idx → BitVec 32) (ValueIdx.ix3 (bAt t) (eAt t) r) := by
  unfold iblk
  show (V m c main_v5 : S4x16x1x1024.Idx → BitVec 32) _ = _
  rw [V_v5]
  pointwise
  blk_ext [idx t]

theorem iblk1 (t : Fin cfg0.N) (l : Fin 1024) :
    (iblk m c 1 t : S1x1x1024.Idx → F .f32) (ValueIdx.ix3 (0 : Fin 1) (0 : Fin 1) l)
      = (argAt m c main_arg4 : S4x1x1024.Idx → F .f32) (ValueIdx.ix3 (bAt t) (0 : Fin 1) l) := by
  unfold iblk
  show (V m c main_arg4 : S4x1x1024.Idx → F .f32) _ = _
  rw [V_main_arg4]
  blk_ext [idx t]

theorem iblk2 (t : Fin cfg0.N) (d : Fin 1024) (f : Fin 2048) :
    (iblk m c 2 t : S1x1024x2048.Idx → F .bf16) (ValueIdx.ix3 (0 : Fin 1) d f)
      = (truncf .bf16 (argAt m c main_arg5 : S16x1024x2048.Idx → F .f32) bitsLt_bf16_f32 : FVec F S16x1024x2048 .bf16) (ValueIdx.ix3 (eAt t) d f) := by
  unfold iblk
  show (V m c main_v2 : S16x1024x2048.Idx → F .bf16) _ = _
  rw [V_v2]
  blk_ext [idx t]

theorem iblk3 (t : Fin cfg0.N) (d : Fin 1024) (f : Fin 2048) :
    (iblk m c 3 t : S1x1024x2048.Idx → F .bf16) (ValueIdx.ix3 (0 : Fin 1) d f)
      = (truncf .bf16 (argAt m c main_arg6 : S16x1024x2048.Idx → F .f32) bitsLt_bf16_f32 : FVec F S16x1024x2048 .bf16) (ValueIdx.ix3 (eAt t) d f) := by
  unfold iblk
  show (V m c main_v3 : S16x1024x2048.Idx → F .bf16) _ = _
  rw [V_v3]
  blk_ext [idx t]

theorem iblk4 (t : Fin cfg0.N) (f : Fin 2048) (d : Fin 1024) :
    (iblk m c 4 t : S1x2048x1024.Idx → F .bf16) (ValueIdx.ix3 (0 : Fin 1) f d)
      = (truncf .bf16 (argAt m c main_arg7 : S16x2048x1024.Idx → F .f32) bitsLt_bf16_f32 : FVec F S16x2048x1024 .bf16) (ValueIdx.ix3 (eAt t) f d) := by
  unfold iblk
  show (V m c main_v4 : S16x2048x1024.Idx → F .bf16) _ = _
  rw [V_v4]
  blk_ext [idx t]

end Cert.Moe

end
-- ==== Proof.Run.lean ====
/-
  The run of the whole kernel: the output's contents after each grid point, the points' obligation, the launch, and what every
  buffer holds at the end.
-/
module

public import proofs.«01_k».proof.Proof.Entry
public import proofs.«01_k».proof.Proof.Gen.KernelIdeal.Points
public import Idealize.ShloMosaic.Lib.Pipeline.FrameBody
public import Idealize.ShloMosaic.Lib.Pipeline.FrameValue

@[expose] public section

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The token an expert's slot holds in a batch's sequence. -/
def tokOf (ix : S4x16x1024.Idx → BitVec 32) (b : Fin 4) (e : Fin 16) (r : Fin 1024) : Fin 8192 :=
  Fin.ofNat 8192 (ix (ValueIdx.ix3 b e r)).toNat

/-- The slots hold rows of the sequence, an expert's slots different ones. -/
structure Good (ix : S4x16x1024.Idx → BitVec 32) : Prop where
  range : ∀ (b : Fin 4) (e : Fin 16) (r : Fin 1024), (ix (ValueIdx.ix3 b e r)).toNat < 8192
  inj : ∀ (b : Fin 4) (e : Fin 16), Function.Injective (tokOf ix b e)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The tokens of a grid point. -/
abbrev tokAt (c : Dev nD) (t : Fin cfg0.N) : Fin 1024 → Fin 8192 :=
  tokOf (argAt m c main_arg0 : S4x16x1024.Idx → BitVec 32) (bAt t) (eAt t)

/-- The rows a grid point puts into the output. -/
def rowsAt (c : Dev nD) (t : Fin cfg0.N) (fo : S4x8192x1024.Idx → Elt F .f32) : S1024x1024.Idx → Elt F .f32 :=
  newRows (BitVec.ofNat 32 (grid0.coords t 0).val) (gath (bAt t) (tokAt m c t) (V m c main_v1))
    (iblk m c 1 t) (iblk m c 2 t) (iblk m c 3 t) (iblk m c 4 t) (gath (bAt t) (tokAt m c t) fo)

/-- What a grid point makes of the output. -/
def stepAt (c : Dev nD) (t : Fin cfg0.N) (fo : S4x8192x1024.Idx → Elt F .f32) : S4x8192x1024.Idx → Elt F .f32 :=
  putRows (tokAt m c t) (bAt t) (rowsAt m c t fo) fo

/-- The output after the first `n` grid points. -/
def outAt (c : Dev nD) : ℕ → S4x8192x1024.Idx → Elt F .f32
  | 0 => V m c main_v6
  | n + 1 => if h : n < cfg0.N then stepAt m c ⟨n, h⟩ (outAt c n) else outAt c n

theorem outAt_succ (c : Dev nD) (t : Fin cfg0.N) : outAt m c (t.val + 1) = stepAt m c t (outAt m c t.val) := by
  show (if h : t.val < cfg0.N then stepAt m c ⟨t.val, h⟩ (outAt m c t.val) else outAt m c t.val) = _
  exact dif_pos t.isLt

/-- The buffers with the output as after `n` points. -/
def G (n : ℕ) (c : Dev nD) : (b : Ref sig .tc) → Buf (Elt F) ((c.tc : Thread nD τ).loc b) :=
  Function.update (V m c) main_v6 (outAt m c n)

theorem G_out (n : ℕ) (c : Dev nD) : G m n c main_v6 = outAt m c n := Function.update_self ..
theorem G_zero : G m 0 = V m := by
  funext c
  exact Function.update_eq_self main_v6 (V m c)

/-! ## The launch's data -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The three cells of the row transfers. -/
abbrev osem0 : Fin 3 → SemLoc sig := fun j => (![SemLoc.dma 10, SemLoc.dma 11, SemLoc.dma 12] : Fin 3 → SemLoc sig) j
theorem ownSemFacts0 : Pipeline.OwnSemFacts spec0 osem0 := by decide
theorem cells_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0
          ∗ semVal ((c : Thread nD τ), SemLoc.dma 12) 0) := by
  rw [Pipeline.ownSems0_eq_of_list c osem0 [0, 1, 2] (by decide) (by decide)]; rfl

/-- The buffer the points read in place, -/
def H0 : Finset (Ref sig .tc) := {main_v1}
/-- and the one they write. -/
def R0 : Finset (Ref sig .tc) := {main_v6}
theorem H0_sub : H0 ⊆ Pipeline.restRefs sig spec0 := by decide
theorem R0_sub : R0 ⊆ Pipeline.restRefs sig spec0 \ H0 := by decide

/-- The proof data: the windows' arrays as the region finds them and their blocks left in place, the output as after the
    points so far. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Pipeline.ΦDRG osem0 spec0 H0 R0 (V m) (G m t.val) c
  q _ := fullShare
  owed _ := 0

theorem A_eq (c : Dev nD) (w : Fin cfg0.W) : (dats m 0 c).A w = V m c (Pipeline.arrRef spec0 w) := rfl

theorem before0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before4 (c : Dev nD) (t : Fin cfg0.N) (d) : (dats m 0 c).before 4 t d = iblk m c 4 t :=
  ((dats m 0 c).before_in_eq_fetched 4 rfl (fun _ => rfl) (fun _ _ _ => rfl) (fun t => rfl) t d).trans rfl

/-- The invariant, part by part. -/
theorem Phi_eq (n : ℕ) (c : Dev nD) :
    (Pipeline.ΦDRG osem0 spec0 H0 R0 (V m) (G m n) c : sProp 𝕄)
      = iprop(iprop((∃ f, held c cc0_scratch0 f) ∗ (∃ f, held c cc0_scratch1 f)) ∗ (∃ r, prngReg c r)
        ∗ iprop(semVal ((c : Thread nD τ), SemLoc.dma 10) 0 ∗ semVal ((c : Thread nD τ), SemLoc.dma 11) 0
          ∗ semVal ((c : Thread nD τ), SemLoc.dma 12) 0)
        ∗ held c main_v1 (V m c main_v1) ∗ held c main_v6 (outAt m c n)) := by
  rw [Pipeline.ΦDRG_eq, scopedRest0_eq, cells_eq, H0, R0, Pipeline.routed_singleton, BI.bigSep_singleton, G_out]

/-! ## The points' obligation -/

variable (hgood : ∀ c : Dev nD, Good (argAt m c main_arg0 : S4x16x1024.Idx → BitVec 32))

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

include hgood in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = Pipeline.ΦDRG osem0 spec0 H0 R0 (V m) (G m (t.val + 1)) c from rfl,
    show (dats m 0 c).Φ t.castSucc = Pipeline.ΦDRG osem0 spec0 H0 R0 (V m) (G m t.val) c from rfl, Phi_eq, Phi_eq, outAt_succ]
  unfold Dat.owesAt Pipeline.owesWithin
  rw [show (dats m 0 c).owed t.castSucc = 0 from rfl, show (dats m 0 c).owed t.succ = 0 from rfl]
  unfold owns
  iintro ⟨⟨⟨⟨%fx, Hx⟩, ⟨%fr, Hr⟩⟩, Hg, ⟨Hq0, Hq1, Hq2⟩, Hh, Ho⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩⟩
  have hfi : ∀ r : Fin 1024, ∃ w : BitVec 32, (st0_0 t).view.read (Elt F) f0 (ValueIdx.ix4 (0 : Fin 1) (0 : Fin 1) (0 : Fin 1) r) = w
      ∧ w.toNat = (tokAt m c t r).val := fun r => by
    refine ⟨_, rfl, ?_⟩
    rw [e0]
    refine (congrArg BitVec.toNat (iblk0 m c t r)).trans ?_
    exact (Nat.mod_eq_of_lt ((hgood c).range _ _ _)).symm
  have hp := point_run c (bAt t) (tokAt m c t) ((hgood c).inj _ _) (grid0.coords t) rfl (st0_0 t) (hstage0_0 _)
    (Memref.whole main_v6) (Memref.isWhole_whole _) (st0_1 t) (hstage0_1 _) (st0_2 t) (hstage0_2 _) (st0_3 t) (hstage0_3 _) (st0_4 t) (hstage0_4 _) f0 hfi f1 f2 f3 f4
    (V m c main_v1) (outAt m c t.val) fx fr
  rw [e1, e2, e3, e4] at hp
  iapply wp_wand_r
  isplitl [Hx Hr Hq0 Hq1 Hq2 Hh Ho HW H0 H1 H2 H3 H4]
  · iapply hp
    isplitl [H0]; · iexact H0
    isplitl [HW]; · iexists W; iexact HW
    isplitl [Hh]; · iexact Hh
    isplitl [Ho]; · iexact Ho
    isplitl [Hx]; · iexact Hx
    isplitl [Hr]; · iexact Hr
    isplitl [Hq0]; · iexact Hq0
    isplitl [Hq1]; · iexact Hq1
    isplitl [Hq2]; · iexact Hq2
    isplitl [H1]; · iexact H1
    isplitl [H2]; · iexact H2
    isplitl [H3] <;> iassumption
  iintro %_ ⟨H0, ⟨%W', HW⟩, Hh, Ho, Hx, Hr, Hq0, Hq1, Hq2, H1, H2, H3, H4⟩
  isplitl [Hx Hr Hg Hq0 Hq1 Hq2 Hh Ho]
  · isplitl [Hx Hr]
    · isplitl [Hx] <;> iassumption
    isplitl [Hg]; · iexact Hg
    isplitl [Hq0 Hq1 Hq2]
    · isplitl [Hq0]; · iexact Hq0
      isplitl [Hq1] <;> iassumption
    isplitl [Hh]; · iexact Hh
    iexact Ho
  isplitl [HW]
  · iexists W'; isplitr; · ipureintro; exact fun _ _ => Or.inl trivial
    iexact HW
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists f4; isplitr; · ipureintro; exact e4
  iexact H4

theorem defs₀_row (t : Fin cfg0.N) :
    defs₀ (F := F) .tc cfg0.body (cfg0.bodyArgs t (cfg0.slots t)) = bodyAt0 t := by
  unfold defs₀; rw [Defs.onTc_tc]

include hgood in
theorem body_obligation (c : Dev nD) : BodyObligation (dats (F := F) m 0 c) (defs₀ (F := F)) Variants.none () Set.univ := fun t => by
  rw [bigSep_W0, bigSep_W0, defs₀_row]
  exact triple_restated (sound_body m hgood c t) rfl .rfl fun _ => .rfl

/-! ## The run -/

include hgood in
set_option backward.isDefEq.respectTransparency.types false in
theorem run_main : θ_run defs (onTc (τ := τ) (main (F := F))) (s₀ m ρ)
    (fun r => Pipeline.FramePostRG cfgs (dats m) 0 R0 (V m) (G m 64) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m hgood c).loose) (hshare := fun c => (dats m 0 c).share_full fun _ => rfl)
    (howed := fun _ _ => rfl) (V := V m) (hmain := hmain m Variants.none) (hA := A_eq m) (G := G m 64)
    (hin := fun c => by
      rw [show (dats m 0 c).Φ 0 = Pipeline.ΦDRG osem0 spec0 H0 R0 (V m) (G m 0) c from rfl, G_zero])
    (hout := fun c => .rfl)

include hgood in
/-- THE RUN: it ends, every semaphore at zero, the arguments as they were, and the output as after all 64 points. -/
theorem run : θ_run defs (onTc (τ := τ) (main (F := F))) ⟨m, fun _ => 0, ρ⟩ (fun r => (∀ c : Dev nD,
      r.2.mem ((c.tc : Thread nD τ).loc main_v6) = outAt m c 64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  have rest : ∀ b : Ref sig .tc, b ∈ Pipeline.restRefs sig spec0 → b ∉ R0 → b ∈ Pipeline.restRefs sig spec0 \ R0 :=
    fun _ h h' => Finset.mem_sdiff.mpr ⟨h, h'⟩
  refine (θ_run defs _ _).mono (fun r h => ⟨fun c => ⟨(h.1.2 c main_v6 (by decide)).trans (G_out m 64 c),
      ((h.1.1 c).2 main_arg0 (rest _ (Pipeline.mem_restRefs_of main_arg0 (by decide) (by decide)) (by decide))).trans (V_main_arg0 m c),
      ((h.1.1 c).2 main_arg1 (rest _ (Pipeline.mem_restRefs_of main_arg1 (by decide) (by decide)) (by decide))).trans (V_main_arg1 m c),
      ((h.1.1 c).2 main_arg2 (rest _ (Pipeline.mem_restRefs_of main_arg2 (by decide) (by decide)) (by decide))).trans (V_main_arg2 m c),
      ((h.1.1 c).2 main_arg3 (rest _ (Pipeline.mem_restRefs_of main_arg3 (by decide) (by decide)) (by decide))).trans (V_main_arg3 m c),
      ((h.1.1 c).1 1).trans (((dats m 0 c).arrAt_in 1 rfl _).trans (V_main_arg4 m c)),
      ((h.1.1 c).2 main_arg5 (rest _ (Pipeline.mem_restRefs_of main_arg5 (by decide) (by decide)) (by decide))).trans (V_main_arg5 m c),
      ((h.1.1 c).2 main_arg6 (rest _ (Pipeline.mem_restRefs_of main_arg6 (by decide) (by decide)) (by decide))).trans (V_main_arg6 m c),
      ((h.1.1 c).2 main_arg7 (rest _ (Pipeline.mem_restRefs_of main_arg7 (by decide) (by decide)) (by decide))).trans (V_main_arg7 m c)⟩, h.2⟩)
    (run_main m ρ hgood)

end Cert.Moe

end
-- ==== Proof.IdxR.lean ====
/-
  The reference's index tables, gathers and scatter-add, read at an index.
-/
module

public import proofs.«01_k».proof.Defs
public import proofs.«01_k».proof.Proof.Run
public import proofs.«01_k».proof.Proof.Gen.ReferenceIdeal.Run
public import Idealize.ShloMosaic.Lib.Pointwise
public import Idealize.ShloMosaic.Lib.Routing.OpsPair
public import Idealize.ShloMosaic.Lib.StableHlo.Predicate

@[expose] public section

noncomputable section

namespace Cert.Moe.Ref

open Cert.ReferenceIdeal Cert.ReferenceIdeal.Gen
open Idealize.ShloMosaic Idealize.ShloMosaic.TcCoe Idealize.ShloMosaic.Tactic
open Idealize.ShloMosaic.StableHlo.Predicate (toInt_ofNat_small)

/-- The batch's number, wrapped as an index into four, as the reference computes it. -/
abbrev batchIdx : IVec S4x1x1 32 :=
  select (cmpi .slt (broadcastInDim S4x1x1 ![0] bcast_S4_S4x1x1_0 (iotaInDim S4 32 0)) (broadcastInDim S4x1x1 ![] bcast_S_S4x1x1 (constantI S_ 32 0#32)))
    (addi (broadcastInDim S4x1x1 ![0] bcast_S4_S4x1x1_0 (iotaInDim S4 32 0)) (broadcastInDim S4x1x1 ![] bcast_S_S4x1x1 (constantI S_ 32 4#32)))
    (broadcastInDim S4x1x1 ![0] bcast_S4_S4x1x1_0 (iotaInDim S4 32 0))

/-- The token's number, wrapped as an index into 8192. -/
abbrev tokenIdx (a0 : IVec S4x16x1024 32) : IVec S4x16x1024 32 :=
  select (cmpi .slt a0 (broadcastInDim S4x16x1024 ![] bcast_S_S4x16x1024 (constantI S_ 32 0#32)))
    (addi a0 (broadcastInDim S4x16x1024 ![] bcast_S_S4x16x1024 (constantI S_ 32 8192#32))) a0

/-- The expert's number, wrapped as an index into sixteen. -/
abbrev expertIdx : IVec S1x16x1 32 :=
  select (cmpi .slt (broadcastInDim S1x16x1 ![1] bcast_S16_S1x16x1_1 (iotaInDim S16 32 0)) (broadcastInDim S1x16x1 ![] bcast_S_S1x16x1 (constantI S_ 32 0#32)))
    (addi (broadcastInDim S1x16x1 ![1] bcast_S16_S1x16x1_1 (iotaInDim S16 32 0)) (broadcastInDim S1x16x1 ![] bcast_S_S1x16x1 (constantI S_ 32 16#32)))
    (broadcastInDim S1x16x1 ![1] bcast_S16_S1x16x1_1 (iotaInDim S16 32 0))

/-- The table of (batch, token) pairs. -/
abbrev pairs (a0 : IVec S4x16x1024 32) : IVec S4x16x1024x2 32 :=
  concatenate S4x16x1024x2 3 [⟨S4x16x1024x1, broadcastInDim S4x16x1024x1 ![0, 1, 2] bcast_S4x16x1024_S4x16x1024x1_0_1_2 (broadcastInDim S4x16x1024 ![0, 1, 2] bcast_S4x1x1_S4x16x1024_0_1_2 batchIdx)⟩,
    ⟨S4x16x1024x1, broadcastInDim S4x16x1024x1 ![0, 1, 2] bcast_S4x16x1024_S4x16x1024x1_0_1_2 (tokenIdx a0)⟩] concatenates_S4x16x1024x1_S4x16x1024x1_S4x16x1024x2_d3

/-- The table of (batch, token, expert) triples. -/
abbrev triples (a0 : IVec S4x16x1024 32) : IVec S4x16x1024x3 32 :=
  concatenate S4x16x1024x3 3 [⟨S4x16x1024x1, broadcastInDim S4x16x1024x1 ![0, 1, 2] bcast_S4x16x1024_S4x16x1024x1_0_1_2 (broadcastInDim S4x16x1024 ![0, 1, 2] bcast_S4x1x1_S4x16x1024_0_1_2 batchIdx)⟩,
    ⟨S4x16x1024x1, broadcastInDim S4x16x1024x1 ![0, 1, 2] bcast_S4x16x1024_S4x16x1024x1_0_1_2 (tokenIdx a0)⟩,
    ⟨S4x16x1024x1, broadcastInDim S4x16x1024x1 ![0, 1, 2] bcast_S4x16x1024_S4x16x1024x1_0_1_2 (broadcastInDim S4x16x1024 ![0, 1, 2] bcast_S1x16x1_S4x16x1024_0_1_2 expertIdx)⟩]
    concatenates_S4x16x1024x1_S4x16x1024x1_S4x16x1024x1_S4x16x1024x3_d3

/-- Wrapping leaves a batch's number alone. -/
theorem batchIdx_at (b : Fin 4) : batchIdx (ValueIdx.ix3 b 0 0) = BitVec.ofNat 32 b.val := by
  fin_cases b <;> rfl

/-- Wrapping leaves an expert's number alone. -/
theorem expertIdx_at (e : Fin 16) : expertIdx (ValueIdx.ix3 0 e 0) = BitVec.ofNat 32 e.val := by
  fin_cases e <;> rfl

/-- Wrapping leaves a token in range alone. -/
theorem tokenIdx_at {a0 : IVec S4x16x1024 32} (hgood : Good a0) (b : Fin 4) (e : Fin 16) (r : Fin 1024) :
    tokenIdx a0 (ValueIdx.ix3 b e r) = BitVec.ofNat 32 (tokOf a0 b e r).val := by
  have hr : (a0 (ValueIdx.ix3 b e r)).toNat < 8192 := hgood.range _ _ _
  refine (Routing.wrap_of_lt (a0 (ValueIdx.ix3 b e r)) _ (by norm_num; omega)).trans ?_
  show _ = BitVec.ofNat 32 ((a0 (ValueIdx.ix3 b e r)).toNat % 8192)
  rw [Nat.mod_eq_of_lt hr, BitVec.ofNat_toNat, BitVec.setWidth_eq]

/-- The first member of a pair is the batch. -/
theorem pairs_batch (a0 : IVec S4x16x1024 32) (b : Fin 4) (e : Fin 16) (r : Fin 1024) :
    pairs a0 (ValueIdx.ix4 b e r 0) = BitVec.ofNat 32 b.val := by
  refine (concatenate_pair_apply_left (t := S4x16x1024x2) (s₁ := S4x16x1024x1) (s₂ := S4x16x1024x1) (3 : Fin 4) _ _ _ _ rfl
    (ValueIdx.ix4 b e r 0) ?_).trans ?_
  · intro a
    fin_cases a <;> rfl
  · refine Eq.trans ?_ (batchIdx_at b)
    exact congrArg batchIdx (by funext a; fin_cases a <;> rfl)

/-- The second member of a pair is the token. -/
theorem pairs_token {a0 : IVec S4x16x1024 32} (hgood : Good a0) (b : Fin 4) (e : Fin 16) (r : Fin 1024) :
    pairs a0 (ValueIdx.ix4 b e r 1) = BitVec.ofNat 32 (tokOf a0 b e r).val := by
  refine (concatenate_pair_apply_right (t := S4x16x1024x2) (s₁ := S4x16x1024x1) (s₂ := S4x16x1024x1) (3 : Fin 4) _ _ _ _ rfl rfl
    (ValueIdx.ix4 b e r 0) ?_ ?_).trans ?_
  · intro a ha
    fin_cases a
    · rfl
    · rfl
    · rfl
    · exact absurd rfl ha
  · rfl
  · refine Eq.trans ?_ (tokenIdx_at hgood b e r)
    exact congrArg (tokenIdx a0) (by funext a; fin_cases a <;> rfl)

/-- The members of a triple: the batch. -/
theorem triples_batch (a0 : IVec S4x16x1024 32) (b : Fin 4) (e : Fin 16) (r : Fin 1024) :
    triples a0 (ValueIdx.ix4 b e r 0) = BitVec.ofNat 32 b.val := by
  pointwise
  refine Eq.trans ?_ (batchIdx_at b)
  rfl

/-- The members of a triple: the token. -/
theorem triples_token {a0 : IVec S4x16x1024 32} (hgood : Good a0) (b : Fin 4) (e : Fin 16) (r : Fin 1024) :
    triples a0 (ValueIdx.ix4 b e r 1) = BitVec.ofNat 32 (tokOf a0 b e r).val := by
  refine Eq.trans ?_ (tokenIdx_at hgood b e r)
  pointwise
  rfl

/-- The members of a triple: the expert. -/
theorem triples_expert (a0 : IVec S4x16x1024 32) (b : Fin 4) (e : Fin 16) (r : Fin 1024) :
    triples a0 (ValueIdx.ix4 b e r 2) = BitVec.ofNat 32 e.val := by
  pointwise
  refine Eq.trans ?_ (expertIdx_at e)
  rfl

/-- A word that is a small number reads as that number. -/
theorem small_toInt {w : BitVec 32} {n : Nat} (h : w = BitVec.ofNat 32 n) (hn : n < 2 ^ 31) : w.toInt = (n : Int) := by
  rw [h]; exact toInt_ofNat_small _ hn

/-- A gather by pairs reads the row that the pair names. -/
theorem gather_pair {α : Type} (x : S4x8192x1024.Idx → α) (idx : IVec S4x16x1024x2 32) (b : Fin 4) (e : Fin 16) (r : Fin 1024) (d : Fin 1024) (t : Fin 8192)
    (h0 : idx (ValueIdx.ix4 b e r 0) = BitVec.ofNat 32 b.val) (h1 : idx (ValueIdx.ix4 b e r 1) = BitVec.ofNat 32 t.val) :
    Host.gather gather_S4x8192x1024_S4x16x1024x2_S4x16x1024x1024_3_01_n_n_01_3_111024 x idx (ValueIdx.ix4 b e r d) = x (ValueIdx.ix3 b t d) := by
  set D := gather_S4x8192x1024_S4x16x1024x2_S4x16x1024x1024_3_01_n_n_01_3_111024 with hD
  have hs : ∀ (q : Fin D.startIndexMap.length), D.siIdx (ValueIdx.ix4 b e r d) q = ValueIdx.ix4 b e r ⟨q.val, q.isLt⟩ := by
    intro q; funext a; fin_cases a <;> rfl
  have hb := b.isLt
  have ht := t.isLt
  refine congrArg x (funext fun a => Fin.ext ?_)
  match a with
  | ⟨0, _⟩ =>
    show D.start (ValueIdx.ix4 b e r d) idx 0 + 0 + 0 = b.val
    unfold GatherDims.start
    rw [dif_pos (show (0 : Fin S4x8192x1024.rank) ∈ D.startIndexMap from (by decide : (0 : Fin 3) ∈ ([0, 1] : List (Fin 3)))), hs]
    refine (congrArg (fun w : BitVec 32 => min w.toInt.toNat 3 + 0 + 0) h0).trans ?_
    show min (BitVec.ofNat 32 b.val).toInt.toNat 3 + 0 + 0 = b.val
    rw [small_toInt rfl (by omega), Int.toNat_natCast]
    omega
  | ⟨1, _⟩ =>
    show D.start (ValueIdx.ix4 b e r d) idx 1 + 0 + 0 = t.val
    unfold GatherDims.start
    rw [dif_pos (show (1 : Fin S4x8192x1024.rank) ∈ D.startIndexMap from (by decide : (1 : Fin 3) ∈ ([0, 1] : List (Fin 3)))), hs]
    refine (congrArg (fun w : BitVec 32 => min w.toInt.toNat 8191 + 0 + 0) h1).trans ?_
    show min (BitVec.ofNat 32 t.val).toInt.toNat 8191 + 0 + 0 = t.val
    rw [small_toInt rfl (by omega), Int.toNat_natCast]
    omega
  | ⟨2, _⟩ =>
    show 0 + 0 + d.val = d.val
    omega

/-- A gather by triples reads the element that the triple names. -/
theorem gather_triple {α : Type} (x : S4x8192x16.Idx → α) (idx : IVec S4x16x1024x3 32) (b : Fin 4) (e : Fin 16) (r : Fin 1024) (t : Fin 8192)
    (h0 : idx (ValueIdx.ix4 b e r 0) = BitVec.ofNat 32 b.val) (h1 : idx (ValueIdx.ix4 b e r 1) = BitVec.ofNat 32 t.val)
    (h2 : idx (ValueIdx.ix4 b e r 2) = BitVec.ofNat 32 e.val) :
    Host.gather gather_S4x8192x16_S4x16x1024x3_S4x16x1024_n_012_n_n_012_3_111 x idx (ValueIdx.ix3 b e r) = x (ValueIdx.ix3 b t e) := by
  set D := gather_S4x8192x16_S4x16x1024x3_S4x16x1024_n_012_n_n_012_3_111 with hD
  have hs : ∀ (q : Fin D.startIndexMap.length), D.siIdx (ValueIdx.ix3 b e r) q = ValueIdx.ix4 b e r ⟨q.val, q.isLt⟩ := by
    intro q; funext a; fin_cases a <;> rfl
  have hb := b.isLt
  have ht := t.isLt
  have he := e.isLt
  refine congrArg x (funext fun a => Fin.ext ?_)
  match a with
  | ⟨0, _⟩ =>
    show D.start (ValueIdx.ix3 b e r) idx 0 + 0 + 0 = b.val
    unfold GatherDims.start
    rw [dif_pos (show (0 : Fin S4x8192x16.rank) ∈ D.startIndexMap from (by decide : (0 : Fin 3) ∈ ([0, 1, 2] : List (Fin 3)))), hs]
    refine (congrArg (fun w : BitVec 32 => min w.toInt.toNat 3 + 0 + 0) h0).trans ?_
    show min (BitVec.ofNat 32 b.val).toInt.toNat 3 + 0 + 0 = b.val
    rw [small_toInt rfl (by omega), Int.toNat_natCast]
    omega
  | ⟨1, _⟩ =>
    show D.start (ValueIdx.ix3 b e r) idx 1 + 0 + 0 = t.val
    unfold GatherDims.start
    rw [dif_pos (show (1 : Fin S4x8192x16.rank) ∈ D.startIndexMap from (by decide : (1 : Fin 3) ∈ ([0, 1, 2] : List (Fin 3)))), hs]
    refine (congrArg (fun w : BitVec 32 => min w.toInt.toNat 8191 + 0 + 0) h1).trans ?_
    show min (BitVec.ofNat 32 t.val).toInt.toNat 8191 + 0 + 0 = t.val
    rw [small_toInt rfl (by omega), Int.toNat_natCast]
    omega
  | ⟨2, _⟩ =>
    show D.start (ValueIdx.ix3 b e r) idx 2 + 0 + 0 = e.val
    unfold GatherDims.start
    rw [dif_pos (show (2 : Fin S4x8192x16.rank) ∈ D.startIndexMap from (by decide : (2 : Fin 3) ∈ ([0, 1, 2] : List (Fin 3)))), hs]
    refine (congrArg (fun w : BitVec 32 => min w.toInt.toNat 15 + 0 + 0) h2).trans ?_
    show min (BitVec.ofNat 32 e.val).toInt.toNat 15 + 0 + 0 = e.val
    rw [small_toInt rfl (by omega), Int.toNat_natCast]
    omega

/-- Where a row's contribution lands: its batch and its token, at its own lane. -/
theorem lands (idx : IVec S4x16x1024x2 32) (b b' : Fin 4) (e : Fin 16) (r l l' : Fin 1024) (t k : Fin 8192)
    (h0 : idx (ValueIdx.ix4 b' e r 0) = BitVec.ofNat 32 b'.val) (h1 : idx (ValueIdx.ix4 b' e r 1) = BitVec.ofNat 32 t.val) :
    scatter_S4x8192x1024_S4x16x1024x2_S4x16x1024x1024_3_01_01_3.resultIdx? (ValueIdx.ix4 b' e r l') idx = some (ValueIdx.ix3 b k l)
      ↔ b' = b ∧ t = k ∧ l' = l := by
  set D := scatter_S4x8192x1024_S4x16x1024x2_S4x16x1024x1024_3_01_01_3 with hD
  have hs : ∀ (q : Fin D.scatterDimsToOperandDims.length), D.siIdx (ValueIdx.ix4 b' e r l') q = ValueIdx.ix4 b' e r ⟨q.val, q.isLt⟩ := by
    intro q; funext a; fin_cases a <;> rfl
  have hb := b'.isLt
  have ht := t.isLt
  have s0 : D.start (ValueIdx.ix4 b' e r l') idx 0 = (b'.val : Int) := by
    unfold ScatterDims.start
    rw [dif_pos (show (0 : Fin S4x8192x1024.rank) ∈ D.scatterDimsToOperandDims from (by decide : (0 : Fin 3) ∈ ([0, 1] : List (Fin 3)))), hs]
    exact small_toInt h0 (by omega)
  have s1 : D.start (ValueIdx.ix4 b' e r l') idx 1 = (t.val : Int) := by
    unfold ScatterDims.start
    rw [dif_pos (show (1 : Fin S4x8192x1024.rank) ∈ D.scatterDimsToOperandDims from (by decide : (1 : Fin 3) ∈ ([0, 1] : List (Fin 3)))), hs]
    exact small_toInt h1 (by omega)
  have s2 : D.start (ValueIdx.ix4 b' e r l') idx 2 = 0 := by
    unfold ScatterDims.start
    rw [dif_neg (show (2 : Fin S4x8192x1024.rank) ∉ D.scatterDimsToOperandDims from (by decide : (2 : Fin 3) ∉ ([0, 1] : List (Fin 3))))]
  rw [Routing.resultIdx?_eq_some]
  constructor
  · intro h
    have e0 : D.start (ValueIdx.ix4 b' e r l') idx 0 + ((0 : Nat) : Int) = (b.val : Int) := h 0
    have e1 : D.start (ValueIdx.ix4 b' e r l') idx 1 + ((0 : Nat) : Int) = (k.val : Int) := h 1
    have e2 : D.start (ValueIdx.ix4 b' e r l') idx 2 + ((l'.val : Nat) : Int) = (l.val : Int) := h 2
    rw [s0] at e0
    rw [s1] at e1
    rw [s2] at e2
    exact ⟨Fin.ext (by omega), Fin.ext (by omega), Fin.ext (by omega)⟩
  · rintro ⟨rfl, rfl, rfl⟩ a
    match a with
    | ⟨0, _⟩ =>
      show D.start (ValueIdx.ix4 b' e r l') idx 0 + ((0 : Nat) : Int) = (b'.val : Int)
      rw [s0]; omega
    | ⟨1, _⟩ =>
      show D.start (ValueIdx.ix4 b' e r l') idx 1 + ((0 : Nat) : Int) = (t.val : Int)
      rw [s1]; omega
    | ⟨2, _⟩ =>
      show D.start (ValueIdx.ix4 b' e r l') idx 2 + ((l'.val : Nat) : Int) = (l'.val : Int)
      rw [s2]; omega

end Cert.Moe.Ref
-- ==== Proof.ValueK.lean ====
/-
  The kernel's rows over the ideal values: an expert's gated feed-forward of each gathered row, scaled and added.
-/
module

public import proofs.«01_k».proof.Proof.Run
public import Idealize.ShloMosaic.Lib.Pipeline.ValueKit
public import Idealize.ShloMosaic.Lib.Pointwise

@[expose] public section

noncomputable section

namespace Cert.Moe

open Cert.KernelIdeal Cert.KernelIdeal.Gen
open Idealize.ShloMosaic Idealize.ShloMosaic.TcCoe Idealize.ShloMosaic.Tactic

/-- A gated hidden value: the gate's product through `x · logistic x`, times the up product. -/
def gated (g u : EReal) : EReal := g * Ideal.logistic g * u

/-- A row times a weight column. -/
def mm (x : Fin 1024 → EReal) (W : Fin 1024 → Fin 2048 → EReal) (f : Fin 2048) : EReal := ∑ d, x d * W d f

/-- An expert's feed-forward of a row. -/
def ffn (x : Fin 1024 → EReal) (Wg Wu : Fin 1024 → Fin 2048 → EReal) (Wd : Fin 2048 → Fin 1024 → EReal) (l : Fin 1024) : EReal :=
  ∑ f, gated (mm x Wg f) (mm x Wu f) * Wd f l

/-- The part of the feed-forward that one chunk of 512 hidden columns makes. -/
def piece (x : S1024x1024.Idx → EReal) (w6 w7 : S1x1024x512.Idx → EReal) (w8 : S1x512x1024.Idx → EReal) (r l : Fin 1024) : EReal :=
  ∑ f : Fin 512, gated (∑ d : Fin 1024, x (ValueIdx.ix2 r d) * w6 (ValueIdx.ix3 0 d f)) (∑ d : Fin 1024, x (ValueIdx.ix2 r d) * w7 (ValueIdx.ix3 0 d f))
    * w8 (ValueIdx.ix3 0 f l)

theorem pay2_at (v3 : Vec Ideal S1024x1024 .f32) (v6 v9 : Vec Ideal S1x1024x512 .bf16) (v16 : Vec Ideal S1x512x1024 .bf16) (r l : Fin 1024) :
    k0_pay2 v3 v6 v9 v16 (ValueIdx.ix2 r l) = piece v3 v6 v9 v16 r l := by
  unfold k0_pay2 k0_pay1 piece gated
  pointwise
  rfl

theorem pay4_at (v4 : FVec Ideal S1024x1024 .bf16) (v19 : FVec Ideal S1024x1024 .f32) (v22 : FVec Ideal S1024x512 .f32) (v20 v23 : Vec Ideal S1x1024x512 .bf16)
    (v30 : Vec Ideal S1x512x1024 .bf16) (v34 v37 : Vec Ideal S1x1024x512 .bf16) (v44 : Vec Ideal S1x512x1024 .bf16)
    (h22 : ∀ (r : Fin 1024) (f : Fin 512), v22 (ValueIdx.ix2 r f) = ∑ d : Fin 1024, v4 (ValueIdx.ix2 r d) * v20 (ValueIdx.ix3 0 d f)) (r l : Fin 1024) :
    k0_pay4 v4 v19 v22 v23 v30 v34 v37 v44 (ValueIdx.ix2 r l) = v19 (ValueIdx.ix2 r l) + piece v4 v20 v23 v30 r l + piece v4 v34 v37 v44 r l := by
  unfold k0_pay4 piece gated
  simp only [← h22]
  pointwise
  rfl

theorem pay3_at (v3 : Vec Ideal S1024x1024 .f32) (v20 : Vec Ideal S1x1024x512 .bf16) (r : Fin 1024) (f : Fin 512) :
    k0_pay3 v3 v20 (ValueIdx.ix2 r f) = ∑ d : Fin 1024, v3 (ValueIdx.ix2 r d) * v20 (ValueIdx.ix3 0 d f) := by
  unfold k0_pay3 k0_pay1
  pointwise
  rfl

theorem pay5_at (v4 : FVec Ideal S1024x1024 .bf16) (v51 : Vec Ideal S1x1024x512 .bf16) (r : Fin 1024) (f : Fin 512) :
    k0_pay5 v4 v51 (ValueIdx.ix2 r f) = ∑ d : Fin 1024, v4 (ValueIdx.ix2 r d) * v51 (ValueIdx.ix3 0 d f) := by
  unfold k0_pay5
  pointwise
  rfl

theorem pay6_at (v4 : FVec Ideal S1024x1024 .bf16) (v48 : Vec Ideal S1x1024x512 .bf16) (r : Fin 1024) (f : Fin 512) :
    k0_pay6 v4 v48 (ValueIdx.ix2 r f) = (∑ d : Fin 1024, v4 (ValueIdx.ix2 r d) * v48 (ValueIdx.ix3 0 d f))
      * Ideal.logistic (∑ d : Fin 1024, v4 (ValueIdx.ix2 r d) * v48 (ValueIdx.ix3 0 d f)) := by
  unfold k0_pay6
  pointwise
  rfl

/-- The last part: the fourth chunk added, the row scaled by its expert's affinity and the scale row, and added to the output's. -/
theorem pay7_at (e : BitVec 32) (v47 : FVec Ideal S1024x1024 .f32) (v53 v55 : FVec Ideal S1024x512 .f32)
    (v58 : Vec Ideal S1x512x1024 .bf16) (v65 : Vec Ideal S1024x128 .f32) (v71 : Vec Ideal S1024x1024 .f32) (v72 : Vec Ideal S1x1x1024 .f32) (r l : Fin 1024) :
    k0_pay7 e v47 v53 v55 v58 v65 v71 v72 (ValueIdx.ix2 r l) = v71 (ValueIdx.ix2 r l) + v72 (ValueIdx.ix3 0 0 l)
      * ((v47 (ValueIdx.ix2 r l) + ∑ f : Fin 512, v55 (ValueIdx.ix2 r f) * v53 (ValueIdx.ix2 r f) * v58 (ValueIdx.ix3 0 f l))
        * ∑ k : Fin 128, Scalar.select (IntOp.cmpi .eq (BitVec.ofNat 32 k.val) e) (v65 (ValueIdx.ix2 r k)) (0 : EReal)) := by
  unfold k0_pay7
  pointwise
  rfl

/-- An activation's column in a padded row. -/
def wide (d : Fin 1024) : Fin 1152 := ⟨d.val, by omega⟩
/-- An affinity's column in a padded row. -/
def laneOf (k : Fin 128) : Fin 1152 := ⟨1024 + k.val, by omega⟩
/-- An expert's lane. -/
def laneE (e : Fin 16) : Fin 128 := ⟨e.val, by omega⟩

/-- The sum over the lanes of the one lane selected. -/
theorem lane_sum (e : Fin 16) (w : Fin 128 → EReal) :
    (∑ k : Fin 128, Scalar.select (IntOp.cmpi .eq (BitVec.ofNat 32 k.val) (BitVec.ofNat 32 e.val)) (w k) (0 : EReal)) = w (laneE e) := by
  rw [Finset.sum_eq_single (laneE e)]
  · exact if_pos (IntOp.cmpi_eq.2 rfl)
  · intro k _ hk
    refine if_neg fun h => hk ?_
    have := congrArg BitVec.toNat (IntOp.cmpi_eq.1 h)
    simp only [BitVec.toNat_ofNat] at this
    have h1 := k.isLt
    have h2 := e.isLt
    ext
    show k.val = e.val
    omega
  · exact fun h => absurd (Finset.mem_univ _) h

/-- A sum over the hidden columns is the sum of those over its four chunks. -/
theorem sum_chunks (g : Fin 2048 → EReal) : ∑ f, g f = (∑ f : Fin 512, g ⟨0 + f.val, by omega⟩) + (∑ f : Fin 512, g ⟨512 + f.val, by omega⟩)
    + (∑ f : Fin 512, g ⟨1024 + f.val, by omega⟩) + ∑ f : Fin 512, g ⟨1536 + f.val, by omega⟩ := by
  have h := Fin.sum_univ_add (a := 512 + 512 + 512) (b := 512) g
  rw [Fin.sum_univ_add (a := 512 + 512) (b := 512), Fin.sum_univ_add (a := 512) (b := 512)] at h
  rw [h]
  congr 3

section Rows

variable (x : Fin 1024 → Fin 1024 → EReal) (Wg Wu : Fin 1024 → Fin 2048 → EReal) (Wd : Fin 2048 → Fin 1024 → EReal)

/-- One chunk's part of the feed-forward, the chunk's weights named. -/
theorem piece_at (o : ℕ) (ho : o + 512 ≤ 2048) (y : S1024x1024.Idx → EReal) (w6 w7 : S1x1024x512.Idx → EReal) (w8 : S1x512x1024.Idx → EReal)
    (hy : ∀ r d, y (ValueIdx.ix2 r d) = x r d) (h6 : ∀ d (f : Fin 512), w6 (ValueIdx.ix3 0 d f) = Wg d ⟨o + f.val, by omega⟩)
    (h7 : ∀ d (f : Fin 512), w7 (ValueIdx.ix3 0 d f) = Wu d ⟨o + f.val, by omega⟩)
    (h8 : ∀ (f : Fin 512) d, w8 (ValueIdx.ix3 0 f d) = Wd ⟨o + f.val, by omega⟩ d) (r l : Fin 1024) :
    piece y w6 w7 w8 r l = ∑ f : Fin 512, gated (mm (x r) Wg ⟨o + f.val, by omega⟩) (mm (x r) Wu ⟨o + f.val, by omega⟩) * Wd ⟨o + f.val, by omega⟩ l := by
  unfold piece mm
  simp only [hy, h6, h7, h8]

variable (e : Fin 16) (g : Fin 1024 → EReal) (xe : S1024x1152.Idx → Elt Ideal .f32) (X5 : S1x1x1024.Idx → Elt Ideal .f32)
    (X6 X7 : S1x1024x2048.Idx → Elt Ideal .bf16) (X8 : S1x2048x1024.Idx → Elt Ideal .bf16) (og : S1024x1024.Idx → Elt Ideal .f32)
    (hx : ∀ r (d : Fin 1024), xe (ValueIdx.ix2 r (wide d)) = x r d)
    (hg : ∀ r, xe (ValueIdx.ix2 r (laneOf (laneE e))) = g r)
    (h6 : ∀ d f, X6 (ValueIdx.ix3 0 d f) = Wg d f) (h7 : ∀ d f, X7 (ValueIdx.ix3 0 d f) = Wu d f) (h8 : ∀ f d, X8 (ValueIdx.ix3 0 f d) = Wd f d)

/-- A read of a chunk of hidden columns of a weight. -/
theorem cols (o : ℕ) (ho : o + 512 ≤ 2048) (h : ∀ a, (![0, 0, o] : Fin 3 → ℕ) a + S1x1024x512.size a ≤ S1x1024x2048.size a) (d : Fin 1024) (f : Fin 512) :
    (Rect.unit (s := S1x1024x2048) ![0, 0, o] S1x1024x512.size h).toLoadRect.idx (ValueIdx.ix3 0 d f) = ValueIdx.ix3 0 d (⟨o + f.val, by omega⟩ : Fin 2048) := by
  funext a
  fin_cases a <;> exact Fin.ext (by simp [LoadRect.idx, Rect.toLoadRect, Rect.unit, ValueIdx.ix3])

/-- A read of a chunk of hidden rows of the last weight. -/
theorem rws (o : ℕ) (ho : o + 512 ≤ 2048) (h : ∀ a, (![0, o, 0] : Fin 3 → ℕ) a + S1x512x1024.size a ≤ S1x2048x1024.size a) (d : Fin 1024) (f : Fin 512) :
    (Rect.unit (s := S1x2048x1024) ![0, o, 0] S1x512x1024.size h).toLoadRect.idx (ValueIdx.ix3 0 f d) = ValueIdx.ix3 0 (⟨o + f.val, by omega⟩ : Fin 2048) d := by
  funext a
  fin_cases a <;> exact Fin.ext (by simp [LoadRect.idx, Rect.toLoadRect, Rect.unit, ValueIdx.ix3])

/-- A whole read reads the whole. -/
theorem reads_all (r l : Fin 1024) : (Rect.unit (s := S1024x1024) ![0, 0] S1024x1024.size inb_S1024x1024_S1024x1024_0_0).toLoadRect.idx (ValueIdx.ix2 r l) = ValueIdx.ix2 r l := by
  funext a
  fin_cases a <;> exact Fin.ext (by simp [LoadRect.idx, Rect.toLoadRect, Rect.unit, ValueIdx.ix2, wide, laneOf])

theorem reads_scale (l : Fin 1024) : (Rect.unit (s := S1x1x1024) ![0, 0, 0] S1x1x1024.size inb_S1x1x1024_S1x1x1024_0_0_0).toLoadRect.idx (ValueIdx.ix3 0 0 l) = ValueIdx.ix3 0 0 l := by
  funext a
  fin_cases a <;> exact Fin.ext (by simp [LoadRect.idx, Rect.toLoadRect, Rect.unit, ValueIdx.ix3])

/-- The activations' part of a gathered row. -/
theorem reads_act (r d : Fin 1024) : (Rect.unit (s := S1024x1152) ![0, 0] S1024x1024.size inb_S1024x1152_S1024x1024_0_0).toLoadRect.idx (ValueIdx.ix2 r d)
    = ValueIdx.ix2 r (wide d) := by
  funext a
  fin_cases a <;> exact Fin.ext (by simp [LoadRect.idx, Rect.toLoadRect, Rect.unit, ValueIdx.ix2, wide, laneOf])

/-- The affinities' part of a gathered row. -/
theorem reads_aff (r : Fin 1024) (k : Fin 128) : (Rect.unit (s := S1024x1152) ![0, 1024] S1024x128.size inb_S1024x1152_S1024x128_0_1024).toLoadRect.idx (ValueIdx.ix2 r k)
    = ValueIdx.ix2 r (laneOf k) := by
  funext a
  fin_cases a <;> exact Fin.ext (by simp [LoadRect.idx, Rect.toLoadRect, Rect.unit, ValueIdx.ix2, wide, laneOf])

include hx hg h6 h7 h8 in
/-- A point's new rows: the old ones plus the scale times the expert's feed-forward of the gathered row times its affinity. -/
theorem newRows_at (r l : Fin 1024) : newRows (BitVec.ofNat 32 e.val) xe X5 X6 X7 X8 og (ValueIdx.ix2 r l)
    = og (ValueIdx.ix2 r l) + X5 (ValueIdx.ix3 0 0 l) * (ffn (x r) Wg Wu Wd l * g r) := by
  have hact : ∀ r d, xe ((Rect.unit (s := S1024x1152) ![0, 0] S1024x1024.size inb_S1024x1152_S1024x1024_0_0).toLoadRect.idx (ValueIdx.ix2 r d)) = x r d :=
    fun r d => by rw [reads_act]; exact hx r d
  have c6 : ∀ (o : ℕ) (ho : o + 512 ≤ 2048) (h : ∀ a, (![0, 0, o] : Fin 3 → ℕ) a + S1x1024x512.size a ≤ S1x1024x2048.size a) (d : Fin 1024) (f : Fin 512),
      X6 ((Rect.unit (s := S1x1024x2048) ![0, 0, o] S1x1024x512.size h).toLoadRect.idx (ValueIdx.ix3 0 d f)) = Wg d ⟨o + f.val, by omega⟩ :=
    fun o ho h d f => by rw [cols o ho h]; exact h6 _ _
  have c7 : ∀ (o : ℕ) (ho : o + 512 ≤ 2048) (h : ∀ a, (![0, 0, o] : Fin 3 → ℕ) a + S1x1024x512.size a ≤ S1x1024x2048.size a) (d : Fin 1024) (f : Fin 512),
      X7 ((Rect.unit (s := S1x1024x2048) ![0, 0, o] S1x1024x512.size h).toLoadRect.idx (ValueIdx.ix3 0 d f)) = Wu d ⟨o + f.val, by omega⟩ :=
    fun o ho h d f => by rw [cols o ho h]; exact h7 _ _
  have c8 : ∀ (o : ℕ) (ho : o + 512 ≤ 2048) (h : ∀ a, (![0, o, 0] : Fin 3 → ℕ) a + S1x512x1024.size a ≤ S1x2048x1024.size a) (f : Fin 512) (d : Fin 1024),
      X8 ((Rect.unit (s := S1x2048x1024) ![0, o, 0] S1x512x1024.size h).toLoadRect.idx (ValueIdx.ix3 0 f d)) = Wd ⟨o + f.val, by omega⟩ d :=
    fun o ho h f d => by rw [rws o ho h]; exact h8 _ _
  unfold newRows val1 val2
  dsimp only
  rw [pay7_at, pay4_at (v20 := fun j => X6 ((Rect.unit (s := S1x1024x2048) ![0, 0, 512] S1x1024x512.size inb_S1x1024x2048_S1x1024x512_0_0_512).toLoadRect.idx j))
    (h22 := fun r f => pay3_at _ _ r f), pay2_at, lane_sum,
    piece_at x Wg Wu Wd 0 (by omega) _ _ _ _ hact (c6 0 (by omega) _) (c7 0 (by omega) _) (c8 0 (by omega) _),
    piece_at x Wg Wu Wd 512 (by omega) _ _ _ _ hact (c6 512 (by omega) _) (c7 512 (by omega) _) (c8 512 (by omega) _),
    piece_at x Wg Wu Wd 1024 (by omega) _ _ _ _ hact (c6 1024 (by omega) _) (c7 1024 (by omega) _) (c8 1024 (by omega) _),
    reads_all, reads_scale, reads_aff, hg]
  have hl : (∑ f : Fin 512, k0_pay6 (k0_pay1 fun j => xe ((Rect.unit (s := S1024x1152) ![0, 0] S1024x1024.size inb_S1024x1152_S1024x1024_0_0).toLoadRect.idx j))
        (fun j => X6 ((Rect.unit (s := S1x1024x2048) ![0, 0, 1536] S1x1024x512.size inb_S1x1024x2048_S1x1024x512_0_0_1536).toLoadRect.idx j)) (ValueIdx.ix2 r f)
      * k0_pay5 (k0_pay1 fun j => xe ((Rect.unit (s := S1024x1152) ![0, 0] S1024x1024.size inb_S1024x1152_S1024x1024_0_0).toLoadRect.idx j))
        (fun j => X7 ((Rect.unit (s := S1x1024x2048) ![0, 0, 1536] S1x1024x512.size inb_S1x1024x2048_S1x1024x512_0_0_1536).toLoadRect.idx j)) (ValueIdx.ix2 r f)
      * X8 ((Rect.unit (s := S1x2048x1024) ![0, 1536, 0] S1x512x1024.size inb_S1x2048x1024_S1x512x1024_0_1536_0).toLoadRect.idx (ValueIdx.ix3 0 f l)))
      = ∑ f : Fin 512, gated (mm (x r) Wg ⟨1536 + f.val, by omega⟩) (mm (x r) Wu ⟨1536 + f.val, by omega⟩) * Wd ⟨1536 + f.val, by omega⟩ l := by
    refine Finset.sum_congr rfl fun f _ => ?_
    rw [pay6_at, pay5_at, c8 1536 (by omega)]
    have e6 : ∀ f : Fin 512, (∑ d : Fin 1024, (k0_pay1 fun j => xe ((Rect.unit (s := S1024x1152) ![0, 0] S1024x1024.size inb_S1024x1152_S1024x1024_0_0).toLoadRect.idx j)) (ValueIdx.ix2 r d)
        * X6 ((Rect.unit (s := S1x1024x2048) ![0, 0, 1536] S1x1024x512.size inb_S1x1024x2048_S1x1024x512_0_0_1536).toLoadRect.idx (ValueIdx.ix3 0 d f))) = mm (x r) Wg ⟨1536 + f.val, by omega⟩ :=
      fun f => Finset.sum_congr rfl fun d _ => congrArg₂ (· * ·) (hact r d) (c6 1536 (by omega) _ d f)
    have e7 : ∀ f : Fin 512, (∑ d : Fin 1024, (k0_pay1 fun j => xe ((Rect.unit (s := S1024x1152) ![0, 0] S1024x1024.size inb_S1024x1152_S1024x1024_0_0).toLoadRect.idx j)) (ValueIdx.ix2 r d)
        * X7 ((Rect.unit (s := S1x1024x2048) ![0, 0, 1536] S1x1024x512.size inb_S1x1024x2048_S1x1024x512_0_0_1536).toLoadRect.idx (ValueIdx.ix3 0 d f))) = mm (x r) Wu ⟨1536 + f.val, by omega⟩ :=
      fun f => Finset.sum_congr rfl fun d _ => congrArg₂ (· * ·) (hact r d) (c7 1536 (by omega) _ d f)
    rw [e6, e7]
    rfl
  rw [hl, ffn, sum_chunks]

end Rows

end Cert.Moe

end
-- ==== Proof.ValueOut.lean ====
/-
  The output after all grid points, over the ideal values: the residual stream plus every expert's scaled contribution to each
  of its tokens.
-/
module

public import proofs.«01_k».proof.Proof.ValueK

@[expose] public section

noncomputable section

namespace Cert.Moe

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The activations in the padded rows. -/
theorem rows_act (b : Fin 4) (k : Fin 8192) (d : Fin 1024) :
    (V m c main_v1 : S4x8192x1152.Idx → Ideal .f32) (ValueIdx.ix3 b k (wide d))
      = (argAt m c main_arg1 : S4x8192x1024.Idx → Ideal .f32) (ValueIdx.ix3 b k d) := by
  rw [V_v1]
  refine concatenate_pair_apply_left (t := S4x8192x1152) (s₁ := S4x8192x1024) (s₂ := S4x8192x128) (2 : Fin 3) _ _ _ _ rfl _ ?_
  intro a
  fin_cases a <;> rfl

/-- The affinities in the padded rows. -/
theorem rows_aff (b : Fin 4) (k : Fin 8192) (e : Fin 16) :
    (V m c main_v1 : S4x8192x1152.Idx → Ideal .f32) (ValueIdx.ix3 b k (laneOf (laneE e)))
      = (argAt m c main_arg2 : S4x8192x16.Idx → Ideal .f32) (ValueIdx.ix3 b k e) := by
  rw [V_v1]
  refine (concatenate_pair_apply_right (t := S4x8192x1152) (s₁ := S4x8192x1024) (s₂ := S4x8192x128) (2 : Fin 3) _ _ _ _ rfl rfl
    (ValueIdx.ix3 b k (laneE e)) ?_ ?_).trans ?_
  · intro a ha
    fin_cases a
    · rfl
    · rfl
    · exact absurd rfl ha
  · show e.val + 1024 = 1024 + e.val
    omega
  · unfold padAff
    pointwise
    refine (dif_pos fun a => ?_).trans rfl
    match a with
    | ⟨0, _⟩ => exact ⟨Nat.zero_le _, Nat.mod_one _, by show (b.val - 0) / 1 < 4; have := b.isLt; omega⟩
    | ⟨1, _⟩ => exact ⟨Nat.zero_le _, Nat.mod_one _, by show (k.val - 0) / 1 < 8192; have := k.isLt; omega⟩
    | ⟨2, _⟩ => exact ⟨Nat.zero_le _, Nat.mod_one _, by show (e.val - 0) / 1 < 16; have := e.isLt; omega⟩

/-- An expert's feed-forward of a batch's token, times the token's affinity to the expert. -/
def share (a1 : S4x8192x1024.Idx → EReal) (a2 : S4x8192x16.Idx → EReal) (a5 a6 : S16x1024x2048.Idx → EReal) (a7 : S16x2048x1024.Idx → EReal)
    (b : Fin 4) (e : Fin 16) (k : Fin 8192) (l : Fin 1024) : EReal :=
  ffn (fun d => a1 (ValueIdx.ix3 b k d)) (fun d f => a5 (ValueIdx.ix3 e d f)) (fun d f => a6 (ValueIdx.ix3 e d f)) (fun f d => a7 (ValueIdx.ix3 e f d)) l
    * a2 (ValueIdx.ix3 b k e)

/-- The same of the program's arguments. -/
abbrev shareAt (b : Fin 4) (e : Fin 16) (k : Fin 8192) (l : Fin 1024) : EReal :=
  share (argAt m c main_arg1) (argAt m c main_arg2) (argAt m c main_arg5) (argAt m c main_arg6) (argAt m c main_arg7) b e k l

/-- The scale of a batch's column. -/
abbrev scaleAt (b : Fin 4) (l : Fin 1024) : EReal := (argAt m c main_arg4 : S4x1x1024.Idx → EReal) (ValueIdx.ix3 b 0 l)

/-- The residual stream's element. -/
abbrev baseAt (b : Fin 4) (k : Fin 8192) (l : Fin 1024) : EReal := (argAt m c main_arg3 : S4x8192x1024.Idx → EReal) (ValueIdx.ix3 b k l)

theorem rowsAt_at (t : Fin cfg0.N) (fo : S4x8192x1024.Idx → Elt Ideal .f32) (r l : Fin 1024) :
    rowsAt m c t fo (ValueIdx.ix2 r l) = fo (ValueIdx.ix3 (bAt t) (tokAt m c t r) l)
      + scaleAt m c (bAt t) l * shareAt m c (bAt t) (eAt t) (tokAt m c t r) l := by
  refine (newRows_at (fun r d => (argAt m c main_arg1 : S4x8192x1024.Idx → EReal) (ValueIdx.ix3 (bAt t) (tokAt m c t r) d))
    (fun d f => (argAt m c main_arg5 : S16x1024x2048.Idx → EReal) (ValueIdx.ix3 (eAt t) d f))
    (fun d f => (argAt m c main_arg6 : S16x1024x2048.Idx → EReal) (ValueIdx.ix3 (eAt t) d f))
    (fun f d => (argAt m c main_arg7 : S16x2048x1024.Idx → EReal) (ValueIdx.ix3 (eAt t) f d)) (eAt t)
    (fun r => (argAt m c main_arg2 : S4x8192x16.Idx → EReal) (ValueIdx.ix3 (bAt t) (tokAt m c t r) (eAt t)))
    (gath (bAt t) (tokAt m c t) (V m c main_v1)) (iblk m c 1 t) (iblk m c 2 t) (iblk m c 3 t) (iblk m c 4 t) (gath (bAt t) (tokAt m c t) fo)
    (fun r d => rows_act m c _ _ d) (fun r => rows_aff m c _ _ _) (fun d f => iblk2 m c t d f) (fun d f => iblk3 m c t d f)
    (fun f d => iblk4 m c t f d) r l).trans ?_
  rw [iblk1]
  rfl

/-- What a point adds to an element of the output. -/
def added (t : Fin cfg0.N) (b : Fin 4) (k : Fin 8192) (l : Fin 1024) : EReal :=
  if bAt t = b then ∑ r : Fin 1024, if tokAt m c t r = k then scaleAt m c b l * shareAt m c b (eAt t) k l else 0 else 0

variable (hgood : Good (argAt m c main_arg0 : S4x16x1024.Idx → BitVec 32))

include hgood in
theorem stepAt_at (t : Fin cfg0.N) (fo : S4x8192x1024.Idx → Elt Ideal .f32) (b : Fin 4) (k : Fin 8192) (l : Fin 1024) :
    stepAt m c t fo (ValueIdx.ix3 b k l) = (fo (ValueIdx.ix3 b k l) : EReal) + added m c t b k l := by
  have hinj : Function.Injective (tokAt m c t) := hgood.inj _ _
  unfold stepAt added
  by_cases hb : bAt t = b
  · subst hb
    rw [if_pos rfl]
    by_cases hk : ∃ r, tokAt m c t r = k
    · obtain ⟨r, rfl⟩ := hk
      rw [putRows_row _ hinj, rowsAt_at, Finset.sum_eq_single r, if_pos rfl]
      · exact fun r' _ hr' => if_neg fun h => hr' (hinj h)
      · exact fun h => absurd (Finset.mem_univ _) h
    · rw [putRows_off _ _ _ _ _ fun _ r hr => hk ⟨r, hr⟩, Finset.sum_eq_zero, add_zero]
      exact fun r _ => if_neg fun h => hk ⟨r, h⟩
  · rw [if_neg hb, add_zero]
    exact putRows_off _ _ _ _ _ fun h => absurd h.symm hb

include hgood in
/-- The output after some of the points. -/
theorem outAt_at (n : ℕ) (hn : n ≤ cfg0.N) (b : Fin 4) (k : Fin 8192) (l : Fin 1024) :
    (outAt m c n (ValueIdx.ix3 b k l) : EReal) = baseAt m c b k l
      + ∑ t : Fin n, added m c ⟨t.val, lt_of_lt_of_le t.isLt hn⟩ b k l := by
  induction n with
  | zero =>
    rw [Finset.univ_eq_empty, Finset.sum_empty, add_zero]
    exact congrFun (V_v6 m c) _
  | succ n ih =>
    rw [Fin.sum_univ_castSucc, ← add_assoc]
    have h := outAt_succ m c ⟨n, hn⟩
    refine (congrFun h _).trans ((stepAt_at m c hgood ⟨n, hn⟩ _ b k l).trans ?_)
    exact congrArg (· + added m c ⟨n, hn⟩ b k l) (ih (Nat.le_of_succ_le hn))

/-- Which point an expert's batch is. -/
def pt (e : Fin 16) (b : Fin 4) : Fin cfg0.N := ⟨e.val * 4 + b.val, by show e.val * 4 + b.val < 64; omega⟩

theorem pt_facts (e : Fin 16) (b : Fin 4) : bAt (pt e b) = b ∧ eAt (pt e b) = e := by
  revert e b; decide

theorem sum_points (f : Fin cfg0.N → EReal) : ∑ t, f t = ∑ e : Fin 16, ∑ b : Fin 4, f (pt e b) := by
  rw [← Fintype.sum_prod_type']
  refine (Fintype.sum_equiv (finProdFinEquiv (m := 16) (n := 4)) _ _ fun p => congrArg f (Fin.ext ?_)).symm
  show p.1.val * 4 + p.2.val = p.2.val + 4 * p.1.val
  omega

include hgood in
/-- The output at the end. -/
theorem out_at (b : Fin 4) (k : Fin 8192) (l : Fin 1024) :
    (outAt m c 64 (ValueIdx.ix3 b k l) : EReal) = baseAt m c b k l
      + ∑ e : Fin 16, ∑ r : Fin 1024, if tokOf (argAt m c main_arg0) b e r = k then scaleAt m c b l * shareAt m c b e k l else 0 := by
  refine (outAt_at m c hgood 64 (le_refl _) b k l).trans (congrArg _ ((sum_points fun t => added m c t b k l).trans ?_))
  refine Finset.sum_congr rfl fun e _ => ?_
  rw [Finset.sum_eq_single b]
  · unfold added
    rw [if_pos (pt_facts e b).1]
    refine Finset.sum_congr rfl fun r _ => ?_
    unfold tokAt
    rw [(pt_facts e b).1, (pt_facts e b).2]
  · intro b' _ hb'
    unfold added
    rw [if_neg]
    rw [(pt_facts e b').1]
    exact hb'
  · exact fun h => absurd (Finset.mem_univ _) h

end Cert.Moe

end
-- ==== Proof.ValueR.lean ====
/-
  The reference's result over the ideal values, read at an index: the residual stream plus the scale times the sum of every
  expert's contributions to the token.
-/
module

public import proofs.«01_k».proof.Proof.IdxR
public import proofs.«01_k».proof.Proof.ValueOut

@[expose] public section

noncomputable section

namespace Cert.Moe.Ref

open Cert.ReferenceIdeal Cert.ReferenceIdeal.Gen
open Idealize.ShloMosaic Idealize.ShloMosaic.TcCoe Idealize.ShloMosaic.Tactic

/-- The rows each expert takes, gathered from the activations. -/
abbrev gathered (a0 : IVec S4x16x1024 32) (a1 : FVec Ideal S4x8192x1024 .f32) : FVec Ideal S4x16x1024x1024 .f32 :=
  Host.gather gather_S4x8192x1024_S4x16x1024x2_S4x16x1024x1024_3_01_n_n_01_3_111024 a1 (pairs a0)

/-- The affinity of each row to its expert. -/
abbrev gates (a0 : IVec S4x16x1024 32) (a2 : FVec Ideal S4x8192x16 .f32) : FVec Ideal S4x16x1024 .f32 :=
  Host.gather gather_S4x8192x16_S4x16x1024x3_S4x16x1024_n_012_n_n_012_3_111 a2 (triples a0)

/-- An expert's rows times its weights, into the hidden width. -/
abbrev proj (W : FVec Ideal S16x1024x2048 .f32) (x : FVec Ideal S4x16x1024x1024 .f32) : FVec Ideal S4x16x1024x2048 .f32 :=
  transpose S4x16x1024x2048 [2, 0, 3, 1] (Host.dotGeneral dot_S16x1024x2048_S4x16x1024x1024_S16x2048x4x1024_1_3_2_02_0_1 none W x) transposes_S16x2048x4x1024_S4x16x1024x2048_2_0_3_1

/-- The hidden rows times an expert's weights, back into the model's width. -/
abbrev unproj (W : FVec Ideal S16x2048x1024 .f32) (x : FVec Ideal S4x16x1024x2048 .f32) : FVec Ideal S4x16x1024x1024 .f32 :=
  transpose S4x16x1024x1024 [2, 0, 3, 1] (Host.dotGeneral dot_S16x2048x1024_S4x16x1024x2048_S16x1024x4x1024_1_3_2_02_0_1 none W x) transposes_S16x1024x4x1024_S4x16x1024x1024_2_0_3_1

/-- The array of ones. -/
abbrev ones : FVec Ideal S4x16x1024x2048 .f32 :=
  broadcastInDim S4x16x1024x2048 ![] bcast_S_S4x16x1024x2048 (constant S_ .f32 0x3F800000#32)

/-- An array times its logistic. -/
abbrev silu (g : FVec Ideal S4x16x1024x2048 .f32) : FVec Ideal S4x16x1024x2048 .f32 :=
  mulf g (Host.divf ones (addf ones (Host.exp (Host.negf g))))

/-- The rows every expert adds. -/
abbrev added (a0 : IVec S4x16x1024 32) (a1 : FVec Ideal S4x8192x1024 .f32) (a2 : FVec Ideal S4x8192x16 .f32)
    (a5 a6 : FVec Ideal S16x1024x2048 .f32) (a7 : FVec Ideal S16x2048x1024 .f32) : FVec Ideal S4x16x1024x1024 .f32 :=
  mulf (unproj a7 (mulf (silu (proj a5 (gathered a0 a1))) (proj a6 (gathered a0 a1))))
    (broadcastInDim S4x16x1024x1024 ![0, 1, 2, 3] bcast_S4x16x1024x1_S4x16x1024x1024_0_1_2_3
      (broadcastInDim S4x16x1024x1 ![0, 1, 2] bcast_S4x16x1024_S4x16x1024x1_0_1_2 (gates a0 a2)))

/-- The rows added up at their tokens. -/
abbrev summed (idx : IVec S4x16x1024x2 32) (u : FVec Ideal S4x16x1024x1024 .f32) : FVec Ideal S4x8192x1024 .f32 :=
  Host.scatterAdd scatter_S4x8192x1024_S4x16x1024x2_S4x16x1024x1024_3_01_01_3
    (broadcastInDim S4x8192x1024 ![] bcast_S_S4x8192x1024 (constant S_ .f32 0x00000000#32)) idx u

/-- The reference's result. -/
abbrev result (a0 : IVec S4x16x1024 32) (a1 : FVec Ideal S4x8192x1024 .f32) (a2 : FVec Ideal S4x8192x16 .f32) (a3 : FVec Ideal S4x8192x1024 .f32)
    (a4 : FVec Ideal S4x1x1024 .f32) (a5 a6 : FVec Ideal S16x1024x2048 .f32) (a7 : FVec Ideal S16x2048x1024 .f32) : FVec Ideal S4x8192x1024 .f32 :=
  addf a3 (mulf (broadcastInDim S4x8192x1024 ![0, 1, 2] bcast_S4x1x1024_S4x8192x1024_0_1_2 a4) (summed (pairs a0) (added a0 a1 a2 a5 a6 a7)))

/-- An argument of the reference's launch. -/
abbrev arg (m : (ℓ : Loc nD τ sig) → Buf (Elt Ideal) ℓ) (c : Dev nD) (r : Ref sig .tc) : Buf (Elt Ideal) ((c.tc : Thread nD τ).loc r) :=
  m ((c.tc : Thread nD τ).loc r)

/-- The reference's result is that of its arguments. -/
theorem res_eq (m : (ℓ : Loc nD τ sig) → Buf (Elt Ideal) ℓ) (c : Dev nD) :
    Value.res_main_v70 m c
      = result (arg m c main_arg0) (arg m c main_arg1) (arg m c main_arg2) (arg m c main_arg3) (arg m c main_arg4) (arg m c main_arg5) (arg m c main_arg6) (arg m c main_arg7) := rfl

/-- A product into the hidden width at an index. -/
theorem proj_at (W : FVec Ideal S16x1024x2048 .f32) (x : FVec Ideal S4x16x1024x1024 .f32) (b : Fin 4) (e : Fin 16) (r : Fin 1024) (f : Fin 2048) :
    (proj W x (ValueIdx.ix4 b e r f) : EReal) = mm (fun d => x (ValueIdx.ix4 b e r d)) (fun d f => W (ValueIdx.ix3 e d f)) f := by
  unfold mm
  pointwise
  exact Finset.sum_congr rfl fun d _ => mul_comm _ _

/-- A product back into the model's width at an index. -/
theorem unproj_at (W : FVec Ideal S16x2048x1024 .f32) (x : FVec Ideal S4x16x1024x2048 .f32) (b : Fin 4) (e : Fin 16) (r l : Fin 1024) :
    (unproj W x (ValueIdx.ix4 b e r l) : EReal) = ∑ f : Fin 2048, (x (ValueIdx.ix4 b e r f) : EReal) * W (ValueIdx.ix3 e f l) := by
  pointwise
  exact Finset.sum_congr rfl fun d _ => mul_comm _ _

/-- The gate at an index. -/
theorem silu_at (g : FVec Ideal S4x16x1024x2048 .f32) (i : S4x16x1024x2048.Idx) :
    (silu g i : EReal) = (g i : EReal) * Ideal.logistic (g i) := by
  have h1 : Ideal.ofBits .f32 0x3F800000#32 = 1 := by
    simp [Ideal.ofBits, Ideal.ieee]
    rw [← EReal.coe_mul]
    norm_num
  show (g i : EReal) * Ideal.div (Ideal.ofBits .f32 0x3F800000#32) (Ideal.ofBits .f32 0x3F800000#32 + Ideal.exp (-(g i : EReal))) = _
  rw [h1]
  rfl

/-- The row an expert adds is its share of the row's token. -/
theorem added_at {a0 : IVec S4x16x1024 32} (hgood : Good a0) (a1 : FVec Ideal S4x8192x1024 .f32) (a2 : FVec Ideal S4x8192x16 .f32)
    (a5 a6 : FVec Ideal S16x1024x2048 .f32) (a7 : FVec Ideal S16x2048x1024 .f32) (b : Fin 4) (e : Fin 16) (r l : Fin 1024) :
    (added a0 a1 a2 a5 a6 a7 (ValueIdx.ix4 b e r l) : EReal) = share a1 a2 a5 a6 a7 b e (tokOf a0 b e r) l := by
  have hx : ∀ d, gathered a0 a1 (ValueIdx.ix4 b e r d) = a1 (ValueIdx.ix3 b (tokOf a0 b e r) d) := fun d =>
    gather_pair a1 _ b e r d _ (pairs_batch a0 b e r) (pairs_token hgood b e r)
  have hg : gates a0 a2 (ValueIdx.ix3 b e r) = a2 (ValueIdx.ix3 b (tokOf a0 b e r) e) :=
    gather_triple a2 _ b e r _ (triples_batch a0 b e r) (triples_token hgood b e r) (triples_expert a0 b e r)
  have hb : (broadcastInDim S4x16x1024x1024 ![0, 1, 2, 3] bcast_S4x16x1024x1_S4x16x1024x1024_0_1_2_3
      (broadcastInDim S4x16x1024x1 ![0, 1, 2] bcast_S4x16x1024_S4x16x1024x1_0_1_2 (gates a0 a2))) (ValueIdx.ix4 b e r l)
        = gates a0 a2 (ValueIdx.ix3 b e r) := congrArg (gates a0 a2) (by funext a; fin_cases a <;> rfl)
  show (unproj a7 _ (ValueIdx.ix4 b e r l) : EReal) * _ = _
  rw [hb, hg, unproj_at]
  unfold share ffn gated
  refine congrArg (fun z : EReal => z * a2 (ValueIdx.ix3 b (tokOf a0 b e r) e)) (Finset.sum_congr rfl fun f _ => ?_)
  refine congrArg (fun z : EReal => z * a7 (ValueIdx.ix3 e f l)) ?_
  show (silu (proj a5 (gathered a0 a1)) (ValueIdx.ix4 b e r f) : EReal) * proj a6 (gathered a0 a1) (ValueIdx.ix4 b e r f) = _
  rw [silu_at, proj_at, proj_at]
  simp only [hx]

/-- Rows added up at their tokens, at an index. -/
theorem summed_at (idx : IVec S4x16x1024x2 32) (u : FVec Ideal S4x16x1024x1024 .f32) (tok : Fin 4 → Fin 16 → Fin 1024 → Fin 8192)
    (h0 : ∀ b e r, idx (ValueIdx.ix4 b e r 0) = BitVec.ofNat 32 b.val) (h1 : ∀ b e r, idx (ValueIdx.ix4 b e r 1) = BitVec.ofNat 32 (tok b e r).val)
    (b : Fin 4) (k : Fin 8192) (l : Fin 1024) :
    (summed idx u (ValueIdx.ix3 b k l) : EReal)
      = ∑ e : Fin 16, ∑ r : Fin 1024, if tok b e r = k then (u (ValueIdx.ix4 b e r l) : EReal) else 0 := by
  classical
  have hz : Ideal.ofBits .f32 0x00000000#32 = 0 := by simp [Ideal.ofBits, Ideal.ieee]
  show Ideal.ofBits .f32 0x00000000#32 + ∑ j ∈ Finset.univ.filter (fun j =>
      scatter_S4x8192x1024_S4x16x1024x2_S4x16x1024x1024_3_01_01_3.resultIdx? j idx = some (ValueIdx.ix3 b k l)), (u j : EReal) = _
  rw [hz, zero_add, Finset.sum_filter]
  rw [← Fintype.sum_equiv ⟨fun p : Fin 4 × Fin 16 × Fin 1024 × Fin 1024 => (ValueIdx.ix4 p.1 p.2.1 p.2.2.1 p.2.2.2 : S4x16x1024x1024.Idx),
      fun i => (i 0, i 1, i 2, i 3), fun _ => rfl, fun i => by funext a; fin_cases a <;> rfl⟩
    (fun p => if (p.1 = b ∧ tok p.1 p.2.1 p.2.2.1 = k ∧ p.2.2.2 = l) then (u (ValueIdx.ix4 p.1 p.2.1 p.2.2.1 p.2.2.2) : EReal) else 0) _
    (fun p => if_congr (lands idx b p.1 p.2.1 p.2.2.1 l p.2.2.2 _ k (h0 _ _ _) (h1 _ _ _)).symm rfl rfl)]
  rw [Fintype.sum_prod_type, Finset.sum_eq_single b]
  · rw [Fintype.sum_prod_type]
    refine Finset.sum_congr rfl fun e _ => ?_
    rw [Fintype.sum_prod_type]
    refine Finset.sum_congr rfl fun r _ => ?_
    rw [Finset.sum_eq_single l]
    · simp
    · intro l' _ hl
      rw [if_neg fun h => hl h.2.2]
    · intro h; exact absurd (Finset.mem_univ _) h
  · intro b' _ hb
    exact Finset.sum_eq_zero fun p _ => if_neg fun h => hb h.1
  · intro h; exact absurd (Finset.mem_univ _) h

/-- The reference's result at an index. -/
theorem result_at {a0 : IVec S4x16x1024 32} (hgood : Good a0) (a1 : FVec Ideal S4x8192x1024 .f32) (a2 : FVec Ideal S4x8192x16 .f32) (a3 : FVec Ideal S4x8192x1024 .f32)
    (a4 : FVec Ideal S4x1x1024 .f32) (a5 a6 : FVec Ideal S16x1024x2048 .f32) (a7 : FVec Ideal S16x2048x1024 .f32) (b : Fin 4) (k : Fin 8192) (l : Fin 1024) :
    (result a0 a1 a2 a3 a4 a5 a6 a7 (ValueIdx.ix3 b k l) : EReal)
      = (a3 (ValueIdx.ix3 b k l) : EReal) + (a4 (ValueIdx.ix3 b 0 l) : EReal)
          * ∑ e : Fin 16, ∑ r : Fin 1024, if tokOf a0 b e r = k then share a1 a2 a5 a6 a7 b e k l else 0 := by
  have hb : (broadcastInDim S4x8192x1024 ![0, 1, 2] bcast_S4x1x1024_S4x8192x1024_0_1_2 a4) (ValueIdx.ix3 b k l) = a4 (ValueIdx.ix3 b 0 l) :=
    congrArg a4 (by funext a; fin_cases a <;> rfl)
  show (a3 (ValueIdx.ix3 b k l) : EReal) + (broadcastInDim S4x8192x1024 ![0, 1, 2] bcast_S4x1x1024_S4x8192x1024_0_1_2 a4 (ValueIdx.ix3 b k l) : EReal)
      * (summed (pairs a0) (added a0 a1 a2 a5 a6 a7) (ValueIdx.ix3 b k l) : EReal) = _
  rw [hb, summed_at (pairs a0) _ (tokOf a0) (pairs_batch a0) (pairs_token hgood)]
  congr 2
  refine Finset.sum_congr rfl fun e _ => Finset.sum_congr rfl fun r _ => ?_
  by_cases ht : tokOf a0 b e r = k
  · rw [if_pos ht, if_pos ht, added_at hgood, ht]
  · rw [if_neg ht, if_neg ht]

end Cert.Moe.Ref
-- ==== Proof.Pre.lean ====
/-
  What the precondition of the frames says of the argument arrays.
-/
module

public import proofs.«01_k».proof.Defs
public import proofs.«01_k».proof.Proof.Run
public import proofs.«01_k».proof.Proof.Gen.Pre_distinct_tokens
public import Idealize.ShloMosaic.Lib.Affine

@[expose] public section

noncomputable section

namespace Cert.Moe

open Idealize.ShloMosaic

/-- A word that is at least zero and below 8192 as a signed number is below 8192 as a natural number. -/
theorem word_range {w : BitVec 32} (h0 : IntOp.cmpi .sge w 0#32 = 1#1) (h1 : IntOp.cmpi .slt w 8192#32 = 1#1) : w.toNat < 8192 := by
  rw [IntOp.cmpi_sge] at h0
  rw [IntOp.cmpi_slt] at h1
  have e0 : (0#32 : BitVec 32).toInt = 0 := by decide
  have e1 : (8192#32 : BitVec 32).toInt = 8192 := by decide
  rw [e0] at h0
  rw [e1] at h1
  have := BitVec.toInt_eq_toNat_cond w
  split at this <;> omega

/-- The slot words are in range and those of an expert different, from the tests of each pair of slots. -/
theorem good_of {ix : Cert.KernelIdeal.S4x16x1024.Idx → BitVec 32}
    (h : ∀ (b : Fin 4) (e : Fin 16) (r s : Fin 1024),
      (IntOp.cmpi .sge (ix (ValueIdx.ix3 b e r)) 0#32 = 1#1 ∧ IntOp.cmpi .slt (ix (ValueIdx.ix3 b e r)) 8192#32 = 1#1)
      ∧ (IntOp.cmpi .ne (ix (ValueIdx.ix3 b e r)) (ix (ValueIdx.ix3 b e s)) = 1#1
          ∨ IntOp.cmpi .eq (BitVec.ofNat 32 r.val) (BitVec.ofNat 32 s.val) = 1#1)) : Good ix := by
  have hr : ∀ (b : Fin 4) (e : Fin 16) (r : Fin 1024), (ix (ValueIdx.ix3 b e r)).toNat < 8192 :=
    fun b e r => word_range (h b e r r).1.1 (h b e r r).1.2
  refine ⟨hr, fun b e r s hrs => ?_⟩
  have hv := congrArg Fin.val hrs
  simp only [tokOf, Fin.ofNat, Nat.mod_eq_of_lt (hr _ _ _)] at hv
  have hw := BitVec.eq_of_toNat_eq hv
  rcases (h b e r s).2 with hne | heq
  · exact absurd hw (IntOp.cmpi_ne.1 hne)
  · have := congrArg BitVec.toNat (IntOp.cmpi_eq.1 heq)
    simp only [BitVec.toNat_ofNat] at this
    have h1 := r.isLt
    have h2 := s.isLt
    ext
    omega

/-- The first precondition, read back. -/
theorem good_of_distinct {F : FTy → Type} [FloatOps F] {a0 : IVec Cert.KernelIdeal.S4x16x1024 32} {a1 a2 a3 a4 a5 a6 a7}
    (h : Cert.Pre_distinct_tokens.fn (F := F) a0 a1 a2 a3 a4 a5 a6 a7 = fun _ => 1#1) : Good a0 := by
  refine good_of fun b e r s => ?_
  have h := congrFun h (ValueIdx.ix4 b e r s)
  have h' := IntOp.andi_eq_one.1 h
  have h1 := IntOp.andi_eq_one.1 h'.1
  have h2 := IntOp.ori_eq_one.1 h'.2
  have e1 : broadcastInDim Cert.Pre_distinct_tokens.S4x16x1024x1024 ![0, 1, 2, 3] Cert.Pre_distinct_tokens.Gen.bcast_S4x16x1024x1_S4x16x1024x1024_0_1_2_3
      (broadcastInDim Cert.Pre_distinct_tokens.S4x16x1024x1 ![0, 1, 2] Cert.Pre_distinct_tokens.Gen.bcast_S4x16x1024_S4x16x1024x1_0_1_2 a0) (ValueIdx.ix4 b e r s)
        = a0 (ValueIdx.ix3 b e r) := congrArg a0 (by funext a; fin_cases a <;> rfl)
  have e2 : broadcastInDim Cert.Pre_distinct_tokens.S4x16x1024x1024 ![0, 1, 2, 3] Cert.Pre_distinct_tokens.Gen.bcast_S4x16x1x1024_S4x16x1024x1024_0_1_2_3
      (broadcastInDim Cert.Pre_distinct_tokens.S4x16x1x1024 ![0, 1, 3] Cert.Pre_distinct_tokens.Gen.bcast_S4x16x1024_S4x16x1x1024_0_1_3 a0) (ValueIdx.ix4 b e r s)
        = a0 (ValueIdx.ix3 b e s) := congrArg a0 (by funext a; fin_cases a <;> rfl)
  rw [← e1, ← e2]
  exact ⟨h1, h2⟩

end Cert.Moe

end
-- ==== Proof.PreFin.lean ====
/-
  What the precondition of the value claim says of the argument arrays.
-/
module

public import proofs.«01_k».proof.Defs
public import proofs.«01_k».proof.Proof.Run
public import proofs.«01_k».proof.Proof.Pre
public import proofs.«01_k».proof.Proof.Gen.Pre_finite_layer
public import Idealize.ShloMosaic.Lib.ReduceAll

@[expose] public section

noncomputable section

namespace Cert.Moe

open Idealize.ShloMosaic

instance : Subsingleton (Shape.Idx (⟨0, ![]⟩ : Shape)) := ⟨fun _ _ => funext fun i => i.elim0⟩

/-- A magnitude below plus infinity is that of a number that is neither infinity. -/
theorem fin_of_olt {x : Ideal .f32}
    (h : FloatOps.cmpf .olt (FloatOps.hostAbsf x) (FloatOps.ofBits (F := Ideal) .f32 0x7F800000#32) = 1#1) :
    (x : EReal) ≠ ⊤ ∧ (x : EReal) ≠ ⊥ := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  refine ⟨fun e => ?_, fun e => ?_⟩ <;> rw [e] at h' <;> simp [Ideal.cmp] at h'

/-- A finite array: none of its elements is an infinity. -/
def FinArr {s : Shape} (x : s.Idx → EReal) : Prop := ∀ i, x i ≠ ⊤ ∧ x i ≠ ⊥

/-- The test of a whole array that came out one, read back. -/
theorem finite_of_all {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel) (j : (⟨0, ![]⟩ : Shape).Idx)
    (h : Host.reduce IntOp.andi (cmpf .olt (Host.absf x) (broadcastInDim s ![] hb (constant (⟨0, ![]⟩ : Shape) .f32 0x7F800000#32)))
      (constantI (⟨0, ![]⟩ : Shape) 1 1#1) hr hu j = 1#1) : FinArr (s := s) x :=
  fun i => fin_of_olt (Host.reduce_andi_all _ _ hr hu j h i)

/-- What the second precondition says of the arrays. -/
structure FinLayer (a0 : IVec Cert.KernelIdeal.S4x16x1024 32) (a1 : FVec Ideal Cert.KernelIdeal.S4x8192x1024 .f32)
    (a2 : FVec Ideal Cert.KernelIdeal.S4x8192x16 .f32) (a4 : FVec Ideal Cert.KernelIdeal.S4x1x1024 .f32)
    (a5 a6 : FVec Ideal Cert.KernelIdeal.S16x1024x2048 .f32) (a7 : FVec Ideal Cert.KernelIdeal.S16x2048x1024 .f32) : Prop where
  good : Good a0
  h : FinArr (s := Cert.KernelIdeal.S4x8192x1024) a1
  aff : FinArr (s := Cert.KernelIdeal.S4x8192x16) a2
  gt : FinArr (s := Cert.KernelIdeal.S4x1x1024) a4
  wg : FinArr (s := Cert.KernelIdeal.S16x1024x2048) a5
  wu : FinArr (s := Cert.KernelIdeal.S16x1024x2048) a6
  wd : FinArr (s := Cert.KernelIdeal.S16x2048x1024) a7

/-- The second precondition, read back. -/
theorem finLayer_of {a0 : IVec Cert.KernelIdeal.S4x16x1024 32} {a1 a2 a3 a4 a5 a6 a7}
    (h : Cert.Pre_finite_layer.fn (F := Ideal) a0 a1 a2 a3 a4 a5 a6 a7 = fun _ => 1#1) : FinLayer a0 a1 a2 a4 a5 a6 a7 := by
  have key : ∀ y, Cert.Pre_distinct_tokens.fn (F := Ideal) a0 a1 a2 a3 a4 a5 a6 a7 y = 1#1 :=
    fun y => (IntOp.andi_eq_one.1 (congrFun h y)).1
  have h := congrFun h (ValueIdx.ix4 0 0 0 0)
  have h28 := (IntOp.andi_eq_one.1 h).2
  have h27 := IntOp.andi_eq_one.1 h28
  have h22 := IntOp.andi_eq_one.1 h27.1
  have h17 := IntOp.andi_eq_one.1 h22.1
  have h12 := IntOp.andi_eq_one.1 h17.1
  have h7 := IntOp.andi_eq_one.1 h12.1
  exact ⟨good_of_distinct (funext key), finite_of_all _ _ _ _ _ h7.1, finite_of_all _ _ _ _ _ h7.2, finite_of_all _ _ _ _ _ h12.2,
    finite_of_all _ _ _ _ _ h17.2, finite_of_all _ _ _ _ _ h22.2, finite_of_all _ _ _ _ _ h27.2⟩

end Cert.Moe

end
-- ==== Proof.Frames.lean ====
/-
  The frames: each program terminates without a fault, its arguments end unchanged and every semaphore ends at zero.
-/
module

public import proofs.«01_k».proof.Defs
public import proofs.«01_k».proof.Proof.Pre
public import proofs.«01_k».proof.Proof.Gen.Kernel
public import proofs.«01_k».proof.Proof.Gen.ReferenceIdeal.Run
public import Idealize.ShloMosaic.Lib.Quiescent

@[expose] public section

noncomputable section

namespace Cert.Moe

open Idealize.ShloMosaic Idealize.SL.Sem

set_option maxRecDepth 8192

variable {F : FTy → Type} [FloatOps F]

/-- The two prints of the kernel's body are one program. -/
theorem experts_eq : @Cert.Kernel.cc0_moe_experts F _ _ = @Cert.KernelIdeal.cc0_moe_experts F _ _ := rfl

/-- The two prints' body tables are one. -/
theorem table_eq : @Cert.Kernel.defs₀ F _ _ = @Cert.KernelIdeal.defs₀ F _ _ := by
  unfold Cert.Kernel.defs₀ Cert.KernelIdeal.defs₀
  refine congrArg Defs.onTc (funext fun l => ?_)
  match l with
  | 0 =>
    funext x
    obtain ⟨t, s⟩ := x
    show Cert.Kernel.cc0_moe_experts _ _ _ _ _ _ _ _ _ _ _ _ _ _ _ _ _ _ _ _ _ _ = Cert.KernelIdeal.cc0_moe_experts _ _ _ _ _ _ _ _ _ _ _ _ _ _ _ _ _ _ _ _ _ _
    rw [experts_eq]
    have s0 : Cert.Kernel.win0_0.stage = Cert.KernelIdeal.win0_0.stage := by funext i; fin_cases i <;> rfl
    have s1 : Cert.Kernel.win0_1.stage = Cert.KernelIdeal.win0_1.stage := by funext i; fin_cases i <;> rfl
    have s2 : Cert.Kernel.win0_2.stage = Cert.KernelIdeal.win0_2.stage := by funext i; fin_cases i <;> rfl
    have s3 : Cert.Kernel.win0_3.stage = Cert.KernelIdeal.win0_3.stage := by funext i; fin_cases i <;> rfl
    have s4 : Cert.Kernel.win0_4.stage = Cert.KernelIdeal.win0_4.stage := by funext i; fin_cases i <;> rfl
    have x0 : Cert.Kernel.win0_0.stage (s 0) = Cert.KernelIdeal.win0_0.stage (s 0) := congrFun s0 (s 0)
    have x1 : Cert.Kernel.win0_1.stage (s 1) = Cert.KernelIdeal.win0_1.stage (s 1) := congrFun s1 (s 1)
    have x2 : Cert.Kernel.win0_2.stage (s 2) = Cert.KernelIdeal.win0_2.stage (s 2) := congrFun s2 (s 2)
    have x3 : Cert.Kernel.win0_3.stage (s 3) = Cert.KernelIdeal.win0_3.stage (s 3) := congrFun s3 (s 3)
    have x4 : Cert.Kernel.win0_4.stage (s 4) = Cert.KernelIdeal.win0_4.stage (s 4) := congrFun s4 (s 4)
    congr 1

/-- The two prints' definitions are one. -/
theorem defs_eq : @Cert.Kernel.defs F _ _ = @Cert.KernelIdeal.defs F _ _ := congrArg (Pipeline.defs Cert.KernelIdeal.pcfgs) table_eq

/-- The two prints' main programs are one. -/
theorem main_same : @Cert.Kernel.main F _ _ = @Cert.KernelIdeal.main F _ _ := rfl

/-- What holds of the runs of the one print holds of those of the other. -/
theorem runs_same (s : MemSt Cert.KernelIdeal.nD Cert.KernelIdeal.τ Cert.KernelIdeal.sig (Elt F)) (Q : _ → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_eq]
  exact h

/-- The kernel as printed: its frame. -/
theorem frame_kernel : Cert.quiescent_Kernel := fun m ρ hpre =>
  runs_same _ _ ((θ_run Cert.KernelIdeal.defs _ _).mono (fun _ h => ⟨fun c => (h.1 c).2, h.2⟩)
    (run (F := Bits) m ρ fun c => good_of_distinct (hpre c)))

/-- The idealized kernel: its frame. -/
theorem frame_kernelIdeal : Cert.quiescent_KernelIdeal := fun m ρ hpre =>
  (θ_run Cert.KernelIdeal.defs _ _).mono (fun _ h => ⟨fun c => (h.1 c).2, h.2⟩)
    (run (F := Ideal) m ρ fun c => good_of_distinct (hpre c))

/-- The reference: its frame. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Algebraic.lean ====
/-
  The value claim: over the ideal values the kernel's output is the reference's.
-/
module

public import proofs.«01_k».proof.Proof.ValueR
public import proofs.«01_k».proof.Proof.PreFin
public import proofs.«01_k».proof.Proof.Frames

@[expose] public section

noncomputable section

namespace Cert.Moe

open Idealize.ShloMosaic Idealize.ShloMosaic.TcCoe Idealize.ShloMosaic.Tactic

/-- An extended real that is a real number. -/
def IsNum (x : EReal) : Prop := ∃ r : ℝ, x = (r : EReal)

/-- What is neither infinity is a number. -/
theorem isNum_of {x : EReal} (h : x ≠ ⊤ ∧ x ≠ ⊥) : IsNum x := ⟨x.toReal, (EReal.coe_toReal h.1 h.2).symm⟩

/-- A product of numbers is a number. -/
theorem IsNum.mul {x y : EReal} (hx : IsNum x) (hy : IsNum y) : IsNum (x * y) := by
  obtain ⟨a, rfl⟩ := hx
  obtain ⟨b, rfl⟩ := hy
  exact ⟨a * b, (EReal.coe_mul a b).symm⟩

/-- A sum of numbers is a number. -/
theorem IsNum.sum {ι : Type} [Fintype ι] {f : ι → EReal} (h : ∀ i, IsNum (f i)) : IsNum (∑ i, f i) := by
  choose g hg using h
  refine ⟨∑ i, g i, ?_⟩
  rw [Finset.sum_congr rfl fun i _ => hg i]
  exact (map_sum (⟨⟨fun r : ℝ => (r : EReal), EReal.coe_zero⟩, EReal.coe_add⟩ : ℝ →+ EReal) g Finset.univ).symm

/-- The logistic of a number is a number. -/
theorem IsNum.logistic {x : EReal} (hx : IsNum x) : IsNum (Ideal.logistic x) := by
  obtain ⟨a, rfl⟩ := hx
  exact ⟨_, Ideal.logistic_coe a⟩

/-- A number times a sum of numbers is the sum of the products. -/
theorem num_mul_sum {ι : Type} [Fintype ι] {c : EReal} {f : ι → EReal} (hc : IsNum c) (hf : ∀ i, IsNum (f i)) :
    c * ∑ i, f i = ∑ i, c * f i := by
  obtain ⟨a, rfl⟩ := hc
  choose g hg using hf
  have hs : ∀ k : ι → ℝ, ∑ i, (k i : EReal) = ((∑ i, k i : ℝ) : EReal) := fun k =>
    (map_sum (⟨⟨fun r : ℝ => (r : EReal), EReal.coe_zero⟩, EReal.coe_add⟩ : ℝ →+ EReal) k Finset.univ).symm
  rw [Finset.sum_congr rfl fun i _ => hg i, hs, ← EReal.coe_mul, Finset.mul_sum, ← hs]
  exact Finset.sum_congr rfl fun i _ => by rw [hg i, EReal.coe_mul]

/-- A share of finite arrays is a number. -/
theorem share_num {a1 : Cert.KernelIdeal.S4x8192x1024.Idx → EReal} {a2 : Cert.KernelIdeal.S4x8192x16.Idx → EReal}
    {a5 a6 : Cert.KernelIdeal.S16x1024x2048.Idx → EReal} {a7 : Cert.KernelIdeal.S16x2048x1024.Idx → EReal}
    (h1 : FinArr a1) (h2 : FinArr a2) (h5 : FinArr a5) (h6 : FinArr a6) (h7 : FinArr a7) (b : Fin 4) (e : Fin 16) (k : Fin 8192) (l : Fin 1024) :
    IsNum (share a1 a2 a5 a6 a7 b e k l) := by
  have hmm : ∀ {W : Cert.KernelIdeal.S16x1024x2048.Idx → EReal}, FinArr W → ∀ f : Fin 2048,
      IsNum (mm (fun d => a1 (ValueIdx.ix3 b k d)) (fun d f => W (ValueIdx.ix3 e d f)) f) := fun hW f =>
    IsNum.sum fun d => (isNum_of (h1 _)).mul (isNum_of (hW _))
  refine IsNum.mul (IsNum.sum fun f => ?_) (isNum_of (h2 _))
  exact (((hmm h5 f).mul (hmm h5 f).logistic).mul (hmm h6 f)).mul (isNum_of (h7 _))

/-- The scale goes into the sum of the contributions, all being numbers. -/
theorem scale_in {s : EReal} (hs : IsNum s) (p : Fin 16 → Fin 1024 → Prop) [∀ e r, Decidable (p e r)] {f : Fin 16 → EReal} (hf : ∀ e, IsNum (f e)) :
    s * ∑ e : Fin 16, ∑ r : Fin 1024, (if p e r then f e else 0) = ∑ e : Fin 16, ∑ r : Fin 1024, if p e r then s * f e else 0 := by
  have hi : ∀ e r, IsNum (if p e r then f e else 0) := fun e r => by
    split
    · exact hf e
    · exact ⟨0, EReal.coe_zero.symm⟩
  rw [num_mul_sum hs fun e => IsNum.sum (hi e)]
  refine Finset.sum_congr rfl fun e _ => ?_
  rw [num_mul_sum hs (hi e)]
  refine Finset.sum_congr rfl fun r _ => ?_
  rw [mul_ite, mul_zero]

open Cert.KernelIdeal in
/-- The kernel's output is the reference's result of the same arguments. -/
theorem out_eq (m : (ℓ : Loc nD τ sig) → Buf (Elt Ideal) ℓ) (c : Dev nD)
    (hf : FinLayer (argAt m c main_arg0) (argAt m c main_arg1) (argAt m c main_arg2) (argAt m c main_arg4) (argAt m c main_arg5) (argAt m c main_arg6) (argAt m c main_arg7)) :
    Ref.result (argAt m c main_arg0) (argAt m c main_arg1) (argAt m c main_arg2) (argAt m c main_arg3) (argAt m c main_arg4) (argAt m c main_arg5)
      (argAt m c main_arg6) (argAt m c main_arg7) = outAt m c 64 := by
  funext i
  obtain ⟨b, k, l, rfl⟩ : ∃ (b : Fin 4) (k : Fin 8192) (l : Fin 1024), i = ValueIdx.ix3 b k l :=
    ⟨i 0, i 1, i 2, by funext a; fin_cases a <;> rfl⟩
  refine (Ref.result_at hf.good _ _ _ _ _ _ _ b k l).trans (Eq.trans ?_ (out_at m c hf.good b k l).symm)
  refine congrArg (fun z : EReal => baseAt m c b k l + z) ?_
  exact scale_in (isNum_of (hf.gt _)) _ fun e => share_num hf.h hf.aff hf.wg hf.wu hf.wd b e k l

/-- The idealized kernel's frame under the value claim's precondition. -/
theorem frame_kernelIdeal_fin : Cert.quiescent_KernelIdeal_pre_finite_layer := fun m ρ hpre =>
  (θ_run Cert.KernelIdeal.defs _ _).mono (fun _ h => ⟨fun c => (h.1 c).2, h.2⟩)
    (run (F := Ideal) m ρ fun c => (finLayer_of (hpre c)).good)

/-- The reference's frame under the value claim's precondition. -/
theorem frame_referenceIdeal_fin : Cert.quiescent_ReferenceIdeal_pre_finite_layer := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs end with the same result. -/
theorem algebraic : Cert.algebraic_KernelIdeal_ReferenceIdeal_pre_finite_layer := fun m g m' g' hpre hargs => by
  refine ⟨fun c => outAt m c 64, ?_, ?_⟩
  · exact (θ_run Cert.KernelIdeal.defs _ _).mono (fun _ h c => h.1 c) (run (F := Ideal) m g fun c => (finLayer_of (hpre c)).good)
  · refine (θ_run Cert.ReferenceIdeal.defs _ _).mono (fun r h c => ⟨(h c).1.trans ?_, (h c).2⟩) (Cert.ReferenceIdeal.Value.run (F := Ideal) m' g')
    obtain ⟨e0, e1, e2, e3, e4, e5, e6, e7⟩ := hargs c
    refine Eq.trans ?_ (out_eq m c (finLayer_of (hpre c)))
    rw [Ref.res_eq]
    unfold Ref.arg
    rw [e0, e1, e2, e3, e4, e5, e6, e7]

end Cert.Moe

end
-- ==== Proof.AttnRow.lean ====
/-
  The attention kernel's tile over the ideal values: a row of queries against the two segments of keys and values.
-/
module

public import proofs.«01_k».proof.Proof.Gen.Kernel2Ideal.Value
public import Idealize.ShloMosaic.Lib.Pipeline.ValueKit
public import Idealize.ShloMosaic.Lib.Pointwise

@[expose] public section

noncomputable section

namespace Cert.Attn

open Cert.Kernel2Ideal Cert.Kernel2Ideal.Gen
open Idealize.ShloMosaic Idealize.ShloMosaic.TcCoe Idealize.ShloMosaic.Tactic

/-- The value a maximum starts from. -/
abbrev low : EReal := Ideal.ofBits .f32 0xFF800000#32

/-- The largest of the scores of both segments. -/
def top (s : Fin 8192 → EReal) (t : Fin 256 → EReal) : EReal := max (Finset.univ.fold max low s) (Finset.univ.fold max low t)

/-- The values weighed by the exponentials of the scores, over the sum of the exponentials. -/
def mix (s : Fin 8192 → EReal) (t : Fin 256 → EReal) (v : Fin 8192 → EReal) (w : Fin 256 → EReal) : EReal :=
  Ideal.div ((∑ j, Ideal.exp (s j - top s t) * v j) + ∑ j, Ideal.exp (t j - top s t) * w j)
    ((∑ j, Ideal.exp (s j - top s t)) + ∑ j, Ideal.exp (t j - top s t))

/-- The scores of a row of queries against the long segment; -/
abbrev sc (q : S1x128x64.Idx → EReal) (k : S1x1x64x8192.Idx → EReal) (r : Fin 128) (j : Fin 8192) : EReal :=
  ∑ d : Fin 64, q (ValueIdx.ix3 0 r d) * k (ValueIdx.ix4 0 0 d j)
/-- and against the short one. -/
abbrev sc' (q : S1x128x64.Idx → EReal) (k : S1x1x64x256.Idx → EReal) (r : Fin 128) (j : Fin 256) : EReal :=
  ∑ d : Fin 64, q (ValueIdx.ix3 0 r d) * k (ValueIdx.ix4 0 0 d j)

theorem pay3_at (q : Vec Ideal S1x128x64 .bf16) (k : Vec Ideal S1x1x64x8192 .bf16) (r : Fin 128) (j : Fin 8192) :
    k0_pay3 q k (ValueIdx.ix2 r j) = sc q k r j := by
  unfold k0_pay3 k0_pay2
  pointwise
  rfl

theorem pay4_at (q : Vec Ideal S1x128x64 .bf16) (k : Vec Ideal S1x1x64x256 .bf16) (r : Fin 128) (j : Fin 256) :
    k0_pay4 q k (ValueIdx.ix2 r j) = sc' q k r j := by
  unfold k0_pay4 k0_pay2
  pointwise
  rfl

variable (q : Vec Ideal S1x128x64 .bf16) (k : Vec Ideal S1x1x64x8192 .bf16) (l : Vec Ideal S1x1x64x256 .bf16)
    (v : Vec Ideal S1x1x8192x64 .bf16) (w : Vec Ideal S1x1x256x64 .bf16)

theorem pay5_at (r : Fin 128) : k0_pay5 q k l (ValueIdx.ix2 r 0) = top (sc q k r) (sc' q l r) := by
  unfold k0_pay5 top
  pointwise
  exact congrArg₂ max (congrArg (Finset.fold max low · Finset.univ) (funext fun j => pay3_at q k r j))
    (congrArg (Finset.fold max low · Finset.univ) (funext fun j => pay4_at q l r j))

theorem pay6_at (r : Fin 128) (j : Fin 8192) : k0_pay6 q k l (ValueIdx.ix2 r j) = Ideal.exp (sc q k r j - top (sc q k r) (sc' q l r)) := by
  unfold k0_pay6
  pointwise
  exact congrArg₂ (fun x y : EReal => Ideal.exp (x - y)) (pay3_at q k r j) (pay5_at q k l r)

theorem pay9_at (r : Fin 128) (j : Fin 256) : k0_pay9 q k l (ValueIdx.ix2 r j) = Ideal.exp (sc' q l r j - top (sc q k r) (sc' q l r)) := by
  unfold k0_pay9
  pointwise
  exact congrArg₂ (fun x y : EReal => Ideal.exp (x - y)) (pay4_at q l r j) (pay5_at q k l r)

theorem pay7_at (r : Fin 128) : k0_pay7 q k l (ValueIdx.ix2 r 0) = (∑ j, Ideal.exp (sc q k r j - top (sc q k r) (sc' q l r)) : EReal) := by
  unfold k0_pay7
  pointwise
  exact Finset.sum_congr rfl fun j _ => pay6_at q k l r j

theorem pay10_at (r : Fin 128) : k0_pay10 q k l (ValueIdx.ix2 r 0) = (∑ j, Ideal.exp (sc' q l r j - top (sc q k r) (sc' q l r)) : EReal) := by
  unfold k0_pay10
  pointwise
  exact Finset.sum_congr rfl fun j _ => pay9_at q k l r j

theorem pay8_at (r : Fin 128) (e : Fin 64) :
    k0_pay8 q k l v (ValueIdx.ix2 r e) = (∑ j, Ideal.exp (sc q k r j - top (sc q k r) (sc' q l r)) * v (ValueIdx.ix4 0 0 j e) : EReal) := by
  unfold k0_pay8
  pointwise
  exact Finset.sum_congr rfl fun j _ => congrArg (fun x : EReal => x * v (ValueIdx.ix4 0 0 j e)) (pay6_at q k l r j)

/-- A head's rows. -/
def head : FVec Ideal S128x64 .f32 :=
  k0_pay13 (k0_pay7 q k l) (k0_pay8 q k l v) (k0_pay10 q k l) (k0_pay11 q k l) (k0_pay12 w) (constant S128x64 .f32 0x00000000#32)

theorem head_at (r : Fin 128) (e : Fin 64) : head q k l v w (ValueIdx.ix2 r e)
    = mix (sc q k r) (sc' q l r) (fun j => v (ValueIdx.ix4 0 0 j e)) (fun j => w (ValueIdx.ix4 0 0 j e)) := by
  unfold head k0_pay13 k0_pay11 k0_pay12 mix
  pointwise
  refine congrArg₂ Ideal.div (congrArg₂ (fun x y : EReal => x + y) (pay8_at q k l v r e) (Finset.sum_congr rfl fun j _ => ?_))
    (congrArg₂ (fun x y : EReal => x + y) (pay7_at q k l r) (pay10_at q k l r))
  exact congrArg (fun x : EReal => x * w (ValueIdx.ix4 0 0 j e)) (pay9_at q k l r j)

/-- The four heads' rows beside each other, as stored. -/
def beside (a b c d : FVec Ideal S128x64 .f32) : FVec Ideal S1x128x256 .bf16 :=
  shapeCast S1x128x256 (truncf .bf16 (concatenate S128x256 1 [⟨S128x64, a⟩, ⟨S128x64, b⟩, ⟨S128x64, c⟩, ⟨S128x64, d⟩]
    concatenates_S128x64_S128x64_S128x64_S128x64_S128x256_d1) bitsLt_bf16_f32) shapeCasts_S128x256_S1x128x256

/-- A head's column in a tile. -/
def col (h : Fin 4) (e : Fin 64) : Fin 256 := ⟨64 * h.val + e.val, by omega⟩

theorem beside_at (a : Fin 4 → FVec Ideal S128x64 .f32) (r : Fin 128) (h : Fin 4) (e : Fin 64) :
    beside (a 0) (a 1) (a 2) (a 3) (ValueIdx.ix3 0 r (col h e)) = a h (ValueIdx.ix2 r e) := by
  have he := e.isLt
  unfold beside
  pointwise
  fin_cases h
  · refine (dif_pos (show 64 * 0 + e.val < 64 by omega)).trans ?_
    exact congrArg (a 0) (congrArg (ValueIdx.ix2 r) (Fin.ext (show 64 * 0 + e.val = e.val by omega)))
  · refine (dif_neg (show ¬ 64 * 1 + e.val < 64 by omega)).trans ((dif_pos (show 64 * 1 + e.val - 64 < 64 by omega)).trans ?_)
    exact congrArg (a 1) (congrArg (ValueIdx.ix2 r) (Fin.ext (show 64 * 1 + e.val - 64 = e.val by omega)))
  · refine (dif_neg (show ¬ 64 * 2 + e.val < 64 by omega)).trans ((dif_neg (show ¬ 64 * 2 + e.val - 64 < 64 by omega)).trans
      ((dif_pos (show 64 * 2 + e.val - 64 - 64 < 64 by omega)).trans ?_))
    exact congrArg (a 2) (congrArg (ValueIdx.ix2 r) (Fin.ext (show 64 * 2 + e.val - 64 - 64 = e.val by omega)))
  · refine (dif_neg (show ¬ 64 * 3 + e.val < 64 by omega)).trans ((dif_neg (show ¬ 64 * 3 + e.val - 64 < 64 by omega)).trans
      ((dif_neg (show ¬ 64 * 3 + e.val - 64 - 64 < 64 by omega)).trans ?_))
    exact congrArg (a 3) (congrArg (ValueIdx.ix2 r) (Fin.ext (show 64 * 3 + e.val - 64 - 64 - 64 = e.val by omega)))

/-- The rectangle of a head's queries in a tile. -/
abbrev qr (h : Fin 4) : Rect S1x128x256 := Rect.unit (s := S1x128x256) ![0, 0, 64 * h.val] S1x128x64.size (by
  intro a
  fin_cases a
  · exact le_refl _
  · exact le_refl _
  · show 64 * h.val + 64 ≤ 256
    omega)

variable (x0 : Vec Ideal S1x128x256 .bf16) (x1 : Vec Ideal S1x1x64x8192 .bf16) (x2 : Vec Ideal S1x1x8192x64 .bf16)
    (x3 : Vec Ideal S1x1x64x256 .bf16) (x4 : Vec Ideal S1x1x256x64 .bf16)

/-- A head's rows of a tile. -/
abbrev headOf (h : Fin 4) : FVec Ideal S128x64 .f32 := head (View.ld x0 (qr h)) x1 x3 x2 x4

set_option maxRecDepth 4096 in
/-- What the body stores. -/
theorem out_eq : out0_5 (F := Ideal) x0 x1 x2 x3 x4
    = beside (headOf x0 x1 x2 x3 x4 0) (headOf x0 x1 x2 x3 x4 1) (headOf x0 x1 x2 x3 x4 2) (headOf x0 x1 x2 x3 x4 3) := by
  have z3 : (![0, 0, 0] : Fin 3 → ℕ) = fun _ => 0 := by decide
  have z4 : (![0, 0, 0, 0] : Fin 4 → ℕ) = fun _ => 0 := by decide
  have e1 : View.ld x1 r0_1 = x1 := View.ld_unit_zero z4 _ x1
  have e2 : View.ld x2 r0_3 = x2 := View.ld_unit_zero z4 _ x2
  have e3 : View.ld x3 r0_2 = x3 := View.ld_unit_zero z4 _ x3
  have e4 : View.ld x4 r0_4 = x4 := View.ld_unit_zero z4 _ x4
  unfold out0_5
  rw [e1, e2, e3, e4]
  exact View.canon_unit_zero z3 _ _

theorem out_at (r : Fin 128) (h : Fin 4) (e : Fin 64) : (out0_5 (F := Ideal) x0 x1 x2 x3 x4) (ValueIdx.ix3 0 r (col h e))
    = mix (fun j => ∑ d : Fin 64, x0 (ValueIdx.ix3 0 r (col h d)) * x1 (ValueIdx.ix4 0 0 d j))
        (fun j => ∑ d : Fin 64, x0 (ValueIdx.ix3 0 r (col h d)) * x3 (ValueIdx.ix4 0 0 d j))
        (fun j => x2 (ValueIdx.ix4 0 0 j e)) (fun j => x4 (ValueIdx.ix4 0 0 j e)) := by
  rw [out_eq]
  refine (beside_at (headOf x0 x1 x2 x3 x4) r h e).trans ((head_at _ _ _ _ _ r e).trans ?_)
  have hq : ∀ d : Fin 64, View.ld x0 (qr h) (ValueIdx.ix3 0 r d) = x0 (ValueIdx.ix3 0 r (col h d)) := fun d => by
    refine congrArg x0 ?_
    funext a
    fin_cases a <;> exact Fin.ext (by simp [Rect.unit, Rect.emb, ValueIdx.ix3, col])
  unfold sc sc'
  simp only [hq]

end Cert.Attn

end
-- ==== Proof.AttnOut.lean ====
/-
  The attention kernel's output over the ideal values, of the argument arrays.
-/
module

public import proofs.«01_k».proof.Proof.AttnRow
public import Idealize.ShloMosaic.Lib.Claim

@[expose] public section

noncomputable section

namespace Cert.Attn

open Cert.Kernel2Ideal Cert.Kernel2Ideal.Gen
open Idealize.ShloMosaic Idealize.ShloMosaic.TcCoe Idealize.ShloMosaic.Tactic
open Idealize.SL.Sem

variable (m : (ℓ : Loc nD τ sig) → Buf (Elt Ideal) ℓ) (c : Dev nD)

/-- An argument's contents at launch. -/
abbrev argAt (r : Ref sig .tc) : r.ty.Contents (Elt Ideal) := m ((c : Thread nD τ).loc r)

/-- The queries' scale. -/
abbrev scale : EReal := Ideal.ofBits .f32 0x3E000000#32

/-! ## What the region finds -/

/-- A query's head and coordinate, from its column. -/
def hd (x : Fin 512) : Fin 8 := ⟨x.val / 64, by omega⟩
def co (x : Fin 512) : Fin 64 := ⟨x.val % 64, by omega⟩

/-- The arguments: the queries, the long segment's keys and values, the short segment's. -/
abbrev Qa : S4x8192x8x64.Idx → EReal := argAt m c main_arg0
abbrev Ka : S4x8192x2x64.Idx → EReal := argAt m c main_arg1
abbrev Va : S4x8192x2x64.Idx → EReal := argAt m c main_arg2
abbrev Kb : S4x256x2x64.Idx → EReal := argAt m c main_arg3
abbrev Vb : S4x256x2x64.Idx → EReal := argAt m c main_arg4

theorem V_q (b : Fin 4) (t : Fin 8192) (x : Fin 512) : (V m c main_v3 : S4x8192x512.Idx → EReal) (ValueIdx.ix3 b t x)
    = Qa m c (ValueIdx.ix4 b t (hd x) (co x)) * scale := by
  have h : V m c main_v3 = (truncf .bf16 (mulf (shapeCast S4x8192x512 (argAt m c main_arg0 : S4x8192x8x64.Idx → Ideal .f32) shapeCasts_S4x8192x8x64_S4x8192x512)
      (broadcastInDim S4x8192x512 ![] bcast_S_S4x8192x512 (constant S_ .f32 0x3E000000#32))) bitsLt_bf16_f32 : FVec Ideal S4x8192x512 .bf16) := by
    show StableHlo.after hostOps0 _ (Proc.devRef .tc main_v3) = _
    unfold hostOps0
    after_results <;> rfl
  rw [h]
  pointwise
  rfl

theorem V_k (b : Fin 4) (g : Fin 2) (d : Fin 64) (j : Fin 8192) : (V m c main_v9 : S4x2x64x8192.Idx → EReal) (ValueIdx.ix4 b g d j)
    = Ka m c (ValueIdx.ix4 b j g d) := by
  have h : V m c main_v9 = (transpose S4x2x64x8192 [0, 2, 3, 1] (shapeCast S4x8192x2x64 (truncf .bf16 (shapeCast S4x8192x128
      (argAt m c main_arg1 : S4x8192x2x64.Idx → Ideal .f32) shapeCasts_S4x8192x2x64_S4x8192x128) bitsLt_bf16_f32 : FVec Ideal S4x8192x128 .bf16)
      shapeCasts_S4x8192x128_S4x8192x2x64) transposes_S4x8192x2x64_S4x2x64x8192_0_2_3_1 : FVec Ideal S4x2x64x8192 .bf16) := by
    show StableHlo.after hostOps0 _ (Proc.devRef .tc main_v9) = _
    unfold hostOps0
    after_results <;> rfl
  rw [h]
  pointwise
  rfl

theorem V_v (b : Fin 4) (g : Fin 2) (j : Fin 8192) (d : Fin 64) : (V m c main_v11 : S4x2x8192x64.Idx → EReal) (ValueIdx.ix4 b g j d)
    = Va m c (ValueIdx.ix4 b j g d) := by
  have h : V m c main_v11 = (transpose S4x2x8192x64 [0, 2, 1, 3] (shapeCast S4x8192x2x64 (truncf .bf16 (shapeCast S4x8192x128
      (argAt m c main_arg2 : S4x8192x2x64.Idx → Ideal .f32) shapeCasts_S4x8192x2x64_S4x8192x128) bitsLt_bf16_f32 : FVec Ideal S4x8192x128 .bf16)
      shapeCasts_S4x8192x128_S4x8192x2x64) transposes_S4x8192x2x64_S4x2x8192x64_0_2_1_3 : FVec Ideal S4x2x8192x64 .bf16) := by
    show StableHlo.after hostOps0 _ (Proc.devRef .tc main_v11) = _
    unfold hostOps0
    after_results <;> rfl
  rw [h]
  pointwise
  rfl

theorem V_kb (b : Fin 4) (g : Fin 2) (d : Fin 64) (j : Fin 256) : (V m c main_v17 : S4x2x64x256.Idx → EReal) (ValueIdx.ix4 b g d j)
    = Kb m c (ValueIdx.ix4 b j g d) := by
  have h : V m c main_v17 = (transpose S4x2x64x256 [0, 2, 3, 1] (shapeCast S4x256x2x64 (truncf .bf16 (shapeCast S4x256x128
      (argAt m c main_arg3 : S4x256x2x64.Idx → Ideal .f32) shapeCasts_S4x256x2x64_S4x256x128) bitsLt_bf16_f32 : FVec Ideal S4x256x128 .bf16)
      shapeCasts_S4x256x128_S4x256x2x64) transposes_S4x256x2x64_S4x2x64x256_0_2_3_1 : FVec Ideal S4x2x64x256 .bf16) := by
    show StableHlo.after hostOps0 _ (Proc.devRef .tc main_v17) = _
    unfold hostOps0
    after_results <;> rfl
  rw [h]
  pointwise
  rfl

theorem V_vb (b : Fin 4) (g : Fin 2) (j : Fin 256) (d : Fin 64) : (V m c main_v19 : S4x2x256x64.Idx → EReal) (ValueIdx.ix4 b g j d)
    = Vb m c (ValueIdx.ix4 b j g d) := by
  have h : V m c main_v19 = (transpose S4x2x256x64 [0, 2, 1, 3] (shapeCast S4x256x2x64 (truncf .bf16 (shapeCast S4x256x128
      (argAt m c main_arg4 : S4x256x2x64.Idx → Ideal .f32) shapeCasts_S4x256x2x64_S4x256x128) bitsLt_bf16_f32 : FVec Ideal S4x256x128 .bf16)
      shapeCasts_S4x256x128_S4x256x2x64) transposes_S4x256x2x64_S4x2x256x64_0_2_1_3 : FVec Ideal S4x2x256x64 .bf16) := by
    show StableHlo.after hostOps0 _ (Proc.devRef .tc main_v19) = _
    unfold hostOps0
    after_results <;> rfl
  rw [h]
  pointwise
  rfl

/-! ## The blocks -/

/-- The batch, the group and the block of rows of a grid point. -/
def bAt (t : Fin cfg0.N) : Fin 4 := ⟨(grid0.coords t 0).val, (grid0.coords t 0).isLt⟩
def gAt (t : Fin cfg0.N) : Fin 2 := ⟨(grid0.coords t 1).val, (grid0.coords t 1).isLt⟩
def iAt (t : Fin cfg0.N) : Fin 64 := ⟨(grid0.coords t 2).val, (grid0.coords t 2).isLt⟩

theorem idx (t : Fin cfg0.N) : win0_0.index t = ![(bAt t).val, (iAt t).val, (gAt t).val] ∧ win0_1.index t = ![(bAt t).val, (gAt t).val, 0, 0]
    ∧ win0_2.index t = ![(bAt t).val, (gAt t).val, 0, 0] ∧ win0_3.index t = ![(bAt t).val, (gAt t).val, 0, 0]
    ∧ win0_4.index t = ![(bAt t).val, (gAt t).val, 0, 0] ∧ win0_5.index t = ![(bAt t).val, (iAt t).val, (gAt t).val] := by
  revert t; decide

/-- A tile's row in the sequence, and its column. -/
def row (t : Fin cfg0.N) (r : Fin 128) : Fin 8192 := ⟨(iAt t).val * 128 + r.val, by omega⟩
def colAt (t : Fin cfg0.N) (x : Fin 256) : Fin 512 := ⟨(gAt t).val * 256 + x.val, by omega⟩

theorem iblk0 (t : Fin cfg0.N) (r : Fin 128) (x : Fin 256) : (iblk m c 0 t : S1x128x256.Idx → EReal) (ValueIdx.ix3 0 r x)
    = Qa m c (ValueIdx.ix4 (bAt t) (row t r) (hd (colAt t x)) (co (colAt t x))) * scale := by
  refine Eq.trans ?_ (V_q m c (bAt t) (row t r) (colAt t x))
  unfold iblk
  show (V m c main_v3 : S4x8192x512.Idx → EReal) _ = _
  blk_ext [idx t, row, colAt]

theorem iblk1 (t : Fin cfg0.N) (d : Fin 64) (j : Fin 8192) : (iblk m c 1 t : S1x1x64x8192.Idx → EReal) (ValueIdx.ix4 0 0 d j)
    = Ka m c (ValueIdx.ix4 (bAt t) j (gAt t) d) := by
  refine Eq.trans ?_ (V_k m c (bAt t) (gAt t) d j)
  unfold iblk
  show (V m c main_v9 : S4x2x64x8192.Idx → EReal) _ = _
  blk_ext [idx t]

theorem iblk2 (t : Fin cfg0.N) (j : Fin 8192) (d : Fin 64) : (iblk m c 2 t : S1x1x8192x64.Idx → EReal) (ValueIdx.ix4 0 0 j d)
    = Va m c (ValueIdx.ix4 (bAt t) j (gAt t) d) := by
  refine Eq.trans ?_ (V_v m c (bAt t) (gAt t) j d)
  unfold iblk
  show (V m c main_v11 : S4x2x8192x64.Idx → EReal) _ = _
  blk_ext [idx t]

theorem iblk3 (t : Fin cfg0.N) (d : Fin 64) (j : Fin 256) : (iblk m c 3 t : S1x1x64x256.Idx → EReal) (ValueIdx.ix4 0 0 d j)
    = Kb m c (ValueIdx.ix4 (bAt t) j (gAt t) d) := by
  refine Eq.trans ?_ (V_kb m c (bAt t) (gAt t) d j)
  unfold iblk
  show (V m c main_v17 : S4x2x64x256.Idx → EReal) _ = _
  blk_ext [idx t]

theorem iblk4 (t : Fin cfg0.N) (j : Fin 256) (d : Fin 64) : (iblk m c 4 t : S1x1x256x64.Idx → EReal) (ValueIdx.ix4 0 0 j d)
    = Vb m c (ValueIdx.ix4 (bAt t) j (gAt t) d) := by
  refine Eq.trans ?_ (V_vb m c (bAt t) (gAt t) j d)
  unfold iblk
  show (V m c main_v19 : S4x2x256x64.Idx → EReal) _ = _
  blk_ext [idx t]

/-! ## The output -/

/-- The group of a column's head. -/
def gr (x : Fin 512) : Fin 2 := ⟨x.val / 256, by omega⟩

/-- An element of the attention's output: the queries scaled, the heads of a group against the group's keys and values. -/
def att (Q : S4x8192x8x64.Idx → EReal) (K W : S4x8192x2x64.Idx → EReal) (K' W' : S4x256x2x64.Idx → EReal) (b : Fin 4) (t : Fin 8192) (x : Fin 512) : EReal :=
  mix (fun j => ∑ d : Fin 64, Q (ValueIdx.ix4 b t (hd x) d) * scale * K (ValueIdx.ix4 b j (gr x) d))
    (fun j => ∑ d : Fin 64, Q (ValueIdx.ix4 b t (hd x) d) * scale * K' (ValueIdx.ix4 b j (gr x) d))
    (fun j => W (ValueIdx.ix4 b j (gr x) (co x))) (fun j => W' (ValueIdx.ix4 b j (gr x) (co x)))

/-- The whole output. -/
def outG : S4x8192x512.Idx → EReal := fun i => att (Qa m c) (Ka m c) (Va m c) (Kb m c) (Vb m c) (i 0) (i 1) (i 2)

theorem cols (t : Fin cfg0.N) (h : Fin 4) (e d : Fin 64) : hd (colAt t (col h d)) = hd (colAt t (col h e)) ∧ co (colAt t (col h d)) = d
    ∧ gr (colAt t (col h e)) = gAt t := by
  have hg := (gAt t).isLt
  refine ⟨Fin.ext ?_, Fin.ext ?_, Fin.ext ?_⟩
  · show ((gAt t).val * 256 + (64 * h.val + d.val)) / 64 = ((gAt t).val * 256 + (64 * h.val + e.val)) / 64
    omega
  · show ((gAt t).val * 256 + (64 * h.val + d.val)) % 64 = d.val
    omega
  · show ((gAt t).val * 256 + (64 * h.val + e.val)) / 256 = (gAt t).val
    omega

/-- What a grid point stores is its block of the output. -/
theorem tile_at (t : Fin cfg0.N) (r : Fin 128) (h : Fin 4) (e : Fin 64) :
    (out0_5 (F := Ideal) (iblk m c 0 t) (iblk m c 1 t) (iblk m c 2 t) (iblk m c 3 t) (iblk m c 4 t)) (ValueIdx.ix3 0 r (col h e))
      = att (Qa m c) (Ka m c) (Va m c) (Kb m c) (Vb m c) (bAt t) (row t r) (colAt t (col h e)) := by
  refine (out_at _ _ _ _ _ r h e).trans ?_
  unfold att
  refine congr (congr (congrArg₂ mix (funext fun j => Finset.sum_congr rfl fun d _ => ?_) (funext fun j => Finset.sum_congr rfl fun d _ => ?_))
    (funext fun j => ?_)) (funext fun j => ?_)
  · obtain ⟨h1, h2, h3⟩ := cols t h e d
    refine congrArg₂ (fun x y : EReal => x * y) ((iblk0 m c t r (col h d)).trans ?_) ((iblk1 m c t d j).trans ?_)
    · rw [h1, h2]
    · rw [h3]
  · obtain ⟨h1, h2, h3⟩ := cols t h e d
    refine congrArg₂ (fun x y : EReal => x * y) ((iblk0 m c t r (col h d)).trans ?_) ((iblk3 m c t d j).trans ?_)
    · rw [h1, h2]
    · rw [h3]
  · refine (iblk2 m c t j e).trans ?_
    rw [(cols t h e e).2.1, (cols t h e e).2.2]
  · refine (iblk4 m c t j e).trans ?_
    rw [(cols t h e e).2.1, (cols t h e e).2.2]

/-- The point of a batch, a group and a block of rows. -/
def pt (b : Fin 4) (g : Fin 2) (i : Fin 64) : Fin cfg0.N := ⟨(b.val * 2 + g.val) * 64 + i.val, by show _ < 512; omega⟩

theorem pt_facts : ∀ (b : Fin 4) (g : Fin 2) (i : Fin 64), bAt (pt b g i) = b ∧ gAt (pt b g i) = g ∧ iAt (pt b g i) = i := by
  decide

/-- Where a block's element lies in the output. -/
theorem emb_at (t : Fin cfg0.N) (r : Fin 128) (x : Fin 256) :
    ((cfg0.win 5).blk t).view.emb (ValueIdx.ix3 0 r x : S1x128x256.Idx) = (ValueIdx.ix3 (bAt t) (row t r) (colAt t x) : S4x8192x512.Idx) := by
  blk_ext [idx t, row, colAt]

/-- A tile's index, its column split into head and element. -/
theorem ix_col (y : S1x128x256.Idx) : ∃ (r : Fin 128) (h : Fin 4) (e : Fin 64), y = ValueIdx.ix3 0 r (col h e) := by
  have hy : (y 2).val < 256 := (y 2).isLt
  refine ⟨y 1, ⟨(y 2).val / 64, by omega⟩, ⟨(y 2).val % 64, by omega⟩, ?_⟩
  have hc : col ⟨(y 2).val / 64, by omega⟩ ⟨(y 2).val % 64, by omega⟩ = y 2 :=
    Fin.ext (show 64 * ((y 2).val / 64) + (y 2).val % 64 = (y 2).val by omega)
  rw [hc]
  funext a
  fin_cases a
  · exact Subsingleton.elim (α := Fin 1) _ _
  · rfl
  · rfl

/-- What a grid point stores, against the output at the place it is stored to. -/
theorem tile_read (t : Fin cfg0.N) (y : S1x128x256.Idx) :
    (out0_5 (F := Ideal) (iblk m c 0 t) (iblk m c 1 t) (iblk m c 2 t) (iblk m c 3 t) (iblk m c 4 t)) y
      = outG m c (((cfg0.win 5).blk t).view.emb y) := by
  obtain ⟨r, h, e, rfl⟩ := ix_col y
  exact (tile_at m c t r h e).trans (congrArg (outG m c) (emb_at t r (col h e))).symm

set_option maxRecDepth 16384 in
theorem arr_eq : (dats m 0 c).arrAt 5 cfg0.N = outG m c := by
  refine (dats m 0 c).arrAt_eq_of_cover 5 (outG m c) (fun t _ => ?_) fun i => ?_
  · rw [Value.flushed5]
    exact funext fun y => tile_read m c t y
  · obtain ⟨b, s, x, rfl⟩ : ∃ (b : Fin 4) (s : Fin 8192) (x : Fin 512), i = (ValueIdx.ix3 b s x : S4x8192x512.Idx) :=
      ⟨(i : S4x8192x512.Idx) 0, (i : S4x8192x512.Idx) 1, (i : S4x8192x512.Idx) 2, by funext a; fin_cases a <;> rfl⟩
    refine ⟨pt b (gr x) ⟨s.val / 128, by omega⟩, flush0_5 _, ?_⟩
    obtain ⟨h1, h2, h3⟩ := pt_facts b (gr x) ⟨s.val / 128, by omega⟩
    have he := emb_at (pt b (gr x) ⟨s.val / 128, by omega⟩) ⟨s.val % 128, by omega⟩ ⟨x.val % 256, by omega⟩
    have hx : (ValueIdx.ix3 (bAt (pt b (gr x) ⟨s.val / 128, by omega⟩)) (row (pt b (gr x) ⟨s.val / 128, by omega⟩) ⟨s.val % 128, by omega⟩)
        (colAt (pt b (gr x) ⟨s.val / 128, by omega⟩) ⟨x.val % 256, by omega⟩) : S4x8192x512.Idx) = ValueIdx.ix3 b s x := by
      unfold row colAt
      simp only [h1, h2, h3]
      congr 1
      · exact Fin.ext (show s.val / 128 * 128 + s.val % 128 = s.val by omega)
      · exact Fin.ext (show x.val / 256 * 256 + x.val % 256 = x.val by omega)
    exact Finset.mem_map.mpr ⟨_, Finset.mem_univ _, he.trans hx⟩

/-- The run of the kernel, its result named. -/
theorem run (ρ : Dev nD → PrngReg) : θ_run defs (onTc (τ := τ) (main (F := Ideal))) ⟨m, fun _ => 0, ρ⟩ fun r => ∀ c : Dev nD,
      r.2.mem ((c : Thread nD τ).loc main_v20) = outG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (arr_eq m c), (h c).2⟩) (Value.run_blocks m ρ)

end Cert.Attn

end
-- ==== Proof.AttnRef.lean ====
/-
  The attention's reference over the ideal values, read at an index.
-/
module

public import proofs.«01_k».proof.Proof.Gen.Reference2Ideal.Run
public import proofs.«01_k».proof.Proof.AttnRow
public import Idealize.ShloMosaic.Lib.Pointwise

@[expose] public section

noncomputable section

namespace Cert.Attn.Ref

open Cert.Reference2Ideal Cert.Reference2Ideal.Gen
open Idealize.ShloMosaic Idealize.ShloMosaic.TcCoe Idealize.ShloMosaic.Tactic
open Idealize.SL.Sem

variable (a0 : FVec Ideal S4x8192x8x64 .f32) (a1 a2 : FVec Ideal S4x8192x2x64 .f32) (a3 a4 : FVec Ideal S4x256x2x64 .f32)

/-- A segment and the other joined along the sequence. -/
def join (x : FVec Ideal S4x8192x2x64 .f32) (y : FVec Ideal S4x256x2x64 .f32) : FVec Ideal S4x8448x2x64 .f32 :=
  concatenate S4x8448x2x64 1 [⟨S4x8192x2x64, x⟩, ⟨S4x256x2x64, y⟩] concatenates_S4x8192x2x64_S4x256x2x64_S4x8448x2x64_d1

/-- The scaled scores. -/
def scores (k : FVec Ideal S4x8448x2x64 .f32) : FVec Ideal S4x2x4x8192x8448 .f32 :=
  mulf (Host.dotGeneral dot_S4x2x4x8192x64_S4x8448x2x64_S4x2x4x8192x8448_4_3_23_1_01_02 none
    (transpose S4x2x4x8192x64 [0, 2, 3, 1, 4] (shapeCast S4x8192x2x4x64 a0 shapeCasts_S4x8192x8x64_S4x8192x2x4x64) transposes_S4x8192x2x4x64_S4x2x4x8192x64_0_2_3_1_4) k)
    (broadcastInDim S4x2x4x8192x8448 ![] bcast_S_S4x2x4x8192x8448 (constant S_ .f32 0x3E000000#32))

/-- The largest score of a row. -/
def tops (s : FVec Ideal S4x2x4x8192x8448 .f32) : FVec Ideal S4x2x4x8192 .f32 :=
  Host.reduce FloatOps.maximumf s (constant S_ .f32 0xFF800000#32) reducesTo_S4x2x4x8192x8448_S4x2x4x8192_d4 h_S_

/-- The exponentials of the scores less their row's largest. -/
def exps (s : FVec Ideal S4x2x4x8192x8448 .f32) (w : FVec Ideal S4x2x4x8192 .f32) : FVec Ideal S4x2x4x8192x8448 .f32 :=
  Host.exp (subf s (broadcastInDim S4x2x4x8192x8448 ![0, 1, 2, 3, 4] bcast_S4x2x4x8192x1_S4x2x4x8192x8448_0_1_2_3_4
    (broadcastInDim S4x2x4x8192x1 ![0, 1, 2, 3] bcast_S4x2x4x8192_S4x2x4x8192x1_0_1_2_3
      (maximumf (broadcastInDim S4x2x4x8192 ![] bcast_S_S4x2x4x8192 (constant S_ .f32 0xFF800000#32)) w))))

/-- The weights: the exponentials over their row's sum. -/
def weights (p : FVec Ideal S4x2x4x8192x8448 .f32) : FVec Ideal S4x2x4x8192x8448 .f32 :=
  Host.divf p (broadcastInDim S4x2x4x8192x8448 ![0, 1, 2, 3, 4] bcast_S4x2x4x8192x1_S4x2x4x8192x8448_0_1_2_3_4
    (broadcastInDim S4x2x4x8192x1 ![0, 1, 2, 3] bcast_S4x2x4x8192_S4x2x4x8192x1_0_1_2_3
      (Host.reduceAdd p (constant S_ .f32 0x00000000#32) reducesTo_S4x2x4x8192x8448_S4x2x4x8192_d4 h_S_)))

/-- The weights of the attention. -/
def soft (s : FVec Ideal S4x2x4x8192x8448 .f32) : FVec Ideal S4x2x4x8192x8448 .f32 := weights (exps s (tops s))

/-- The weights against the values, the heads side by side. -/
def mixed (p : FVec Ideal S4x2x4x8192x8448 .f32) (v : FVec Ideal S4x8448x2x64 .f32) : FVec Ideal S4x8192x512 .bf16 :=
  truncf .bf16 (shapeCast S4x8192x512 (transpose S4x8192x2x4x64 [0, 3, 1, 2, 4]
    (Host.dotGeneral dot_S4x2x4x8192x8448_S4x8448x2x64_S4x2x4x8192x64_4_1_23_3_01_02 none p v)
    transposes_S4x2x4x8192x64_S4x8192x2x4x64_0_3_1_2_4) shapeCasts_S4x8192x2x4x64_S4x8192x512) bitsLt_bf16_f32

/-- The result. -/
def result : FVec Ideal S4x8192x512 .bf16 := mixed (soft (scores a0 (join a1 a3))) (join a2 a4)

/-- The head of a group. -/
def hdOf (g : Fin 2) (h : Fin 4) : Fin 8 := ⟨g.val * 4 + h.val, by omega⟩

theorem scores_at (k : FVec Ideal S4x8448x2x64 .f32) (b : Fin 4) (g : Fin 2) (h : Fin 4) (t : Fin 8192) (j : Fin 8448) :
    scores a0 k (ValueIdx.ix5 b g h t j) = (∑ d : Fin 64, a0 (ValueIdx.ix4 b t (hdOf g h) d) * k (ValueIdx.ix4 b j g d)) * Ideal.ofBits .f32 0x3E000000#32 := by
  unfold scores
  pointwise
  rfl

theorem tops_at (s : FVec Ideal S4x2x4x8192x8448 .f32) (b : Fin 4) (g : Fin 2) (h : Fin 4) (t : Fin 8192) :
    tops s (ValueIdx.ix4 b g h t) = Finset.fold max low (fun j => s (ValueIdx.ix5 b g h t j)) Finset.univ := by
  unfold tops
  pointwise
  rfl

theorem exps_at (s : FVec Ideal S4x2x4x8192x8448 .f32) (w : FVec Ideal S4x2x4x8192 .f32) (b : Fin 4) (g : Fin 2) (h : Fin 4) (t : Fin 8192) (j : Fin 8448) :
    exps s w (ValueIdx.ix5 b g h t j) = Ideal.exp (s (ValueIdx.ix5 b g h t j) - max low (w (ValueIdx.ix4 b g h t))) := by
  unfold exps
  pointwise
  rfl

theorem weights_at (p : FVec Ideal S4x2x4x8192x8448 .f32) (b : Fin 4) (g : Fin 2) (h : Fin 4) (t : Fin 8192) (j : Fin 8448) :
    weights p (ValueIdx.ix5 b g h t j) = Ideal.div (p (ValueIdx.ix5 b g h t j)) (∑ i : Fin 8448, p (ValueIdx.ix5 b g h t i)) := by
  unfold weights
  pointwise
  rfl

theorem mixed_at (p : FVec Ideal S4x2x4x8192x8448 .f32) (v : FVec Ideal S4x8448x2x64 .f32) (b : Fin 4) (t : Fin 8192) (x : Fin 512) :
    mixed p v (ValueIdx.ix3 b t x) = ∑ j : Fin 8448, p (ValueIdx.ix5 b ⟨x.val / 256, by omega⟩ ⟨x.val / 64 % 4, by omega⟩ t j)
      * v (ValueIdx.ix4 b j ⟨x.val / 256, by omega⟩ ⟨x.val % 64, by omega⟩) := by
  unfold mixed
  pointwise
  rfl

theorem join_low (x : FVec Ideal S4x8192x2x64 .f32) (y : FVec Ideal S4x256x2x64 .f32) (b : Fin 4) (g : Fin 2) (t : Fin 8192) (d : Fin 64) :
    join x y (ValueIdx.ix4 b (Fin.castAdd 256 t) g d) = x (ValueIdx.ix4 b t g d) := by
  unfold join
  pointwise
  exact dif_pos t.isLt

theorem join_high (x : FVec Ideal S4x8192x2x64 .f32) (y : FVec Ideal S4x256x2x64 .f32) (b : Fin 4) (g : Fin 2) (t : Fin 256) (d : Fin 64) :
    join x y (ValueIdx.ix4 b (Fin.natAdd 8192 t) g d) = y (ValueIdx.ix4 b t g d) := by
  unfold join
  pointwise
  refine (dif_neg (show ¬ (8192 + t.val < 8192) by omega)).trans (congrArg (fun i : Fin 256 => y (ValueIdx.ix4 b i g d)) ?_)
  exact Fin.ext (show 8192 + t.val - 8192 = t.val by omega)

theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference2Ideal.Value.run (F := Ideal) m ρ

end Cert.Attn.Ref

end
-- ==== Proof.AttnSoft.lean ====
/-
  The mathematics of the attention: the kernel divides the sum over both segments once, the reference divides each
  weight of the joined segment.
-/
module

public import proofs.«01_k».proof.Proof.AttnRow
public import proofs.«01_k».proof.Proof.Algebraic

@[expose] public section

noncomputable section

namespace Cert.Attn

open Idealize.ShloMosaic Cert.Moe

theorem low_eq : low = ⊥ := by simp [low, Ideal.ofBits, Ideal.ieee]

/-- The largest of a family and the lowest value is the family's supremum. -/
theorem fold_eq {n : ℕ} (f : Fin n → EReal) : Finset.fold max low f Finset.univ = Finset.univ.sup f := by
  rw [low_eq]
  rfl

/-- The joined segment's length. -/
abbrev Seg := Fin (8192 + 256)

/-- The largest score of both segments is the largest of the joined segment. -/
theorem top_eq (S : Seg → EReal) : top (fun j => S (Fin.castAdd 256 j)) (fun j => S (Fin.natAdd 8192 j)) = Finset.univ.sup S := by
  unfold top
  rw [fold_eq, fold_eq]
  refine le_antisymm (max_le ?_ ?_) (Finset.sup_le fun j _ => ?_)
  · exact Finset.sup_le fun j _ => Finset.le_sup (f := S) (Finset.mem_univ _)
  · exact Finset.sup_le fun j _ => Finset.le_sup (f := S) (Finset.mem_univ _)
  · refine Fin.addCases (motive := fun j => S j ≤ _) (fun i => ?_) (fun i => ?_) j
    · exact le_max_of_le_left (Finset.le_sup (f := fun i : Fin 8192 => S (Fin.castAdd 256 i)) (Finset.mem_univ i))
    · exact le_max_of_le_right (Finset.le_sup (f := fun i : Fin 256 => S (Fin.natAdd 8192 i)) (Finset.mem_univ i))

/-- The largest of numbers is a number. -/
theorem sup_num {S : Seg → EReal} (hS : ∀ j, IsNum (S j)) : IsNum (Finset.univ.sup S) := by
  obtain ⟨j, -, hj⟩ := Finset.exists_mem_eq_sup Finset.univ ⟨Fin.castAdd 256 0, Finset.mem_univ _⟩ S
  rw [hj]
  exact hS j

/-- A sum times a number that is not negative is the sum of the products, whatever the summands. -/
theorem sum_mul_num {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- The exponential of a number less a number is a positive number. -/
theorem exp_num {x y : EReal} (hx : IsNum x) (hy : IsNum y) : ∃ r : ℝ, 0 < r ∧ Ideal.exp (x - y) = (r : EReal) := by
  obtain ⟨a, rfl⟩ := hx
  obtain ⟨b, rfl⟩ := hy
  refine ⟨Real.exp (a - b), Real.exp_pos _, ?_⟩
  rw [← EReal.coe_sub]
  rfl

/-- The weights of the joined segment, each divided, against the values. -/
def soft (S W : Seg → EReal) : EReal :=
  ∑ j, Ideal.div (Ideal.exp (S j - Finset.univ.sup S)) (∑ i, Ideal.exp (S i - Finset.univ.sup S)) * W j

/-- Dividing the weighed sum once is dividing every weight. -/
theorem mix_eq (S W : Seg → EReal) (hS : ∀ j, IsNum (S j)) :
    mix (fun j => S (Fin.castAdd 256 j)) (fun j => S (Fin.natAdd 8192 j)) (fun j => W (Fin.castAdd 256 j)) (fun j => W (Fin.natAdd 8192 j)) = soft S W := by
  unfold mix soft
  rw [top_eq]
  have hM := sup_num hS
  generalize Finset.univ.sup S = M at hM
  choose p hp hpe using fun j => exp_num (hS j) hM
  have hA := (Fin.sum_univ_add fun j : Seg => Ideal.exp (S j - M) * W j).symm
  have hL := (Fin.sum_univ_add fun j : Seg => Ideal.exp (S j - M)).symm
  rw [hA, hL]
  have hs : ∑ j : Seg, Ideal.exp (S j - M) = ((∑ j : Seg, p j : ℝ) : EReal) := by
    rw [Finset.sum_congr rfl fun j _ => hpe j]
    exact (map_sum (⟨⟨fun r : ℝ => (r : EReal), EReal.coe_zero⟩, EReal.coe_add⟩ : ℝ →+ EReal) p Finset.univ).symm
  have hpos : (0 : ℝ) < ∑ j : Seg, p j := Finset.sum_pos (fun j _ => hp j) ⟨Fin.castAdd 256 0, Finset.mem_univ _⟩
  rw [hs, Ideal.div_coe hpos.ne']
  refine (sum_mul_num Finset.univ _ (one_div_nonneg.2 hpos.le)).trans (Finset.sum_congr rfl fun j _ => ?_)
  rw [Ideal.div_coe hpos.ne', mul_right_comm]

end Cert.Attn

end
-- ==== Proof.AttnEq.lean ====
/-
  The attention's value claim: over the ideal values the kernel's output is the reference's.
-/
module

public import proofs.«01_k».proof.Proof.AttnOut
public import proofs.«01_k».proof.Proof.AttnRef
public import proofs.«01_k».proof.Proof.AttnSoft
public import proofs.«01_k».proof.Proof.Gen.Kernel2Ideal.Frame
public import proofs.«01_k».proof.Proof.Gen.Pre_finite_scores

@[expose] public section

noncomputable section

namespace Cert.Attn

open Idealize.ShloMosaic Idealize.ShloMosaic.TcCoe Idealize.ShloMosaic.Tactic
open Cert.Moe (IsNum isNum_of FinArr finite_of_all)
open Cert.Kernel2Ideal (S4x8192x8x64 S4x8192x2x64 S4x256x2x64 S4x8192x512)

/-- The scale is a number that is not negative. -/
theorem scale_num : ∃ c : ℝ, 0 ≤ c ∧ scale = (c : EReal) := by
  refine ⟨1 / 8, by norm_num, ?_⟩
  simp [scale, Ideal.ofBits, Ideal.ieee]
  rw [← EReal.coe_mul]
  norm_num

/-- What the precondition says of the arrays. -/
structure FinScores (a0 : FVec Ideal S4x8192x8x64 .f32) (a1 : FVec Ideal S4x8192x2x64 .f32) (a3 : FVec Ideal S4x256x2x64 .f32) : Prop where
  q : FinArr (s := S4x8192x8x64) a0
  k : FinArr (s := S4x8192x2x64) a1
  l : FinArr (s := S4x256x2x64) a3

/-- The precondition, read back. -/
theorem finScores_of {a0 a1 a2 a3 a4} (h : Cert.Pre_finite_scores.fn (F := Ideal) a0 a1 a2 a3 a4 = fun _ => 1#1) : FinScores a0 a1 a3 := by
  have h := congrFun h (ValueIdx.ix0)
  have h13 := IntOp.andi_eq_one.1 h
  have h8 := IntOp.andi_eq_one.1 h13.1
  exact ⟨finite_of_all _ _ _ _ _ h8.1, finite_of_all _ _ _ _ _ h8.2, finite_of_all _ _ _ _ _ h13.2⟩

variable (a0 : FVec Ideal S4x8192x8x64 .f32) (a1 a2 : FVec Ideal S4x8192x2x64 .f32) (a3 a4 : FVec Ideal S4x256x2x64 .f32)

/-- The place of a head in its group. -/
def inGr (x : Fin 512) : Fin 4 := ⟨x.val / 64 % 4, by omega⟩

theorem hd_eq (x : Fin 512) : Ref.hdOf (gr x) (inGr x) = hd x :=
  Fin.ext (show x.val / 256 * 4 + x.val / 64 % 4 = x.val / 64 by omega)

/-- The scores of a row against the joined segment. -/
def scoreOf (b : Fin 4) (t : Fin 8192) (x : Fin 512) (j : Seg) : EReal := Ref.scores a0 (Ref.join a1 a3) (ValueIdx.ix5 b (gr x) (inGr x) t j)

/-- The values of a column of the joined segment. -/
def valueOf (b : Fin 4) (x : Fin 512) (j : Seg) : EReal := Ref.join a2 a4 (ValueIdx.ix4 b j (gr x) (co x))

/-- The reference's result is the softmax of the joined segment. -/
theorem result_at (b : Fin 4) (t : Fin 8192) (x : Fin 512) :
    Ref.result a0 a1 a2 a3 a4 (ValueIdx.ix3 b t x) = soft (scoreOf a0 a1 a3 b t x) (valueOf a2 a4 b x) := by
  unfold Ref.result
  refine (Ref.mixed_at _ _ b t x).trans (Finset.sum_congr rfl fun j _ => congrArg (fun z : EReal => z * valueOf a2 a4 b x j) ?_)
  have he : ∀ i : Fin 8448, Ref.exps (Ref.scores a0 (Ref.join a1 a3)) (Ref.tops (Ref.scores a0 (Ref.join a1 a3))) (ValueIdx.ix5 b (gr x) (inGr x) t i)
      = Ideal.exp (scoreOf a0 a1 a3 b t x i - Finset.univ.sup (scoreOf a0 a1 a3 b t x)) := fun i => by
    refine (Ref.exps_at _ _ b (gr x) (inGr x) t i).trans (congrArg (fun z : EReal => Ideal.exp (scoreOf a0 a1 a3 b t x i - z)) ?_)
    rw [Ref.tops_at]
    refine (congrArg (max low) (fold_eq (n := 8448) (scoreOf a0 a1 a3 b t x))).trans ?_
    rw [low_eq]
    exact max_eq_right bot_le
  unfold Ref.soft
  refine (Ref.weights_at _ b (gr x) (inGr x) t j).trans (congrArg₂ Ideal.div (he j) (Finset.sum_congr rfl fun i _ => he i))

/-- The scale goes into the sum of a score. -/
theorem score_in (b : Fin 4) (t : Fin 8192) (x : Fin 512) (k : Fin 64 → EReal) :
    (∑ d : Fin 64, a0 (ValueIdx.ix4 b t (Ref.hdOf (gr x) (inGr x)) d) * k d) * scale = ∑ d : Fin 64, (a0 (ValueIdx.ix4 b t (hd x) d) : EReal) * scale * k d := by
  obtain ⟨c, hc, he⟩ := scale_num
  rw [hd_eq, he]
  exact (sum_mul_num Finset.univ _ hc).trans (Finset.sum_congr rfl fun d _ => mul_right_comm _ _ _)

/-- The kernel's element is the softmax of the joined segment. -/
theorem att_eq (h : FinScores a0 a1 a3) (b : Fin 4) (t : Fin 8192) (x : Fin 512) :
    att a0 a1 a2 a3 a4 b t x = soft (scoreOf a0 a1 a3 b t x) (valueOf a2 a4 b x) := by
  have hj : ∀ j : Fin 8192, scoreOf a0 a1 a3 b t x (Fin.castAdd 256 j) = ∑ d : Fin 64, (a0 (ValueIdx.ix4 b t (hd x) d) : EReal) * scale * a1 (ValueIdx.ix4 b j (gr x) d) := fun j => by
    refine (Ref.scores_at _ _ b (gr x) (inGr x) t _).trans (Eq.trans ?_ (score_in a0 b t x fun d => a1 (ValueIdx.ix4 b j (gr x) d)))
    exact congrArg (fun z : EReal => z * scale) (Finset.sum_congr rfl fun d _ => congrArg (fun z : EReal => (a0 _ : EReal) * z) (Ref.join_low a1 a3 b (gr x) j d))
  have hk : ∀ j : Fin 256, scoreOf a0 a1 a3 b t x (Fin.natAdd 8192 j) = ∑ d : Fin 64, (a0 (ValueIdx.ix4 b t (hd x) d) : EReal) * scale * a3 (ValueIdx.ix4 b j (gr x) d) := fun j => by
    refine (Ref.scores_at _ _ b (gr x) (inGr x) t _).trans (Eq.trans ?_ (score_in a0 b t x fun d => a3 (ValueIdx.ix4 b j (gr x) d)))
    exact congrArg (fun z : EReal => z * scale) (Finset.sum_congr rfl fun d _ => congrArg (fun z : EReal => (a0 _ : EReal) * z) (Ref.join_high a1 a3 b (gr x) j d))
  obtain ⟨c, hc, he⟩ := scale_num
  have hn : ∀ j, IsNum (scoreOf a0 a1 a3 b t x j) := fun j => by
    refine Fin.addCases (motive := fun j => IsNum (scoreOf a0 a1 a3 b t x j)) (fun i => ?_) (fun i => ?_) j
    · rw [hj i]
      exact IsNum.sum fun d => ((isNum_of (h.q _)).mul ⟨c, he⟩).mul (isNum_of (h.k _))
    · rw [hk i]
      exact IsNum.sum fun d => ((isNum_of (h.q _)).mul ⟨c, he⟩).mul (isNum_of (h.l _))
  rw [← mix_eq _ _ hn, funext hj, funext hk]
  unfold att
  exact congrArg₂ (mix _ _) (funext fun j => (Ref.join_low a2 a4 b (gr x) j (co x)).symm) (funext fun j => (Ref.join_high a2 a4 b (gr x) j (co x)).symm)

open Cert.Kernel2Ideal in
/-- The reference's result of the kernel's arguments is the kernel's output. -/
theorem result_eq (m : (ℓ : Loc nD τ sig) → Buf (Elt Ideal) ℓ) (c : Dev nD) (h : FinScores (Qa m c) (Ka m c) (Kb m c)) :
    Ref.result (Qa m c) (Ka m c) (Va m c) (Kb m c) (Vb m c) = outG m c := by
  funext i
  obtain ⟨b, t, x, rfl⟩ : ∃ (b : Fin 4) (t : Fin 8192) (x : Fin 512), i = ValueIdx.ix3 b t x :=
    ⟨i 0, i 1, i 2, by funext a; fin_cases a <;> rfl⟩
  exact (result_at _ _ _ _ _ b t x).trans (att_eq _ _ _ _ _ h b t x).symm

/-- The reference's frame. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Both programs end with the same result. -/
theorem algebraic : Cert.algebraic_Kernel2Ideal_Reference2Ideal_pre_finite_scores := fun m g m' g' hpre hargs => by
  refine ⟨fun c => outG m c, run m g, ?_⟩
  refine (θ_run Cert.Reference2Ideal.defs _ _).mono (fun r h c => ⟨(h c).1.trans ?_, (h c).2⟩) (Ref.run_result m' g')
  obtain ⟨e0, e1, e2, e3, e4⟩ := hargs c
  refine Eq.trans ?_ (result_eq m c (finScores_of (hpre c)))
  rw [e0, e1, e2, e3, e4]

end Cert.Attn

end
-- ==== Proof.ResProj.lean ====
/-
  The output projection of the first layer with its residual: over the ideal values the kernel's two products, added
  up, are the reference's product of the two mixers' outputs side by side.
-/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Quiescent
public import Idealize.ShloMosaic.Lib.Claim

@[expose] public section

noncomputable section

namespace Cert.ResProj

open Cert.Kernel3Ideal Cert.Kernel3Ideal.Gen
open Idealize.ShloMosaic Idealize.ShloMosaic.TcCoe Idealize.ShloMosaic.Tactic
open Idealize.SL.Sem

theorem z2 : (![0, 0] : Fin 2 → ℕ) = fun _ => 0 := by decide
theorem z3 : (![0, 0, 0] : Fin 3 → ℕ) = fun _ => 0 := by decide

/-- A tile's element: the residual plus the gate times the two products. -/
theorem out_at (x0 : Vec Ideal S1x512x1024 .f32) (x1 : Vec Ideal S1x1x1024 .f32) (x2 x3 : Vec Ideal S1x512x512 .bf16) (x4 x5 : Vec Ideal S512x1024 .bf16)
    (r : Fin 512) (e : Fin 1024) : out0_6 x0 x1 x2 x3 x4 x5 (ValueIdx.ix3 0 r e)
      = (x0 (ValueIdx.ix3 0 r e) : EReal) + x1 (ValueIdx.ix3 0 0 e) * ((∑ d : Fin 512, x2 (ValueIdx.ix3 0 r d) * x4 (ValueIdx.ix2 d e))
        + ∑ d : Fin 512, x3 (ValueIdx.ix3 0 r d) * x5 (ValueIdx.ix2 d e)) := by
  have e0 : View.ld x0 r0_2 = x0 := View.ld_unit_zero z3 _ x0
  have e1 : View.ld x1 r0_3 = x1 := View.ld_unit_zero z3 _ x1
  have e2 : View.ld x2 r0_0 = x2 := View.ld_unit_zero z3 _ x2
  have e3 : View.ld x3 r0_0 = x3 := View.ld_unit_zero z3 _ x3
  have e4 : View.ld x4 r0_1 = x4 := View.ld_unit_zero z2 _ x4
  have e5 : View.ld x5 r0_1 = x5 := View.ld_unit_zero z2 _ x5
  have h : out0_6 x0 x1 x2 x3 x4 x5 = k0_pay1 x2 x4 x3 x5 x0 x1 := by
    unfold out0_6
    rw [e0, e1, e2, e3, e4, e5]
    exact View.canon_unit_zero z3 _ _
  rw [h]
  unfold k0_pay1
  pointwise
  rfl

variable (m : (ℓ : Loc nD τ sig) → Buf (Elt Ideal) ℓ) (c : Dev nD)

/-- The arguments: the residual stream, the gate, the two mixers' outputs and the weights. -/
abbrev X : S4x8192x1024.Idx → EReal := m ((c : Thread nD τ).loc main_arg0)
abbrev G : S4x1x1024.Idx → EReal := m ((c : Thread nD τ).loc main_arg1)
abbrev Ya : S4x8192x512.Idx → EReal := m ((c : Thread nD τ).loc main_arg2)
abbrev Yb : S4x8192x512.Idx → EReal := m ((c : Thread nD τ).loc main_arg3)
abbrev W : S1024x1024.Idx → EReal := m ((c : Thread nD τ).loc main_arg4)

theorem V_ya : V m c main_v1 = Ya m c := by
  show StableHlo.after hostOps0 _ (Proc.devRef .tc main_v1) = _
  unfold hostOps0
  after_results <;> rfl

theorem V_yb : V m c main_v2 = Yb m c := by
  show StableHlo.after hostOps0 _ (Proc.devRef .tc main_v2) = _
  unfold hostOps0
  after_results <;> rfl

theorem V_wa (d : Fin 512) (e : Fin 1024) : (V m c main_v3 : S512x1024.Idx → EReal) (ValueIdx.ix2 d e) = W m c (ValueIdx.ix2 (Fin.castAdd 512 d) e) := by
  have h : (V m c main_v3 : S512x1024.Idx → EReal) = extractStridedSlice S512x1024 ![0, 0]
      (truncf .bf16 (W m c : FVec Ideal S1024x1024 .f32) bitsLt_bf16_f32 : FVec Ideal S1024x1024 .bf16) slices_S1024x1024_S512x1024_0_0 := by
    show StableHlo.after hostOps0 _ (Proc.devRef .tc main_v3) = _
    unfold hostOps0
    after_results <;> rfl
  rw [h]
  pointwise
  exact congrArg (W m c) (by funext a; fin_cases a <;> exact Fin.ext (by simp))

theorem V_wb (d : Fin 512) (e : Fin 1024) : (V m c main_v4 : S512x1024.Idx → EReal) (ValueIdx.ix2 d e) = W m c (ValueIdx.ix2 (Fin.natAdd 512 d) e) := by
  have h : (V m c main_v4 : S512x1024.Idx → EReal) = extractStridedSlice S512x1024 ![512, 0]
      (truncf .bf16 (W m c : FVec Ideal S1024x1024 .f32) bitsLt_bf16_f32 : FVec Ideal S1024x1024 .bf16) slices_S1024x1024_S512x1024_512_0 := by
    show StableHlo.after hostOps0 _ (Proc.devRef .tc main_v4) = _
    unfold hostOps0
    after_results <;> rfl
  rw [h]
  pointwise
  refine congrArg (W m c) ?_
  funext a
  fin_cases a <;> rfl

/-- The batch and the block of rows of a grid point. -/
def bAt (t : Fin cfg0.N) : Fin 4 := ⟨(grid0.coords t 0).val, (grid0.coords t 0).isLt⟩
def iAt (t : Fin cfg0.N) : Fin 16 := ⟨(grid0.coords t 1).val, (grid0.coords t 1).isLt⟩
def row (t : Fin cfg0.N) (r : Fin 512) : Fin 8192 := ⟨(iAt t).val * 512 + r.val, by omega⟩

theorem idx (t : Fin cfg0.N) : win0_0.index t = ![(bAt t).val, (iAt t).val, 0] ∧ win0_1.index t = ![(bAt t).val, 0, 0]
    ∧ win0_2.index t = ![(bAt t).val, (iAt t).val, 0] ∧ win0_3.index t = ![(bAt t).val, (iAt t).val, 0]
    ∧ win0_4.index t = ![0, 0] ∧ win0_5.index t = ![0, 0] ∧ win0_6.index t = ![(bAt t).val, (iAt t).val, 0] := by
  revert t; decide

theorem iblk0 (t : Fin cfg0.N) (r : Fin 512) (e : Fin 1024) : (iblk m c 0 t : S1x512x1024.Idx → EReal) (ValueIdx.ix3 0 r e) = X m c (ValueIdx.ix3 (bAt t) (row t r) e) := by
  refine Eq.trans ?_ (congrFun (V_main_arg0 m c) _)
  unfold iblk
  show (V m c main_arg0 : S4x8192x1024.Idx → EReal) _ = (V m c main_arg0 : S4x8192x1024.Idx → EReal) _
  blk_ext [idx t, row]

theorem iblk1 (t : Fin cfg0.N) (e : Fin 1024) : (iblk m c 1 t : S1x1x1024.Idx → EReal) (ValueIdx.ix3 0 0 e) = G m c (ValueIdx.ix3 (bAt t) 0 e) := by
  refine Eq.trans ?_ (congrFun (V_main_arg1 m c) _)
  unfold iblk
  show (V m c main_arg1 : S4x1x1024.Idx → EReal) _ = (V m c main_arg1 : S4x1x1024.Idx → EReal) _
  blk_ext [idx t]

theorem iblk2 (t : Fin cfg0.N) (r d : Fin 512) : (iblk m c 2 t : S1x512x512.Idx → EReal) (ValueIdx.ix3 0 r d) = Ya m c (ValueIdx.ix3 (bAt t) (row t r) d) := by
  unfold iblk
  rw [← V_ya m c]
  show (V m c main_v1 : S4x8192x512.Idx → EReal) _ = (V m c main_v1 : S4x8192x512.Idx → EReal) _
  blk_ext [idx t, row]

theorem iblk3 (t : Fin cfg0.N) (r d : Fin 512) : (iblk m c 3 t : S1x512x512.Idx → EReal) (ValueIdx.ix3 0 r d) = Yb m c (ValueIdx.ix3 (bAt t) (row t r) d) := by
  unfold iblk
  rw [← V_yb m c]
  show (V m c main_v2 : S4x8192x512.Idx → EReal) _ = (V m c main_v2 : S4x8192x512.Idx → EReal) _
  blk_ext [idx t, row]

theorem iblk4 (t : Fin cfg0.N) (d : Fin 512) (e : Fin 1024) : (iblk m c 4 t : S512x1024.Idx → EReal) (ValueIdx.ix2 d e) = W m c (ValueIdx.ix2 (Fin.castAdd 512 d) e) := by
  refine Eq.trans ?_ (V_wa m c d e)
  unfold iblk
  show (V m c main_v3 : S512x1024.Idx → EReal) _ = _
  blk_ext [idx t]

theorem iblk5 (t : Fin cfg0.N) (d : Fin 512) (e : Fin 1024) : (iblk m c 5 t : S512x1024.Idx → EReal) (ValueIdx.ix2 d e) = W m c (ValueIdx.ix2 (Fin.natAdd 512 d) e) := by
  refine Eq.trans ?_ (V_wb m c d e)
  unfold iblk
  show (V m c main_v4 : S512x1024.Idx → EReal) _ = _
  blk_ext [idx t]

/-- The output of the arguments. -/
def outG : S4x8192x1024.Idx → EReal := fun i => X m c i + G m c (ValueIdx.ix3 (i 0) 0 (i 2)) *
  ((∑ d : Fin 512, Ya m c (ValueIdx.ix3 (i 0) (i 1) d) * W m c (ValueIdx.ix2 (Fin.castAdd 512 d) (i 2)))
    + ∑ d : Fin 512, Yb m c (ValueIdx.ix3 (i 0) (i 1) d) * W m c (ValueIdx.ix2 (Fin.natAdd 512 d) (i 2)))

theorem emb_at (t : Fin cfg0.N) (r : Fin 512) (e : Fin 1024) :
    ((cfg0.win 6).blk t).view.emb (ValueIdx.ix3 0 r e : S1x512x1024.Idx) = (ValueIdx.ix3 (bAt t) (row t r) e : S4x8192x1024.Idx) := by
  blk_ext [idx t, row]

theorem tile_read (t : Fin cfg0.N) (y : S1x512x1024.Idx) :
    (out0_6 (F := Ideal) (iblk m c 0 t) (iblk m c 1 t) (iblk m c 2 t) (iblk m c 3 t) (iblk m c 4 t) (iblk m c 5 t)) y
      = outG m c (((cfg0.win 6).blk t).view.emb y) := by
  obtain ⟨r, e, rfl⟩ : ∃ (r : Fin 512) (e : Fin 1024), y = ValueIdx.ix3 0 r e :=
    ⟨y 1, y 2, by funext a; fin_cases a; exacts [Subsingleton.elim (α := Fin 1) _ _, rfl, rfl]⟩
  refine (out_at _ _ _ _ _ _ r e).trans (Eq.trans ?_ (congrArg (outG m c) (emb_at t r e)).symm)
  exact congrArg₂ (fun u v : EReal => u + v) (iblk0 m c t r e) (congrArg₂ (fun u v : EReal => u * v) (iblk1 m c t e)
    (congrArg₂ (fun u v : EReal => u + v)
      (Finset.sum_congr rfl fun d _ => congrArg₂ (fun u v : EReal => u * v) (iblk2 m c t r d) (iblk4 m c t d e))
      (Finset.sum_congr rfl fun d _ => congrArg₂ (fun u v : EReal => u * v) (iblk3 m c t r d) (iblk5 m c t d e))))

/-- The point of a batch and a block of rows. -/
def pt (b : Fin 4) (i : Fin 16) : Fin cfg0.N := ⟨b.val * 16 + i.val, by show _ < 64; omega⟩

theorem pt_facts : ∀ (b : Fin 4) (i : Fin 16), bAt (pt b i) = b ∧ iAt (pt b i) = i := by decide

set_option maxRecDepth 16384 in
theorem arr_eq : (dats m 0 c).arrAt 6 cfg0.N = outG m c := by
  refine (dats m 0 c).arrAt_eq_of_cover 6 (outG m c) (fun t _ => ?_) fun i => ?_
  · rw [Value.flushed6]
    exact funext fun y => tile_read m c t y
  · obtain ⟨b, s, x, rfl⟩ : ∃ (b : Fin 4) (s : Fin 8192) (x : Fin 1024), i = (ValueIdx.ix3 b s x : S4x8192x1024.Idx) :=
      ⟨(i : S4x8192x1024.Idx) 0, (i : S4x8192x1024.Idx) 1, (i : S4x8192x1024.Idx) 2, by funext a; fin_cases a <;> rfl⟩
    refine ⟨pt b ⟨s.val / 512, by omega⟩, flush0_6 _, ?_⟩
    obtain ⟨h1, h2⟩ := pt_facts b ⟨s.val / 512, by omega⟩
    have he := emb_at (pt b ⟨s.val / 512, by omega⟩) ⟨s.val % 512, by omega⟩ x
    have hx : (ValueIdx.ix3 (bAt (pt b ⟨s.val / 512, by omega⟩)) (row (pt b ⟨s.val / 512, by omega⟩) ⟨s.val % 512, by omega⟩) x : S4x8192x1024.Idx)
        = ValueIdx.ix3 b s x := by
      unfold row
      simp only [h1, h2]
      congr 1
      exact Fin.ext (show s.val / 512 * 512 + s.val % 512 = s.val by omega)
    exact Finset.mem_map.mpr ⟨_, Finset.mem_univ _, he.trans hx⟩

/-- The reference's composed term of the same arguments. -/
theorem ref_eq : (addf (X m c : FVec Ideal S4x8192x1024 .f32) (mulf (broadcastInDim S4x8192x1024 ![0, 1, 2] Cert.Reference3Ideal.Gen.bcast_S4x1x1024_S4x8192x1024_0_1_2 (G m c : FVec Ideal S4x1x1024 .f32))
      (Host.dotGeneral (φ₂ := .f32) Cert.Reference3Ideal.dot_S4x8192x1024_S1024x1024_S4x8192x1024_2_0_01_1_n_n none
        (concatenate (α := Ideal .f32) S4x8192x1024 2 [⟨S4x8192x512, (Ya m c : FVec Ideal S4x8192x512 .f32)⟩, ⟨S4x8192x512, (Yb m c : FVec Ideal S4x8192x512 .f32)⟩] Cert.Reference3Ideal.Gen.concatenates_S4x8192x512_S4x8192x512_S4x8192x1024_d2)
        (W m c : FVec Ideal S1024x1024 .f32))) : FVec Ideal S4x8192x1024 .f32) = outG m c := by
  funext i
  obtain ⟨b, s, x, rfl⟩ : ∃ (b : Fin 4) (s : Fin 8192) (x : Fin 1024), i = ValueIdx.ix3 b s x :=
    ⟨i 0, i 1, i 2, by funext a; fin_cases a <;> rfl⟩
  pointwise
  rfl

/-- The reference's frame. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Both programs end with the same result. -/
theorem algebraic : Cert.algebraic_Kernel3Ideal_Reference3Ideal := fun m g m' g' hpre hargs => by
  refine ⟨fun c => outG m c, ?_, ?_⟩
  · exact (θ_run Cert.Kernel3Ideal.defs _ _).mono (fun _ h c => ⟨(h c).1.trans (arr_eq m c), (h c).2⟩) (Value.run_blocks m g)
  · refine (θ_run Cert.Reference3Ideal.defs _ _).mono (fun r h c => ⟨(h c).1.trans ?_, (h c).2⟩) (Cert.Reference3Ideal.Value.run (F := Ideal) m' g')
    obtain ⟨e0, e1, e2, e3, e4⟩ := hargs c
    refine Eq.trans ?_ (ref_eq m c)
    rw [e0, e1, e2, e3, e4]

end Cert.ResProj

end
-- ==== Proof.ProjRow.lean ====
/-
  The input projection's kernel, tile by tile, over the ideal values.
-/
module

public import proofs.«01_k».proof.Defs
public import proofs.«01_k».proof.Proof.Gen.Kernel4Ideal.Value
public import Idealize.ShloMosaic.Lib.Pipeline.ValueKit
public import Idealize.ShloMosaic.Lib.Pointwise

@[expose] public section

noncomputable section

namespace Cert.InProj

open Cert.Kernel4Ideal Cert.Kernel4Ideal.Gen
open Idealize.ShloMosaic Idealize.ShloMosaic.TcCoe Idealize.ShloMosaic.Tactic

/-- The constants: 1024, 1/64, the norm's addend, one and the queries' scale. -/
abbrev cWide : EReal := Ideal.ofBits .f32 0x44800000#32
abbrev cHead : EReal := Ideal.ofBits .f32 0x3C800000#32
abbrev cEps : EReal := Ideal.ofBits .f32 0x358637BD#32
abbrev cOne : EReal := Ideal.ofBits .f32 0x3F800000#32
abbrev cScale : EReal := Ideal.ofBits .f32 0x3E000000#32

/-- A normalised and modulated element of a row. -/
def modEl (x g sc sh : Fin 1024 → EReal) (d : Fin 1024) : EReal :=
  x d * Ideal.rsqrt (Ideal.div (∑ e : Fin 1024, x e * x e) cWide + cEps) * g d * (cOne + sc d) + sh d

theorem pay2_at (v0 : Vec Ideal S1x512x1024 .f32) (v2 : Vec Ideal S1x1024 .f32) (v4 v6 : Vec Ideal S1x1x1024 .f32) (v27 : Vec Ideal S1024x1792 .bf16)
    (r : Fin 512) (j : Fin 1792) : k0_pay2 v0 v2 v4 v6 v27 (ValueIdx.ix2 r j)
      = ∑ d : Fin 1024, modEl (fun d => v0 (ValueIdx.ix3 0 r d)) (fun d => v2 (ValueIdx.ix2 0 d)) (fun d => v4 (ValueIdx.ix3 0 0 d)) (fun d => v6 (ValueIdx.ix3 0 0 d)) d
          * v27 (ValueIdx.ix2 d j) := by
  unfold k0_pay2 modEl
  pointwise
  rfl

/-- The lanes' parity, as the kernel computes it. -/
def even : IVec S512x128 1 :=
  have v90 : IVec S512x128 32 := iota .tc S512x128 32 [1] iota_S512x128_d1_w32
  let v93 : BitVec 1 := Scalar.cmpi .eq 2#32 0#32
  let v94 : BitVec 32 := Scalar.select v93 1#32 2#32
  have v95 : IVec S512x128 32 := broadcast S512x128 v94
  have v96 : IVec S512x128 32 := remsi v90 v95
  have v97 : IVec S512x128 32 := broadcast S512x128 0#32
  have v98 : IVec S512x128 1 := cmpi .ne v96 v97
  have v99 : IVec S512x128 32 := broadcast S512x128 0#32
  have v100 : IVec S512x128 1 := cmpi .slt v96 v99
  let v101 : BitVec 1 := Scalar.cmpi .slt v94 0#32
  have v102 : IVec S512x128 1 := broadcast S512x128 v101
  have v103 : IVec S512x128 1 := broadcastTo S512x128 v102 broadcasts_S512x128_S512x128
  have v104 : IVec S512x128 1 := xori v100 v103
  have v105 : IVec S512x128 1 := andi v104 v98
  have v106 : IVec S512x128 32 := broadcast S512x128 v94
  have v107 : IVec S512x128 32 := addi v96 v106
  have v108 : IVec S512x128 32 := select v105 v107 v96
  have v109 : IVec S512x128 32 := broadcast S512x128 0#32
  cmpi .eq v108 v109

/-- A group of 128 columns turned: each element times the cosines plus its neighbour times the sines. -/
def turn (z c s : FVec Ideal S512x128 .f32) : FVec Ideal S512x128 .f32 :=
  addf (mulf z c) (mulf (select even (dynamicRotate 1 127#32 none z rotates_S512x128_d1) (dynamicRotate 1 1#32 none z rotates_S512x128_d1)) s)

theorem even_at (r : Fin 512) (l : Fin 128) : even (ValueIdx.ix2 r l) = if l.val % 2 = 0 then 1#1 else 0#1 := by
  have h : ∀ l : Fin 128, even (ValueIdx.ix2 0 l) = if l.val % 2 = 0 then 1#1 else 0#1 := by decide +kernel
  exact (show even (ValueIdx.ix2 r l) = even (ValueIdx.ix2 0 l) from rfl).trans (h l)

/-- The neighbour in a pair of columns. -/
def mate (l : Fin 128) : Fin 128 := if l.val % 2 = 0 then ⟨(l.val + 128 - 127) % 128, by omega⟩ else ⟨(l.val + 128 - 1) % 128, by omega⟩

theorem turn_at (z c s : FVec Ideal S512x128 .f32) (r : Fin 512) (l : Fin 128) :
    turn z c s (ValueIdx.ix2 r l) = (z (ValueIdx.ix2 r l) : EReal) * c (ValueIdx.ix2 r l) + z (ValueIdx.ix2 r (mate l)) * s (ValueIdx.ix2 r l) := by
  unfold turn
  have he := even_at r l
  pointwise
  rw [he]
  unfold mate
  by_cases h : l.val % 2 = 0
  · rw [if_pos h, if_pos h]
    rfl
  · rw [if_neg h, if_neg h]
    rfl

/-- The sum over a group's heads of 128 columns, by the table, of an element split in two. -/
def headSum (z : FVec Ideal S512x128 .f32) (t : FVec Ideal S128x128 .bf16) : FVec Ideal S512x128 .f32 :=
  addf (matmul dot_S512x128_S128x128_S512x128_1_0_0_1_n_n none (truncf .bf16 z bitsLt_bf16_f32) t (constant S512x128 .f32 0x00000000#32))
    (matmul dot_S512x128_S128x128_S512x128_1_0_0_1_n_n none
      (truncf .bf16 (subf z (extf .f32 (truncf .bf16 z bitsLt_bf16_f32 : FVec Ideal S512x128 .bf16) bitsLt_bf16_f32)) bitsLt_bf16_f32) t (constant S512x128 .f32 0x00000000#32))

theorem headSum_at (z : FVec Ideal S512x128 .f32) (t : FVec Ideal S128x128 .bf16) (r : Fin 512) (l : Fin 128) :
    headSum z t (ValueIdx.ix2 r l) = (∑ d : Fin 128, z (ValueIdx.ix2 r d) * t (ValueIdx.ix2 d l))
      + ∑ d : Fin 128, ((z (ValueIdx.ix2 r d) : EReal) - z (ValueIdx.ix2 r d)) * t (ValueIdx.ix2 d l) := by
  unfold headSum
  pointwise
  rfl

/-- Four groups of columns side by side, and their reading. -/
def four (a b c d : FVec Ideal S512x128 .f32) : FVec Ideal S512x512 .f32 :=
  concatenate S512x512 1 [⟨S512x128, a⟩, ⟨S512x128, b⟩, ⟨S512x128, c⟩, ⟨S512x128, d⟩] concatenates_S512x128_S512x128_S512x128_S512x128_S512x512_d1

theorem four_at (f : Fin 4 → FVec Ideal S512x128 .f32) (r : Fin 512) (q : Fin 4) (l : Fin 128) :
    four (f 0) (f 1) (f 2) (f 3) (ValueIdx.ix2 r ⟨q.val * 128 + l.val, by omega⟩) = f q (ValueIdx.ix2 r l) := by
  unfold four
  fin_cases q
  all_goals pointwise
  · rfl
  · rfl
  · rw [dif_neg (by omega), dif_neg (by omega), dif_pos (by omega)]
    exact congrArg (f 2) (congrArg (ValueIdx.ix2 r) (Fin.ext (show 256 + l.val - 128 - 128 = l.val by omega)))
  · rw [dif_neg (by omega), dif_neg (by omega), dif_neg (by omega)]
    exact congrArg (f 3) (congrArg (ValueIdx.ix2 r) (Fin.ext (show 384 + l.val - 128 - 128 - 128 = l.val by omega)))

/-- A group of the queries' columns. -/
def grp (z : FVec Ideal S512x512 .f32) (q : Fin 4) : FVec Ideal S512x128 .f32 := match q with
  | 0 => extractStridedSlice S512x128 ![0, 0] z slices_S512x512_o0_0_S512x128
  | 1 => extractStridedSlice S512x128 ![0, 128] z slices_S512x512_o0_128_S512x128
  | 2 => extractStridedSlice S512x128 ![0, 256] z slices_S512x512_o0_256_S512x128
  | 3 => extractStridedSlice S512x128 ![0, 384] z slices_S512x512_o0_384_S512x128

theorem grp_at (z : FVec Ideal S512x512 .f32) (q : Fin 4) (r : Fin 512) (l : Fin 128) : grp z q (ValueIdx.ix2 r l) = z (ValueIdx.ix2 r ⟨q.val * 128 + l.val, by omega⟩) := by
  fin_cases q
  all_goals
    unfold grp
    pointwise
    exact congrArg z (by congr 1)

theorem pay8_eq (v29 : FVec Ideal S512x1792 .f32) (t : FVec Ideal S128x128 .bf16) : k0_pay8 v29 t
    = mulf (four (headSum (grp (mulf (k0_pay6 v29) (k0_pay6 v29)) 0) t) (headSum (grp (mulf (k0_pay6 v29) (k0_pay6 v29)) 1) t)
        (headSum (grp (mulf (k0_pay6 v29) (k0_pay6 v29)) 2) t) (headSum (grp (mulf (k0_pay6 v29) (k0_pay6 v29)) 3) t)) (broadcast S512x512 (Scalar.ofBits .f32 0x3C800000#32)) := rfl

/-- The queries' columns normalised by head, and the keys'. -/
def normQ (v29 : FVec Ideal S512x1792 .f32) (g : Vec Ideal S1x512 .f32) (t : FVec Ideal S128x128 .bf16) : FVec Ideal S512x512 .f32 :=
  k0_pay9 (k0_pay6 v29) (k0_pay7 g) (k0_pay8 v29 t) (Scalar.ofBits .f32 0x358637BD#32)

def normK (v29 : FVec Ideal S512x1792 .f32) (g : Vec Ideal S1x128 .f32) (t : FVec Ideal S128x128 .bf16) : FVec Ideal S512x128 .f32 :=
  mulf (mulf (k0_pay21 v29) (rsqrt (addf (mulf (headSum (mulf (k0_pay21 v29) (k0_pay21 v29)) t) (broadcast S512x128 (Scalar.ofBits .f32 0x3C800000#32)))
    (broadcast S512x128 (Scalar.ofBits .f32 0x358637BD#32))))) (broadcastTo S512x128 (k0_pay22 g) broadcasts_S1x128_S512x128)

/-- What a tile holds of the queries and of the keys. -/
def tileQ (v29 : FVec Ideal S512x1792 .f32) (g : Vec Ideal S1x512 .f32) (t : FVec Ideal S128x128 .bf16) (C S : Vec Ideal S512x128 .f32) : FVec Ideal S1x512x512 .bf16 :=
  shapeCast S1x512x512 (truncf .bf16 (mulf (four (turn (grp (normQ v29 g t) 0) (k0_pay10 C) (k0_pay11 S)) (turn (grp (normQ v29 g t) 1) (k0_pay10 C) (k0_pay11 S))
    (turn (grp (normQ v29 g t) 2) (k0_pay10 C) (k0_pay11 S)) (turn (grp (normQ v29 g t) 3) (k0_pay10 C) (k0_pay11 S)))
    (broadcast S512x512 (Scalar.ofBits .f32 0x3E000000#32))) bitsLt_bf16_f32 : FVec Ideal S512x512 .bf16) shapeCasts_S512x512_S1x512x512

def tileK (v29 : FVec Ideal S512x1792 .f32) (g : Vec Ideal S1x128 .f32) (t : FVec Ideal S128x128 .bf16) (C S : Vec Ideal S512x128 .f32) : FVec Ideal S1x512x128 .bf16 :=
  shapeCast S1x512x128 (truncf .bf16 (turn (normK v29 g t) (k0_pay10 C) (k0_pay11 S)) bitsLt_bf16_f32 : FVec Ideal S512x128 .bf16) shapeCasts_S512x128_S1x512x128

section out
variable (x0 : Vec Ideal S1x512x1024 .f32) (x1 x2 : Vec Ideal S1x1x1024 .f32) (x3 : Vec Ideal S1x1024 .f32) (x4 : Vec Ideal S1024x1792 .bf16)
  (x5 : Vec Ideal S1x512 .f32) (x6 : Vec Ideal S1x128 .f32) (x7 : Vec Ideal S128x128 .bf16) (x8 x9 : Vec Ideal S512x128 .f32)

theorem z2 : (![0, 0] : Fin 2 → ℕ) = fun _ => 0 := by decide
theorem z3 : (![0, 0, 0] : Fin 3 → ℕ) = fun _ => 0 := by decide
theorem ld0 : View.ld x0 r0_0 = x0 := View.ld_unit_zero z3 _ x0
theorem ld1 : View.ld x1 r0_2 = x1 := View.ld_unit_zero z3 _ x1
theorem ld3 : View.ld x3 r0_1 = x3 := View.ld_unit_zero z2 _ x3
theorem ld4 : View.ld x4 r0_3 = x4 := View.ld_unit_zero z2 _ x4
theorem ld5 : View.ld x5 r0_6 = x5 := View.ld_unit_zero z2 _ x5
theorem ld6 : View.ld x6 r0_8 = x6 := View.ld_unit_zero z2 _ x6
theorem ld7 : View.ld x7 r0_5 = x7 := View.ld_unit_zero z2 _ x7
theorem ld8 : View.ld x8 r0_7 = x8 := View.ld_unit_zero z2 _ x8

theorem out10_eq : out0_10 x0 x1 x2 x3 x4 x5 x6 x7 x8 x9 = k0_pay3 x0 x3 x1 x2 x4 := by
  unfold out0_10
  rw [ld0, ld1, ld1, ld3, ld4]
  exact View.canon_unit_zero z3 _ _

theorem out11_eq : out0_11 x0 x1 x2 x3 x4 x5 x6 x7 x8 x9 = k0_pay5 (k0_pay4 x0 x3 x1 x2 x4) := by
  unfold out0_11
  rw [ld0, ld1, ld1, ld3, ld4]
  exact View.canon_unit_zero z3 _ _

theorem out12_eq : out0_12 x0 x1 x2 x3 x4 x5 x6 x7 x8 x9 = tileQ (k0_pay2 x0 x3 x1 x2 x4) x5 x7 x8 x9 := by
  unfold_out out0_12
  rw [ld0, ld1, ld1, ld3, ld4, ld5, ld7, ld8, ld8]
  exact (View.canon_unit_zero z3 _ _).trans rfl

theorem out13_eq : out0_13 x0 x1 x2 x3 x4 x5 x6 x7 x8 x9 = tileK (k0_pay2 x0 x3 x1 x2 x4) x6 x7 x8 x9 := by
  unfold_out out0_13
  rw [ld0, ld1, ld1, ld3, ld4, ld6, ld7, ld8, ld8]
  exact (View.canon_unit_zero z3 _ _).trans rfl

theorem out14_eq : out0_14 x0 x1 x2 x3 x4 x5 x6 x7 x8 x9 = k0_pay1 (k0_pay2 x0 x3 x1 x2 x4) := by
  unfold_out out0_14
  rw [ld0, ld1, ld1, ld3, ld4]
  exact View.canon_unit_zero z3 _ _

end out

/-! ## The tiles' elements, of the product's -/

variable (z : FVec Ideal S512x1792 .f32) (t : FVec Ideal S128x128 .bf16)

theorem pay3_at (v0 : Vec Ideal S1x512x1024 .f32) (v2 : Vec Ideal S1x1024 .f32) (v4 v6 : Vec Ideal S1x1x1024 .f32) (v27 : Vec Ideal S1024x1792 .bf16)
    (r j : Fin 512) : k0_pay3 v0 v2 v4 v6 v27 (ValueIdx.ix3 0 r j) = k0_pay2 v0 v2 v4 v6 v27 (ValueIdx.ix2 r ⟨j.val, by omega⟩) := by
  unfold k0_pay3
  generalize k0_pay2 v0 v2 v4 v6 v27 = z
  pointwise
  rfl

theorem pay5_at (v0 : Vec Ideal S1x512x1024 .f32) (v2 : Vec Ideal S1x1024 .f32) (v4 v6 : Vec Ideal S1x1x1024 .f32) (v27 : Vec Ideal S1024x1792 .bf16)
    (r j : Fin 512) : k0_pay5 (k0_pay4 v0 v2 v4 v6 v27) (ValueIdx.ix3 0 r j) = k0_pay2 v0 v2 v4 v6 v27 (ValueIdx.ix2 r ⟨512 + j.val, by omega⟩) := by
  unfold k0_pay5 k0_pay4
  generalize k0_pay2 v0 v2 v4 v6 v27 = z
  pointwise
  rfl

theorem pay1_at (r : Fin 512) (j : Fin 128) : k0_pay1 z (ValueIdx.ix3 0 r j) = z (ValueIdx.ix2 r ⟨1664 + j.val, by omega⟩) := by
  unfold k0_pay1
  pointwise
  rfl

/-- The mean square over a head's columns as the kernel sums it, from a group's first column. -/
def headMs (o : Fin 128 → EReal) (l : Fin 128) : EReal :=
  ((∑ d : Fin 128, o d * o d * t (ValueIdx.ix2 d l)) + ∑ d : Fin 128, (o d * o d - o d * o d) * t (ValueIdx.ix2 d l)) * cHead

/-- A column of the queries. -/
def colQ (q : Fin 4) (l : Fin 128) : Fin 1792 := ⟨1024 + (q.val * 128 + l.val), by omega⟩
def colK (l : Fin 128) : Fin 1792 := ⟨1536 + l.val, by omega⟩

theorem pay6_at (r j : Fin 512) : k0_pay6 z (ValueIdx.ix2 r j) = z (ValueIdx.ix2 r ⟨1024 + j.val, by omega⟩) := by
  unfold k0_pay6
  pointwise
  rfl

theorem pay21_at (r : Fin 512) (j : Fin 128) : k0_pay21 z (ValueIdx.ix2 r j) = z (ValueIdx.ix2 r (colK j)) := by
  unfold k0_pay21
  pointwise
  rfl

theorem pay8_at (r : Fin 512) (q : Fin 4) (l : Fin 128) : k0_pay8 z t (ValueIdx.ix2 r ⟨q.val * 128 + l.val, by omega⟩)
    = headMs t (fun d => z (ValueIdx.ix2 r (colQ q d))) l := by
  rw [pay8_eq]
  have h := (four_at (fun q => headSum (grp (mulf (k0_pay6 z) (k0_pay6 z)) q) t) r q l).trans (headSum_at _ t r l)
  have hs : ∀ d : Fin 128, grp (mulf (k0_pay6 z) (k0_pay6 z)) q (ValueIdx.ix2 r d) = (z (ValueIdx.ix2 r (colQ q d)) : EReal) * z (ValueIdx.ix2 r (colQ q d)) := fun d =>
    (grp_at _ q r d).trans (congrArg₂ (fun u v : EReal => u * v) (pay6_at z r _) (pay6_at z r _))
  simp only [hs] at h
  exact congrArg (fun u : EReal => u * cHead) h

theorem normQ_at (g : Vec Ideal S1x512 .f32) (r : Fin 512) (q : Fin 4) (l : Fin 128) : normQ z g t (ValueIdx.ix2 r ⟨q.val * 128 + l.val, by omega⟩)
    = (z (ValueIdx.ix2 r (colQ q l)) : EReal) * Ideal.rsqrt (headMs t (fun d => z (ValueIdx.ix2 r (colQ q d))) l + cEps) * g (ValueIdx.ix2 0 ⟨q.val * 128 + l.val, by omega⟩) := by
  rw [← pay8_at]
  refine Eq.trans ?_ (congrArg (fun u : EReal => u * _ * _) (pay6_at z r ⟨q.val * 128 + l.val, by omega⟩))
  unfold normQ
  generalize k0_pay8 z t = w
  generalize k0_pay6 z = y
  unfold k0_pay9 k0_pay7
  pointwise
  rfl

theorem normK_at (g : Vec Ideal S1x128 .f32) (r : Fin 512) (l : Fin 128) : normK z g t (ValueIdx.ix2 r l)
    = (z (ValueIdx.ix2 r (colK l)) : EReal) * Ideal.rsqrt (headMs t (fun d => z (ValueIdx.ix2 r (colK d))) l + cEps) * g (ValueIdx.ix2 0 l) := by
  have h := headSum_at (mulf (k0_pay21 z) (k0_pay21 z)) t r l
  have hs : ∀ d : Fin 128, mulf (k0_pay21 z) (k0_pay21 z) (ValueIdx.ix2 r d) = (z (ValueIdx.ix2 r (colK d)) : EReal) * z (ValueIdx.ix2 r (colK d)) := fun d =>
    congrArg₂ (fun u v : EReal => u * v) (pay21_at z r _) (pay21_at z r _)
  simp only [hs] at h
  refine Eq.trans ?_ (congrArg₂ (fun u v : EReal => u * Ideal.rsqrt (v * cHead + cEps) * g (ValueIdx.ix2 0 l)) (pay21_at z r l) h)
  unfold normK
  generalize headSum (mulf (k0_pay21 z) (k0_pay21 z)) t = w
  generalize k0_pay21 z = y
  unfold k0_pay22
  pointwise
  rfl

theorem pay10_eq (C : Vec Ideal S512x128 .f32) : k0_pay10 C = C := by
  unfold k0_pay10
  funext i
  obtain ⟨a, b, rfl⟩ : ∃ (a : Fin 512) (b : Fin 128), i = ValueIdx.ix2 a b := ⟨i 0, i 1, by funext k; fin_cases k <;> rfl⟩
  pointwise

theorem pay11_eq (C : Vec Ideal S512x128 .f32) : k0_pay11 C = C := (show k0_pay11 C = k0_pay10 C from rfl).trans (pay10_eq C)

theorem tileQ_at (g : Vec Ideal S1x512 .f32) (C S : Vec Ideal S512x128 .f32) (r : Fin 512) (q : Fin 4) (l : Fin 128) :
    tileQ z g t C S (ValueIdx.ix3 0 r ⟨q.val * 128 + l.val, by omega⟩)
      = ((normQ z g t (ValueIdx.ix2 r ⟨q.val * 128 + l.val, by omega⟩) : EReal) * C (ValueIdx.ix2 r l)
        + normQ z g t (ValueIdx.ix2 r ⟨q.val * 128 + (mate l).val, by omega⟩) * S (ValueIdx.ix2 r l)) * cScale := by
  unfold tileQ
  generalize normQ z g t = y
  have h := (four_at (fun q => turn (grp y q) (k0_pay10 C) (k0_pay11 S)) r q l).trans (turn_at _ _ _ r l)
  rw [grp_at, grp_at] at h
  rw [pay10_eq, pay11_eq] at h ⊢
  refine Eq.trans ?_ (congrArg (fun u : EReal => u * cScale) h)
  generalize four (turn (grp y 0) C S) (turn (grp y 1) C S) (turn (grp y 2) C S) (turn (grp y 3) C S) = w
  pointwise
  rfl

theorem tileK_at (g : Vec Ideal S1x128 .f32) (C S : Vec Ideal S512x128 .f32) (r : Fin 512) (l : Fin 128) :
    tileK z g t C S (ValueIdx.ix3 0 r l)
      = (normK z g t (ValueIdx.ix2 r l) : EReal) * C (ValueIdx.ix2 r l) + normK z g t (ValueIdx.ix2 r (mate l)) * S (ValueIdx.ix2 r l) := by
  unfold tileK
  generalize normK z g t = y
  rw [pay10_eq, pay11_eq]
  refine Eq.trans ?_ (turn_at y C S r l)
  generalize turn y C S = w
  pointwise
  rfl

end Cert.InProj

end
-- ==== Proof.ProjHead.lean ====
/-
  A head of 64 columns: its norm, its turned pairs, and the kernel's sums by the table of heads.
-/
module

public import proofs.«01_k».proof.Proof.ProjRow
public import proofs.«01_k».proof.Proof.Algebraic

@[expose] public section

noncomputable section

namespace Cert.InProj

open Cert.Kernel4Ideal Cert.Kernel4Ideal.Gen
open Idealize.ShloMosaic Idealize.ShloMosaic.TcCoe Idealize.ShloMosaic.Tactic
open Cert.Moe (IsNum isNum_of)

/-- 64. -/
abbrev cDim : EReal := Ideal.ofBits .f32 0x42800000#32

/-- A head's element over the root of the mean square, times its gain. -/
def normed (y g : Fin 64 → EReal) (e : Fin 64) : EReal := y e * Ideal.rsqrt (Ideal.div (∑ i : Fin 64, y i * y i) cDim + cEps) * g e

/-- A pair of a head's columns turned by an angle. -/
def pair (y : Fin 64 → EReal) (c s : Fin 32 → EReal) (p : Fin 32) (t : Fin 2) : EReal := match t with
  | 0 => y ⟨2 * p.val, by omega⟩ * c p - y ⟨1 + 2 * p.val, by omega⟩ * s p
  | 1 => y ⟨2 * p.val, by omega⟩ * s p + y ⟨1 + 2 * p.val, by omega⟩ * c p

/-- A head turned, pair by pair. -/
def rope (y : Fin 64 → EReal) (c s : Fin 32 → EReal) (e : Fin 64) : EReal := pair y c s ⟨e.val / 2, by omega⟩ ⟨e.val % 2, by omega⟩

/-! ## The constants -/

theorem cHead_eq : cHead = (((1 / 64 : ℝ)) : EReal) := by
  simp [Ideal.ofBits, Ideal.ieee]
  rw [← EReal.coe_mul]
  norm_num

theorem cDim_eq : cDim = ((64 : ℝ) : EReal) := by
  simp [Ideal.ofBits, Ideal.ieee]
  rw [← EReal.coe_mul]
  norm_num

theorem cWide_eq : cWide = ((1024 : ℝ) : EReal) := by
  simp [Ideal.ofBits, Ideal.ieee]
  rw [← EReal.coe_mul]
  norm_num

theorem cOne_eq : cOne = ((1 : ℝ) : EReal) := by
  simp [Ideal.ofBits, Ideal.ieee]

theorem cEps_eq : ∃ r : ℝ, 0 < r ∧ cEps = (r : EReal) := by
  refine ⟨8796093 * ((2 : ℝ) ^ 43)⁻¹, by positivity, ?_⟩
  simp [Ideal.ofBits, Ideal.ieee]

theorem neg_eq : Ideal.ofBits .f32 0xBF800000#32 = ((-1 : ℝ) : EReal) := by
  simp [Ideal.ofBits, Ideal.ieee]
  rw [← EReal.coe_mul]
  norm_num

theorem one16 : Ideal.ofBits .bf16 0x3F80#16 = 1 := by
  simp [Ideal.ofBits, Ideal.ieee]
  rw [← EReal.coe_mul]
  norm_num

theorem zero16 : Ideal.ofBits .bf16 0#16 = 0 := by
  simp [Ideal.ofBits, Ideal.ieee]

/-! ## The sums by the table -/

theorem IsNum.add {x y : EReal} (hx : IsNum x) (hy : IsNum y) : IsNum (x + y) := by
  obtain ⟨a, rfl⟩ := hx
  obtain ⟨b, rfl⟩ := hy
  exact ⟨a + b, (EReal.coe_add a b).symm⟩

theorem num_sub_self {x : EReal} (hx : IsNum x) : x - x = 0 := by
  obtain ⟨a, rfl⟩ := hx
  rw [← EReal.coe_sub, sub_self, EReal.coe_zero]

theorem num_div {x : EReal} (hx : IsNum x) : x * cHead = Ideal.div x cDim := by
  obtain ⟨a, rfl⟩ := hx
  rw [cHead_eq, cDim_eq, Ideal.div_coe (by norm_num)]

/-- The column of a head in a group. -/
def inGroup (h : Fin 2) (e : Fin 64) : Fin 128 := ⟨h.val * 64 + e.val, by omega⟩

theorem sum_group (f : Fin 128 → EReal) : ∑ d, f d = (∑ e : Fin 64, f (inGroup 0 e)) + ∑ e : Fin 64, f (inGroup 1 e) := by
  refine (Fin.sum_univ_add (a := 64) (b := 64) f).trans (congrArg₂ (fun u v : EReal => u + v) ?_ ?_)
  · exact Finset.sum_congr rfl fun e _ => congrArg f (Fin.ext (by simp [inGroup]))
  · exact Finset.sum_congr rfl fun e _ => congrArg f (Fin.ext (show 64 + e.val = 1 * 64 + e.val by omega))

/-- A column's head and its place in it. -/
def hdL (l : Fin 128) : Fin 2 := ⟨l.val / 64, by omega⟩
def coL (l : Fin 128) : Fin 64 := ⟨l.val % 64, by omega⟩

theorem inGroup_hd (l : Fin 128) : inGroup (hdL l) (coL l) = l := Fin.ext (show l.val / 64 * 64 + l.val % 64 = l.val by omega)

/-- The table of heads. -/
def IsTable (t : FVec Ideal S128x128 .bf16) : Prop := ∀ d l : Fin 128, (t (ValueIdx.ix2 d l) : EReal) = if d.val / 64 = l.val / 64 then 1 else 0

variable {t : FVec Ideal S128x128 .bf16} (ht : IsTable t)
include ht

theorem sum_table (f : Fin 128 → EReal) (l : Fin 128) : ∑ d : Fin 128, f d * t (ValueIdx.ix2 d l) = ∑ e : Fin 64, f (inGroup (hdL l) e) := by
  rw [sum_group]
  have h0 : ∀ (h : Fin 2) (e : Fin 64), (inGroup h e).val / 64 = h.val := fun h e => by show (h.val * 64 + e.val) / 64 = h.val; omega
  by_cases hl : l.val / 64 = 0
  · have hh : hdL l = 0 := Fin.ext hl
    rw [hh]
    refine (congrArg₂ (fun u v : EReal => u + v) (Finset.sum_congr rfl fun e _ => ?_) (Finset.sum_eq_zero fun e _ => ?_)).trans (add_zero _)
    · rw [ht, if_pos (by rw [h0, hl]; rfl), mul_one]
    · rw [ht, if_neg (by rw [h0, hl]; decide), mul_zero]
  · have hl : l.val / 64 = 1 := by omega
    have hh : hdL l = 1 := Fin.ext hl
    rw [hh]
    refine (congrArg₂ (fun u v : EReal => u + v) (Finset.sum_eq_zero fun e _ => ?_) (Finset.sum_congr rfl fun e _ => ?_)).trans (zero_add _)
    · rw [ht, if_neg (by rw [h0, hl]; decide), mul_zero]
    · rw [ht, if_pos (by rw [h0, hl]; rfl), mul_one]

/-- The kernel's mean square is the head's, of numbers. -/
theorem headMs_eq (o : Fin 128 → EReal) (ho : ∀ d, IsNum (o d)) (l : Fin 128) :
    headMs t o l = Ideal.div (∑ e : Fin 64, o (inGroup (hdL l) e) * o (inGroup (hdL l) e)) cDim := by
  unfold headMs
  have h0 : ∑ d : Fin 128, (o d * o d - o d * o d) * (t (ValueIdx.ix2 d l) : EReal) = 0 :=
    Finset.sum_eq_zero fun d _ => by rw [num_sub_self ((ho d).mul (ho d)), zero_mul]
  rw [sum_table ht (fun d => o d * o d) l, h0, add_zero]
  exact num_div (IsNum.sum fun e => (ho _).mul (ho _))

omit ht in
theorem mate_hd (l : Fin 128) : hdL (mate l) = hdL l := by
  revert l; decide

omit ht in
theorem mate_co (l : Fin 128) : (coL (mate l)).val = if l.val % 2 = 0 then 2 * (l.val % 64 / 2) + 1 else 2 * (l.val % 64 / 2) := by
  revert l; decide

/-- A column normalised by the kernel is the head's normalised element. -/
theorem norm_eq (o : Fin 128 → EReal) (ho : ∀ d, IsNum (o d)) (g : Fin 64 → EReal) (l : Fin 128) :
    o l * Ideal.rsqrt (headMs t o l + cEps) * g (coL l) = normed (fun e => o (inGroup (hdL l) e)) g (coL l) := by
  unfold normed
  rw [headMs_eq ht o ho l]
  exact congrArg (fun d : Fin 128 => o d * _ * _) (inGroup_hd l).symm

omit ht in
/-- The kernel's turn of a column, by the tables of cosines and signed sines, is the pair's. -/
theorem turn_eq (y : Fin 64 → EReal) (c s : Fin 32 → EReal) (l : Fin 128) :
    y (coL l) * c ⟨l.val % 64 / 2, by omega⟩ + y (coL (mate l)) * (s ⟨l.val % 64 / 2, by omega⟩ * if l.val % 2 = 0 then ((-1 : ℝ) : EReal) else ((1 : ℝ) : EReal))
      = rope y c s (coL l) := by
  unfold rope
  by_cases h : l.val % 2 = 0
  · have e1 : coL (mate l) = ⟨1 + 2 * (l.val % 64 / 2), by omega⟩ := Fin.ext (by rw [mate_co, if_pos h]; exact Nat.add_comm _ _)
    have e0 : coL l = ⟨2 * (l.val % 64 / 2), by omega⟩ := Fin.ext (show l.val % 64 = 2 * (l.val % 64 / 2) by omega)
    have e2 : (⟨(coL l).val % 2, by omega⟩ : Fin 2) = 0 := Fin.ext (show l.val % 64 % 2 = 0 by omega)
    rw [e2, if_pos h]
    show _ = y ⟨2 * (l.val % 64 / 2), _⟩ * c ⟨l.val % 64 / 2, _⟩ - y ⟨1 + 2 * (l.val % 64 / 2), _⟩ * s ⟨l.val % 64 / 2, _⟩
    rw [e1, congrArg y e0, EReal.coe_neg, EReal.coe_one, mul_neg, mul_one, mul_neg, sub_eq_add_neg]
  · have e1 : coL (mate l) = ⟨2 * (l.val % 64 / 2), by omega⟩ := Fin.ext (by rw [mate_co, if_neg h])
    have e0 : coL l = ⟨1 + 2 * (l.val % 64 / 2), by omega⟩ := Fin.ext (show l.val % 64 = 1 + 2 * (l.val % 64 / 2) by omega)
    have e2 : (⟨(coL l).val % 2, by omega⟩ : Fin 2) = 1 := Fin.ext (show l.val % 64 % 2 = 1 by omega)
    rw [e2, if_neg h]
    show _ = y ⟨2 * (l.val % 64 / 2), _⟩ * s ⟨l.val % 64 / 2, _⟩ + y ⟨1 + 2 * (l.val % 64 / 2), _⟩ * c ⟨l.val % 64 / 2, _⟩
    rw [e1, congrArg y e0, EReal.coe_one, mul_one, add_comm]

/-- A group's column of the kernel, normalised and turned. -/
theorem group_eq (o : Fin 128 → EReal) (ho : ∀ d, IsNum (o d)) (g : Fin 64 → EReal) (c s : Fin 32 → EReal) (n C S : Fin 128 → EReal)
    (hn : ∀ l, n l = o l * Ideal.rsqrt (headMs t o l + cEps) * g (coL l)) (hC : ∀ l, C l = c ⟨l.val % 64 / 2, by omega⟩)
    (hS : ∀ l, S l = s ⟨l.val % 64 / 2, by omega⟩ * if l.val % 2 = 0 then ((-1 : ℝ) : EReal) else ((1 : ℝ) : EReal)) (l : Fin 128) :
    n l * C l + n (mate l) * S l = rope (normed (fun e => o (inGroup (hdL l) e)) g) c s (coL l) := by
  rw [hn, hn, hC, hS, norm_eq ht o ho g l, norm_eq ht o ho g (mate l), mate_hd]
  exact turn_eq _ c s l

/-! ## The rows' numbers -/

omit ht in
/-- The root of a mean square and the addend is a number. -/
theorem rsqrt_num {x : EReal} (hx : ∃ r : ℝ, 0 ≤ r ∧ x = (r : EReal)) : IsNum (Ideal.rsqrt (x + cEps)) := by
  obtain ⟨r, h0, rfl⟩ := hx
  obtain ⟨e, he, hc⟩ := cEps_eq
  rw [hc, ← EReal.coe_add]
  have hp : 0 < r + e := by linarith
  refine ⟨(Real.sqrt (r + e))⁻¹, ?_⟩
  show (if r + e < 0 then (⊥ : EReal) else if r + e = 0 then ⊤ else ((Real.sqrt (r + e))⁻¹ : ℝ)) = _
  rw [if_neg (by linarith), if_neg (by linarith)]

omit ht in
/-- The mean square of numbers is a number, not negative. -/
theorem mean_num (x : Fin 1024 → EReal) (hx : ∀ d, IsNum (x d)) : ∃ r : ℝ, 0 ≤ r ∧ Ideal.div (∑ e : Fin 1024, x e * x e) cWide = (r : EReal) := by
  choose f hf using hx
  refine ⟨(∑ e, f e * f e) / 1024, div_nonneg (Finset.sum_nonneg fun e _ => mul_self_nonneg _) (by norm_num), ?_⟩
  have hs : ∑ e : Fin 1024, x e * x e = ((∑ e, f e * f e : ℝ) : EReal) := by
    rw [Finset.sum_congr rfl fun e _ => (congrArg₂ (fun u v : EReal => u * v) (hf e) (hf e)).trans (EReal.coe_mul (f e) (f e)).symm]
    exact (map_sum (⟨⟨fun r : ℝ => (r : EReal), EReal.coe_zero⟩, EReal.coe_add⟩ : ℝ →+ EReal) (fun e => f e * f e) Finset.univ).symm
  rw [hs, cWide_eq, Ideal.div_coe (by norm_num), ← EReal.coe_mul]
  exact congrArg _ (by ring)

omit ht in
/-- A normalised and modulated element of numbers is a number. -/
theorem modEl_num {x g sc sh : Fin 1024 → EReal} (hx : ∀ d, IsNum (x d)) (hg : ∀ d, IsNum (g d)) (hc : ∀ d, IsNum (sc d)) (hh : ∀ d, IsNum (sh d)) (d : Fin 1024) :
    IsNum (modEl x g sc sh d) :=
  IsNum.add ((((hx d).mul (rsqrt_num (mean_num x hx))).mul (hg d)).mul (IsNum.add ⟨1, cOne_eq⟩ (hc d))) (hh d)

end Cert.InProj

end
-- ==== Proof.ProjTab.lean ====
/-
  The table that sums the two heads of a group of 128 columns: one where row and column are of one head, else zero.
-/
module

public import proofs.«01_k».proof.Kernel4Ideal

@[expose] public section

noncomputable section

namespace Cert.InProj

open Cert.Kernel4Ideal

set_option maxRecDepth 65536 in
/-- The printed table's words. -/
theorem lit_at : ∀ i j : Fin 128, lit1t (i.val * 128 + j.val) = if i.val / 64 = j.val / 64 then 0x3F80#16 else 0#16 := by
  decide +kernel

end Cert.InProj

end
-- ==== Proof.ProjOut.lean ====
/-
  The input projection's arrays after the kernel's run, of the arguments, over the ideal values.
-/
module

public import proofs.«01_k».proof.Proof.ProjHead
public import proofs.«01_k».proof.Proof.ProjTab

@[expose] public section

noncomputable section

namespace Cert.InProj

open Cert.Kernel4Ideal Cert.Kernel4Ideal.Gen
open Idealize.ShloMosaic Idealize.ShloMosaic.TcCoe Idealize.ShloMosaic.Tactic
open Idealize.SL.Sem

variable (m : (ℓ : Loc nD τ sig) → Buf (Elt Ideal) ℓ) (c : Dev nD)

/-- The arguments. -/
abbrev X : S4x8192x1024.Idx → EReal := m ((c : Thread nD τ).loc main_arg0)
abbrev Sc : S4x1x1024.Idx → EReal := m ((c : Thread nD τ).loc main_arg1)
abbrev Sh : S4x1x1024.Idx → EReal := m ((c : Thread nD τ).loc main_arg2)
abbrev G : S1024.Idx → EReal := m ((c : Thread nD τ).loc main_arg3)
abbrev W : S1024x1792.Idx → EReal := m ((c : Thread nD τ).loc main_arg4)
abbrev Gq : S64.Idx → EReal := m ((c : Thread nD τ).loc main_arg5)
abbrev Gk : S64.Idx → EReal := m ((c : Thread nD τ).loc main_arg6)
abbrev Cs : S8192x32.Idx → EReal := m ((c : Thread nD τ).loc main_arg7)
abbrev Sn : S8192x32.Idx → EReal := m ((c : Thread nD τ).loc main_arg8)

/-! ## What the region finds -/

theorem V_w : V m c main_v16 = W m c := by
  show StableHlo.after hostOps0 _ (Proc.devRef .tc main_v16) = _
  unfold hostOps0
  after_results <;> rfl

theorem V_gain (d : Fin 1024) : (V m c main_v25 : S1x1024.Idx → EReal) (ValueIdx.ix2 0 d) = G m c (ValueIdx.ix1 d) := by
  have h : (V m c main_v25 : S1x1024.Idx → EReal) = shapeCast S1x1024 (G m c : FVec Ideal S1024 .f32) shapeCasts_S1024_S1x1024 := by
    show StableHlo.after hostOps0 _ (Proc.devRef .tc main_v25) = _
    unfold hostOps0
    after_results <;> rfl
  rw [h]
  generalize (G m c : FVec Ideal S1024 .f32) = g
  pointwise
  rfl

theorem V_gq (x : Fin 512) : (V m c main_v20 : S1x512.Idx → EReal) (ValueIdx.ix2 0 x) = Gq m c (ValueIdx.ix1 ⟨x.val % 64, by omega⟩) := by
  have h : (V m c main_v20 : S1x512.Idx → EReal) = shapeCast S1x512 (shapeCast S512 (broadcastInDim S8x64 ![0, 1] bcast_S1x64_S8x64_0_1
      (shapeCast S1x64 (Gq m c : FVec Ideal S64 .f32) shapeCasts_S64_S1x64)) shapeCasts_S8x64_S512) shapeCasts_S512_S1x512 := by
    show StableHlo.after hostOps0 _ (Proc.devRef .tc main_v20) = _
    unfold hostOps0
    after_results <;> rfl
  rw [h]
  generalize (Gq m c : FVec Ideal S64 .f32) = g
  pointwise
  rfl

theorem V_gk (x : Fin 128) : (V m c main_v24 : S1x128.Idx → EReal) (ValueIdx.ix2 0 x) = Gk m c (ValueIdx.ix1 ⟨x.val % 64, by omega⟩) := by
  have h : (V m c main_v24 : S1x128.Idx → EReal) = shapeCast S1x128 (shapeCast S128 (broadcastInDim S2x64 ![0, 1] bcast_S1x64_S2x64_0_1
      (shapeCast S1x64 (Gk m c : FVec Ideal S64 .f32) shapeCasts_S64_S1x64)) shapeCasts_S2x64_S128) shapeCasts_S128_S1x128 := by
    show StableHlo.after hostOps0 _ (Proc.devRef .tc main_v24) = _
    unfold hostOps0
    after_results <;> rfl
  rw [h]
  generalize (Gk m c : FVec Ideal S64 .f32) = g
  pointwise
  rfl

theorem V_cos (s : Fin 8192) (l : Fin 128) : (V m c main_v7 : S8192x128.Idx → EReal) (ValueIdx.ix2 s l) = Cs m c (ValueIdx.ix2 s ⟨l.val % 64 / 2, by omega⟩) := by
  have h : (V m c main_v7 : S8192x128.Idx → EReal) = shapeCast S8192x128 (broadcastInDim S1x8192x2x64 ![0, 1, 2, 3] bcast_S1x8192x1x64_S1x8192x2x64_0_1_2_3
      (shapeCast S1x8192x1x64 (shapeCast S8192x64 (broadcastInDim S8192x32x2 ![0, 1] bcast_S8192x32_S8192x32x2_0_1 (Cs m c : FVec Ideal S8192x32 .f32))
        shapeCasts_S8192x32x2_S8192x64) shapeCasts_S8192x64_S1x8192x1x64)) shapeCasts_S1x8192x2x64_S8192x128 := by
    show StableHlo.after hostOps0 _ (Proc.devRef .tc main_v7) = _
    unfold hostOps0
    after_results <;> rfl
  rw [h]
  generalize (Cs m c : FVec Ideal S8192x32 .f32) = g
  pointwise
  rfl

/-- The pairs' signs. -/
def signs : FVec Ideal S2 .f32 := fun i => FloatOps.ofBits .f32 (lit0 (S2.rowMajor i))

theorem signs_at (t : Fin 2) : (signs (ValueIdx.ix1 t) : EReal) = if t.val = 0 then ((-1 : ℝ) : EReal) else ((1 : ℝ) : EReal) := by
  fin_cases t
  · exact neg_eq
  · exact cOne_eq

theorem V_sin (s : Fin 8192) (l : Fin 128) : (V m c main_v15 : S8192x128.Idx → EReal) (ValueIdx.ix2 s l)
    = Sn m c (ValueIdx.ix2 s ⟨l.val % 64 / 2, by omega⟩) * if l.val % 2 = 0 then ((-1 : ℝ) : EReal) else ((1 : ℝ) : EReal) := by
  have h : (V m c main_v15 : S8192x128.Idx → EReal) = shapeCast S8192x128 (broadcastInDim S1x8192x2x64 ![0, 1, 2, 3] bcast_S1x8192x1x64_S1x8192x2x64_0_1_2_3
      (shapeCast S1x8192x1x64 (mulf (shapeCast S8192x64 (broadcastInDim S8192x32x2 ![0, 1] bcast_S8192x32_S8192x32x2_0_1 (Sn m c : FVec Ideal S8192x32 .f32))
        shapeCasts_S8192x32x2_S8192x64) (broadcastInDim S8192x64 ![0, 1] bcast_S1x64_S8192x64_0_1 (broadcastInDim S1x64 ![1] bcast_S64_S1x64_1
          (shapeCast S64 (broadcastInDim S32x2 ![0, 1] bcast_S1x2_S32x2_0_1 (shapeCast S1x2 signs shapeCasts_S2_S1x2)) shapeCasts_S32x2_S64))))
        shapeCasts_S8192x64_S1x8192x1x64)) shapeCasts_S1x8192x2x64_S8192x128 := by
    show StableHlo.after hostOps0 _ (Proc.devRef .tc main_v15) = _
    unfold hostOps0
    after_results <;> rfl
  have hs := signs_at ⟨l.val % 64 % 2, by omega⟩
  rw [h]
  generalize (Sn m c : FVec Ideal S8192x32 .f32) = g
  generalize signs = f at hs
  have he : (if l.val % 2 = 0 then ((-1 : ℝ) : EReal) else ((1 : ℝ) : EReal)) = if l.val % 64 % 2 = 0 then ((-1 : ℝ) : EReal) else ((1 : ℝ) : EReal) := by
    rw [show l.val % 64 % 2 = l.val % 2 by omega]
  rw [he]
  refine Eq.trans ?_ (congrArg (fun u : EReal => g (ValueIdx.ix2 s ⟨l.val % 64 / 2, by omega⟩) * u) hs)
  pointwise
  rfl

/-- The printed table of heads. -/
def tab : FVec Ideal S128x128 .bf16 := fun i => FloatOps.ofBits .bf16 (lit1 (S128x128.rowMajor i))

/-- The table of heads, as the region finds it. -/
theorem V_tab : IsTable (V m c main_cst_0 : S128x128.Idx → EReal) := by
  have h : (V m c main_cst_0 : S128x128.Idx → EReal) = tab := by
    show StableHlo.after hostOps0 _ (Proc.devRef .tc main_cst_0) = _
    unfold hostOps0
    after_results <;> rfl
  intro d l
  have hr : (S128x128.rowMajor (ValueIdx.ix2 d l : S128x128.Idx)).val = d.val * 128 + l.val := by
    exact Shape.rowMajor_val_two _
  have hl : lit1 (S128x128.rowMajor (ValueIdx.ix2 d l : S128x128.Idx)) = lit1t (d.val * 128 + l.val) := by
    show lit1t (S128x128.rowMajor (ValueIdx.ix2 d l : S128x128.Idx)).val = _
    rw [hr]
  rw [h]
  show Ideal.ofBits .bf16 (lit1 (S128x128.rowMajor (ValueIdx.ix2 d l : S128x128.Idx))) = _
  rw [hl, lit_at]
  by_cases he : d.val / 64 = l.val / 64
  · rw [if_pos he, if_pos he]
    exact one16
  · rw [if_neg he, if_neg he]
    exact zero16

/-! ## The blocks -/

/-- The batch and the block of rows of a grid point. -/
def bAt (t : Fin cfg0.N) : Fin 4 := ⟨(grid0.coords t 0).val, (grid0.coords t 0).isLt⟩
def iAt (t : Fin cfg0.N) : Fin 16 := ⟨(grid0.coords t 1).val, (grid0.coords t 1).isLt⟩
def row (t : Fin cfg0.N) (r : Fin 512) : Fin 8192 := ⟨(iAt t).val * 512 + r.val, by omega⟩

theorem idx (t : Fin cfg0.N) : win0_0.index t = ![(bAt t).val, (iAt t).val, 0] ∧ win0_1.index t = ![(bAt t).val, 0, 0]
    ∧ win0_2.index t = ![(bAt t).val, 0, 0] ∧ win0_3.index t = ![0, 0] ∧ win0_4.index t = ![0, 0] ∧ win0_5.index t = ![0, 0] ∧ win0_6.index t = ![0, 0]
    ∧ win0_7.index t = ![0, 0] ∧ win0_8.index t = ![(iAt t).val, 0] ∧ win0_9.index t = ![(iAt t).val, 0] := by
  revert t; decide

theorem idxO (t : Fin cfg0.N) : win0_10.index t = ![(bAt t).val, (iAt t).val, 0] ∧ win0_11.index t = ![(bAt t).val, (iAt t).val, 0]
    ∧ win0_12.index t = ![(bAt t).val, (iAt t).val, 0] ∧ win0_13.index t = ![(bAt t).val, (iAt t).val, 0] ∧ win0_14.index t = ![(bAt t).val, (iAt t).val, 0] := by
  revert t; decide

theorem iblk0 (t : Fin cfg0.N) (r : Fin 512) (e : Fin 1024) : (iblk m c 0 t : S1x512x1024.Idx → EReal) (ValueIdx.ix3 0 r e) = X m c (ValueIdx.ix3 (bAt t) (row t r) e) := by
  refine Eq.trans ?_ (congrFun (V_main_arg0 m c) _)
  unfold iblk
  show (V m c main_arg0 : S4x8192x1024.Idx → EReal) _ = (V m c main_arg0 : S4x8192x1024.Idx → EReal) _
  blk_ext [idx t, row]

theorem iblk1 (t : Fin cfg0.N) (e : Fin 1024) : (iblk m c 1 t : S1x1x1024.Idx → EReal) (ValueIdx.ix3 0 0 e) = Sc m c (ValueIdx.ix3 (bAt t) 0 e) := by
  refine Eq.trans ?_ (congrFun (V_main_arg1 m c) _)
  unfold iblk
  show (V m c main_arg1 : S4x1x1024.Idx → EReal) _ = (V m c main_arg1 : S4x1x1024.Idx → EReal) _
  blk_ext [idx t]

theorem iblk2 (t : Fin cfg0.N) (e : Fin 1024) : (iblk m c 2 t : S1x1x1024.Idx → EReal) (ValueIdx.ix3 0 0 e) = Sh m c (ValueIdx.ix3 (bAt t) 0 e) := by
  refine Eq.trans ?_ (congrFun (V_main_arg2 m c) _)
  unfold iblk
  show (V m c main_arg2 : S4x1x1024.Idx → EReal) _ = (V m c main_arg2 : S4x1x1024.Idx → EReal) _
  blk_ext [idx t]

theorem iblk3 (t : Fin cfg0.N) (d : Fin 1024) : (iblk m c 3 t : S1x1024.Idx → EReal) (ValueIdx.ix2 0 d) = G m c (ValueIdx.ix1 d) := by
  refine Eq.trans ?_ (V_gain m c d)
  unfold iblk
  show (V m c main_v25 : S1x1024.Idx → EReal) _ = _
  blk_ext [idx t]

theorem iblk4 (t : Fin cfg0.N) (d : Fin 1024) (j : Fin 1792) : (iblk m c 4 t : S1024x1792.Idx → EReal) (ValueIdx.ix2 d j) = W m c (ValueIdx.ix2 d j) := by
  refine Eq.trans ?_ (congrFun (V_w m c) _)
  unfold iblk
  show (V m c main_v16 : S1024x1792.Idx → EReal) _ = (V m c main_v16 : S1024x1792.Idx → EReal) _
  blk_ext [idx t]

theorem iblk5 (t : Fin cfg0.N) (x : Fin 512) : (iblk m c 5 t : S1x512.Idx → EReal) (ValueIdx.ix2 0 x) = Gq m c (ValueIdx.ix1 ⟨x.val % 64, by omega⟩) := by
  refine Eq.trans ?_ (V_gq m c x)
  unfold iblk
  show (V m c main_v20 : S1x512.Idx → EReal) _ = _
  blk_ext [idx t]

theorem iblk6 (t : Fin cfg0.N) (x : Fin 128) : (iblk m c 6 t : S1x128.Idx → EReal) (ValueIdx.ix2 0 x) = Gk m c (ValueIdx.ix1 ⟨x.val % 64, by omega⟩) := by
  refine Eq.trans ?_ (V_gk m c x)
  unfold iblk
  show (V m c main_v24 : S1x128.Idx → EReal) _ = _
  blk_ext [idx t]

theorem iblk7 (t : Fin cfg0.N) : IsTable (iblk m c 7 t) := fun d l => by
  refine Eq.trans ?_ (V_tab m c d l)
  unfold iblk
  show (V m c main_cst_0 : S128x128.Idx → EReal) _ = (V m c main_cst_0 : S128x128.Idx → EReal) _
  blk_ext [idx t]

theorem iblk8 (t : Fin cfg0.N) (r : Fin 512) (l : Fin 128) : (iblk m c 8 t : S512x128.Idx → EReal) (ValueIdx.ix2 r l) = Cs m c (ValueIdx.ix2 (row t r) ⟨l.val % 64 / 2, by omega⟩) := by
  refine Eq.trans ?_ (V_cos m c (row t r) l)
  unfold iblk
  show (V m c main_v7 : S8192x128.Idx → EReal) _ = _
  blk_ext [idx t, row]

theorem iblk9 (t : Fin cfg0.N) (r : Fin 512) (l : Fin 128) : (iblk m c 9 t : S512x128.Idx → EReal) (ValueIdx.ix2 r l)
    = Sn m c (ValueIdx.ix2 (row t r) ⟨l.val % 64 / 2, by omega⟩) * if l.val % 2 = 0 then ((-1 : ℝ) : EReal) else ((1 : ℝ) : EReal) := by
  refine Eq.trans ?_ (V_sin m c (row t r) l)
  unfold iblk
  show (V m c main_v15 : S8192x128.Idx → EReal) _ = _
  blk_ext [idx t, row]

end Cert.InProj

end
-- ==== Proof.ProjArr.lean ====
/-
  The input projection's arrays after the kernel's run, of the arguments, over the ideal values.
-/
module

public import proofs.«01_k».proof.Proof.ProjOut
public import proofs.«01_k».proof.Proof.PreFin

@[expose] public section

noncomputable section

namespace Cert.InProj

open Cert.Kernel4Ideal Cert.Kernel4Ideal.Gen
open Idealize.ShloMosaic Idealize.ShloMosaic.TcCoe Idealize.ShloMosaic.Tactic
open Idealize.SL.Sem
open Cert.Moe (IsNum isNum_of FinArr)

variable (m : (ℓ : Loc nD τ sig) → Buf (Elt Ideal) ℓ) (c : Dev nD)

/-- An element of the product of the arguments. -/
def Z (b : Fin 4) (s : Fin 8192) (j : Fin 1792) : EReal :=
  ∑ d : Fin 1024, modEl (fun d => X m c (ValueIdx.ix3 b s d)) (fun d => G m c (ValueIdx.ix1 d)) (fun d => Sc m c (ValueIdx.ix3 b 0 d)) (fun d => Sh m c (ValueIdx.ix3 b 0 d)) d
    * W m c (ValueIdx.ix2 d j)

/-- The product's tile at a grid point. -/
abbrev tileZ (t : Fin cfg0.N) : FVec Ideal S512x1792 .f32 := k0_pay2 (iblk m c 0 t) (iblk m c 3 t) (iblk m c 1 t) (iblk m c 2 t) (iblk m c 4 t)

theorem tileZ_at (t : Fin cfg0.N) (r : Fin 512) (j : Fin 1792) : (tileZ m c t (ValueIdx.ix2 r j) : EReal) = Z m c (bAt t) (row t r) j := by
  refine (pay2_at _ _ _ _ _ r j).trans (Finset.sum_congr rfl fun d _ => congrArg₂ (fun u v : EReal => u * v) ?_ (iblk4 m c t d j))
  have h0 : (fun d : Fin 1024 => (iblk m c 0 t : S1x512x1024.Idx → EReal) (ValueIdx.ix3 0 r d)) = fun d => X m c (ValueIdx.ix3 (bAt t) (row t r) d) := funext fun d => iblk0 m c t r d
  have h1 : (fun d : Fin 1024 => (iblk m c 1 t : S1x1x1024.Idx → EReal) (ValueIdx.ix3 0 0 d)) = fun d => Sc m c (ValueIdx.ix3 (bAt t) 0 d) := funext fun d => iblk1 m c t d
  have h2 : (fun d : Fin 1024 => (iblk m c 2 t : S1x1x1024.Idx → EReal) (ValueIdx.ix3 0 0 d)) = fun d => Sh m c (ValueIdx.ix3 (bAt t) 0 d) := funext fun d => iblk2 m c t d
  have h3 : (fun d : Fin 1024 => (iblk m c 3 t : S1x1024.Idx → EReal) (ValueIdx.ix2 0 d)) = fun d => G m c (ValueIdx.ix1 d) := funext fun d => iblk3 m c t d
  exact congr (congr (congr (congr (congrArg modEl h0) h3) h1) h2) rfl

/-- What the precondition says of the arrays. -/
structure FinProj (a0 : FVec Ideal S4x8192x1024 .f32) (a1 a2 : FVec Ideal S4x1x1024 .f32) (a3 : FVec Ideal S1024 .f32) (a4 : FVec Ideal S1024x1792 .f32) : Prop where
  x : FinArr (s := S4x8192x1024) a0
  sc : FinArr (s := S4x1x1024) a1
  sh : FinArr (s := S4x1x1024) a2
  g : FinArr (s := S1024) a3
  w : FinArr (s := S1024x1792) a4

/-- The arguments are finite. -/
abbrev Fin4 : Prop := FinProj (X m c) (Sc m c) (Sh m c) (G m c) (W m c)

variable {m c} in
theorem Z_num (h : Fin4 m c) (b : Fin 4) (s : Fin 8192) (j : Fin 1792) : IsNum (Z m c b s j) :=
  IsNum.sum fun d => (modEl_num (fun d => isNum_of (h.x _)) (fun d => isNum_of (h.g _)) (fun d => isNum_of (h.sc _)) (fun d => isNum_of (h.sh _)) d).mul (isNum_of (h.w _))

/-! ## The outputs of the arguments -/

def colA (b : Fin 4) (s : Fin 8192) (x : Fin 512) : EReal := Z m c b s ⟨x.val, by omega⟩
def colG (b : Fin 4) (s : Fin 8192) (x : Fin 512) : EReal := Z m c b s ⟨512 + x.val, by omega⟩
def outColQ (b : Fin 4) (s : Fin 8192) (x : Fin 512) : EReal :=
  rope (normed (fun e => Z m c b s ⟨1024 + (x.val / 64 * 64 + e.val), by omega⟩) (fun e => Gq m c (ValueIdx.ix1 e))) (fun p => Cs m c (ValueIdx.ix2 s p)) (fun p => Sn m c (ValueIdx.ix2 s p))
    ⟨x.val % 64, by omega⟩ * cScale
def outColK (b : Fin 4) (s : Fin 8192) (x : Fin 128) : EReal :=
  rope (normed (fun e => Z m c b s ⟨1536 + (x.val / 64 * 64 + e.val), by omega⟩) (fun e => Gk m c (ValueIdx.ix1 e))) (fun p => Cs m c (ValueIdx.ix2 s p)) (fun p => Sn m c (ValueIdx.ix2 s p))
    ⟨x.val % 64, by omega⟩
def colV (b : Fin 4) (s : Fin 8192) (x : Fin 128) : EReal := Z m c b s ⟨1664 + x.val, by omega⟩

/-- An array of a function of batch, row and column. -/
def wide (f : Fin 4 → Fin 8192 → Fin 512 → EReal) : S4x8192x512.Idx → EReal := fun i => f (i 0) (i 1) (i 2)
def thin (f : Fin 4 → Fin 8192 → Fin 128 → EReal) : S4x8192x128.Idx → EReal := fun i => f (i 0) (i 1) (i 2)

/-! ## The tiles -/

/-- A window's tile of the blocks at a grid point. -/
abbrev tile10 (t : Fin cfg0.N) := out0_10 (F := Ideal) (iblk m c 0 t) (iblk m c 1 t) (iblk m c 2 t) (iblk m c 3 t) (iblk m c 4 t) (iblk m c 5 t) (iblk m c 6 t) (iblk m c 7 t) (iblk m c 8 t) (iblk m c 9 t)
abbrev tile11 (t : Fin cfg0.N) := out0_11 (F := Ideal) (iblk m c 0 t) (iblk m c 1 t) (iblk m c 2 t) (iblk m c 3 t) (iblk m c 4 t) (iblk m c 5 t) (iblk m c 6 t) (iblk m c 7 t) (iblk m c 8 t) (iblk m c 9 t)
abbrev tile12 (t : Fin cfg0.N) := out0_12 (F := Ideal) (iblk m c 0 t) (iblk m c 1 t) (iblk m c 2 t) (iblk m c 3 t) (iblk m c 4 t) (iblk m c 5 t) (iblk m c 6 t) (iblk m c 7 t) (iblk m c 8 t) (iblk m c 9 t)
abbrev tile13 (t : Fin cfg0.N) := out0_13 (F := Ideal) (iblk m c 0 t) (iblk m c 1 t) (iblk m c 2 t) (iblk m c 3 t) (iblk m c 4 t) (iblk m c 5 t) (iblk m c 6 t) (iblk m c 7 t) (iblk m c 8 t) (iblk m c 9 t)
abbrev tile14 (t : Fin cfg0.N) := out0_14 (F := Ideal) (iblk m c 0 t) (iblk m c 1 t) (iblk m c 2 t) (iblk m c 3 t) (iblk m c 4 t) (iblk m c 5 t) (iblk m c 6 t) (iblk m c 7 t) (iblk m c 8 t) (iblk m c 9 t)

theorem tile10_at (t : Fin cfg0.N) (r x : Fin 512) : tile10 m c t (ValueIdx.ix3 0 r x) = colA m c (bAt t) (row t r) x :=
  (congrFun (out10_eq _ _ _ _ _ _ _ _ _ _) _).trans ((pay3_at _ _ _ _ _ r x).trans (tileZ_at m c t r _))

theorem tile11_at (t : Fin cfg0.N) (r x : Fin 512) : tile11 m c t (ValueIdx.ix3 0 r x) = colG m c (bAt t) (row t r) x :=
  (congrFun (out11_eq _ _ _ _ _ _ _ _ _ _) _).trans ((pay5_at _ _ _ _ _ r x).trans (tileZ_at m c t r _))

theorem tile14_at (t : Fin cfg0.N) (r : Fin 512) (x : Fin 128) : tile14 m c t (ValueIdx.ix3 0 r x) = colV m c (bAt t) (row t r) x :=
  (congrFun (out14_eq _ _ _ _ _ _ _ _ _ _) _).trans ((pay1_at _ r x).trans (tileZ_at m c t r _))

variable {m c} in
theorem tile13_at (h : Fin4 m c) (t : Fin cfg0.N) (r : Fin 512) (x : Fin 128) : tile13 m c t (ValueIdx.ix3 0 r x) = outColK m c (bAt t) (row t r) x := by
  refine (congrFun (out13_eq _ _ _ _ _ _ _ _ _ _) _).trans ((tileK_at _ _ _ _ _ r x).trans ?_)
  have hz : (fun d => (tileZ m c t (ValueIdx.ix2 r (colK d)) : EReal)) = fun d => Z m c (bAt t) (row t r) (colK d) := funext fun d => tileZ_at m c t r _
  refine (group_eq (iblk7 m c t) (fun d => Z m c (bAt t) (row t r) (colK d)) (fun d => Z_num h _ _ _) (fun e => Gk m c (ValueIdx.ix1 e))
    (fun p => Cs m c (ValueIdx.ix2 (row t r) p)) (fun p => Sn m c (ValueIdx.ix2 (row t r) p)) (fun l => normK (tileZ m c t) (iblk m c 6 t) (iblk m c 7 t) (ValueIdx.ix2 r l))
    (fun l => (iblk m c 8 t : S512x128.Idx → EReal) (ValueIdx.ix2 r l)) (fun l => (iblk m c 9 t : S512x128.Idx → EReal) (ValueIdx.ix2 r l))
    (fun l => ?_) (fun l => iblk8 m c t r l) (fun l => iblk9 m c t r l) x).trans rfl
  refine (normK_at (tileZ m c t) (iblk m c 7 t) (iblk m c 6 t) r l).trans ?_
  rw [hz]
  exact congrArg₂ (fun u v : EReal => u * _ * v) (tileZ_at m c t r _) (iblk6 m c t l)

variable {m c} in
theorem tile12_at (h : Fin4 m c) (t : Fin cfg0.N) (r x : Fin 512) : tile12 m c t (ValueIdx.ix3 0 r x) = outColQ m c (bAt t) (row t r) x := by
  obtain ⟨q, l, rfl⟩ : ∃ (q : Fin 4) (l : Fin 128), x = ⟨q.val * 128 + l.val, by omega⟩ :=
    ⟨⟨x.val / 128, by omega⟩, ⟨x.val % 128, by omega⟩, Fin.ext (show x.val = x.val / 128 * 128 + x.val % 128 by omega)⟩
  refine (congrFun (out12_eq _ _ _ _ _ _ _ _ _ _) _).trans ((tileQ_at _ _ _ _ _ r q l).trans ?_)
  have hz : (fun d => (tileZ m c t (ValueIdx.ix2 r (colQ q d)) : EReal)) = fun d => Z m c (bAt t) (row t r) (colQ q d) := funext fun d => tileZ_at m c t r _
  unfold outColQ
  refine congrArg (fun u : EReal => u * cScale) ?_
  refine (group_eq (iblk7 m c t) (fun d => Z m c (bAt t) (row t r) (colQ q d)) (fun d => Z_num h _ _ _) (fun e => Gq m c (ValueIdx.ix1 e))
    (fun p => Cs m c (ValueIdx.ix2 (row t r) p)) (fun p => Sn m c (ValueIdx.ix2 (row t r) p))
    (fun l => normQ (tileZ m c t) (iblk m c 5 t) (iblk m c 7 t) (ValueIdx.ix2 r ⟨q.val * 128 + l.val, by omega⟩))
    (fun l => (iblk m c 8 t : S512x128.Idx → EReal) (ValueIdx.ix2 r l)) (fun l => (iblk m c 9 t : S512x128.Idx → EReal) (ValueIdx.ix2 r l))
    (fun l => ?_) (fun l => iblk8 m c t r l) (fun l => iblk9 m c t r l) l).trans ?_
  · refine (normQ_at (tileZ m c t) (iblk m c 7 t) (iblk m c 5 t) r q l).trans ?_
    rw [hz]
    refine congrArg₂ (fun u v : EReal => u * _ * v) (tileZ_at m c t r _) ((iblk5 m c t _).trans ?_)
    exact congrArg (fun e : Fin 64 => Gq m c (ValueIdx.ix1 e)) (Fin.ext (show (q.val * 128 + l.val) % 64 = l.val % 64 by omega))
  · have he : coL l = (⟨(q.val * 128 + l.val) % 64, by omega⟩ : Fin 64) := Fin.ext (show l.val % 64 = (q.val * 128 + l.val) % 64 by omega)
    rw [he]
    refine congrArg (fun f : Fin 64 → EReal => rope (normed f _) _ _ _) (funext fun e => congrArg (Z m c (bAt t) (row t r)) (Fin.ext ?_))
    show 1024 + (q.val * 128 + (l.val / 64 * 64 + e.val)) = 1024 + ((q.val * 128 + l.val) / 64 * 64 + e.val)
    omega

/-! ## The arrays -/

/-- The point of a batch and a block of rows. -/
def pt (b : Fin 4) (i : Fin 16) : Fin cfg0.N := ⟨b.val * 16 + i.val, by show _ < 64; omega⟩

theorem pt_facts : ∀ (b : Fin 4) (i : Fin 16), bAt (pt b i) = b ∧ iAt (pt b i) = i := by decide

theorem pt_row (b : Fin 4) (s : Fin 8192) : bAt (pt b ⟨s.val / 512, by omega⟩) = b ∧ row (pt b ⟨s.val / 512, by omega⟩) ⟨s.val % 512, by omega⟩ = s := by
  obtain ⟨h1, h2⟩ := pt_facts b ⟨s.val / 512, by omega⟩
  refine ⟨h1, Fin.ext ?_⟩
  unfold row
  simp only [h2]
  omega

theorem emb10 (t : Fin cfg0.N) (r : Fin 512) (x : Fin 512) :
    ((cfg0.win 10).blk t).view.emb (ValueIdx.ix3 0 r x : S1x512x512.Idx) = (ValueIdx.ix3 (bAt t) (row t r) x : S4x8192x512.Idx) := by
  blk_ext [idxO t, row]

theorem read10 (t : Fin cfg0.N) (y : S1x512x512.Idx) : (tile10 m c t) y = wide (colA m c) (((cfg0.win 10).blk t).view.emb y) := by
  obtain ⟨r, e, rfl⟩ : ∃ (r : Fin 512) (e : Fin 512), y = ValueIdx.ix3 0 r e :=
    ⟨y 1, y 2, by funext a; fin_cases a; exacts [Subsingleton.elim (α := Fin 1) _ _, rfl, rfl]⟩
  exact (tile10_at m c t r e).trans (congrArg (wide (colA m c)) (emb10 t r e)).symm

set_option maxRecDepth 16384 in
theorem arr10 : (dats m 0 c).arrAt 10 cfg0.N = wide (colA m c) := by
  refine (dats m 0 c).arrAt_eq_of_cover 10 (wide (colA m c)) (fun t _ => ?_) fun i => ?_
  · rw [Value.flushed10]
    exact funext fun y => read10 m c t y
  · obtain ⟨b, s, x, rfl⟩ : ∃ (b : Fin 4) (s : Fin 8192) (x : Fin 512), i = (ValueIdx.ix3 b s x : S4x8192x512.Idx) :=
      ⟨(i : S4x8192x512.Idx) 0, (i : S4x8192x512.Idx) 1, (i : S4x8192x512.Idx) 2, by funext a; fin_cases a <;> rfl⟩
    refine ⟨pt b ⟨s.val / 512, by omega⟩, flush0_10 _, ?_⟩
    have he := emb10 (pt b ⟨s.val / 512, by omega⟩) ⟨s.val % 512, by omega⟩ x
    have hx : (ValueIdx.ix3 (bAt (pt b ⟨s.val / 512, by omega⟩)) (row (pt b ⟨s.val / 512, by omega⟩) ⟨s.val % 512, by omega⟩) x : S4x8192x512.Idx)
        = ValueIdx.ix3 b s x := by
      rw [(pt_row b s).1, (pt_row b s).2]
    exact Finset.mem_map.mpr ⟨_, Finset.mem_univ _, he.trans hx⟩

theorem emb11 (t : Fin cfg0.N) (r : Fin 512) (x : Fin 512) :
    ((cfg0.win 11).blk t).view.emb (ValueIdx.ix3 0 r x : S1x512x512.Idx) = (ValueIdx.ix3 (bAt t) (row t r) x : S4x8192x512.Idx) := by
  blk_ext [idxO t, row]

theorem read11 (t : Fin cfg0.N) (y : S1x512x512.Idx) : (tile11 m c t) y = wide (colG m c) (((cfg0.win 11).blk t).view.emb y) := by
  obtain ⟨r, e, rfl⟩ : ∃ (r : Fin 512) (e : Fin 512), y = ValueIdx.ix3 0 r e :=
    ⟨y 1, y 2, by funext a; fin_cases a; exacts [Subsingleton.elim (α := Fin 1) _ _, rfl, rfl]⟩
  exact (tile11_at m c t r e).trans (congrArg (wide (colG m c)) (emb11 t r e)).symm

set_option maxRecDepth 16384 in
theorem arr11 : (dats m 0 c).arrAt 11 cfg0.N = wide (colG m c) := by
  refine (dats m 0 c).arrAt_eq_of_cover 11 (wide (colG m c)) (fun t _ => ?_) fun i => ?_
  · rw [Value.flushed11]
    exact funext fun y => read11 m c t y
  · obtain ⟨b, s, x, rfl⟩ : ∃ (b : Fin 4) (s : Fin 8192) (x : Fin 512), i = (ValueIdx.ix3 b s x : S4x8192x512.Idx) :=
      ⟨(i : S4x8192x512.Idx) 0, (i : S4x8192x512.Idx) 1, (i : S4x8192x512.Idx) 2, by funext a; fin_cases a <;> rfl⟩
    refine ⟨pt b ⟨s.val / 512, by omega⟩, flush0_11 _, ?_⟩
    have he := emb11 (pt b ⟨s.val / 512, by omega⟩) ⟨s.val % 512, by omega⟩ x
    have hx : (ValueIdx.ix3 (bAt (pt b ⟨s.val / 512, by omega⟩)) (row (pt b ⟨s.val / 512, by omega⟩) ⟨s.val % 512, by omega⟩) x : S4x8192x512.Idx)
        = ValueIdx.ix3 b s x := by
      rw [(pt_row b s).1, (pt_row b s).2]
    exact Finset.mem_map.mpr ⟨_, Finset.mem_univ _, he.trans hx⟩

theorem emb12 (t : Fin cfg0.N) (r : Fin 512) (x : Fin 512) :
    ((cfg0.win 12).blk t).view.emb (ValueIdx.ix3 0 r x : S1x512x512.Idx) = (ValueIdx.ix3 (bAt t) (row t r) x : S4x8192x512.Idx) := by
  blk_ext [idxO t, row]

theorem read12 (h : Fin4 m c) (t : Fin cfg0.N) (y : S1x512x512.Idx) : (tile12 m c t) y = wide (outColQ m c) (((cfg0.win 12).blk t).view.emb y) := by
  obtain ⟨r, e, rfl⟩ : ∃ (r : Fin 512) (e : Fin 512), y = ValueIdx.ix3 0 r e :=
    ⟨y 1, y 2, by funext a; fin_cases a; exacts [Subsingleton.elim (α := Fin 1) _ _, rfl, rfl]⟩
  exact (tile12_at h t r e).trans (congrArg (wide (outColQ m c)) (emb12 t r e)).symm

set_option maxRecDepth 16384 in
theorem arr12 (h : Fin4 m c) : (dats m 0 c).arrAt 12 cfg0.N = wide (outColQ m c) := by
  refine (dats m 0 c).arrAt_eq_of_cover 12 (wide (outColQ m c)) (fun t _ => ?_) fun i => ?_
  · rw [Value.flushed12]
    exact funext fun y => read12 m c h t y
  · obtain ⟨b, s, x, rfl⟩ : ∃ (b : Fin 4) (s : Fin 8192) (x : Fin 512), i = (ValueIdx.ix3 b s x : S4x8192x512.Idx) :=
      ⟨(i : S4x8192x512.Idx) 0, (i : S4x8192x512.Idx) 1, (i : S4x8192x512.Idx) 2, by funext a; fin_cases a <;> rfl⟩
    refine ⟨pt b ⟨s.val / 512, by omega⟩, flush0_12 _, ?_⟩
    have he := emb12 (pt b ⟨s.val / 512, by omega⟩) ⟨s.val % 512, by omega⟩ x
    have hx : (ValueIdx.ix3 (bAt (pt b ⟨s.val / 512, by omega⟩)) (row (pt b ⟨s.val / 512, by omega⟩) ⟨s.val % 512, by omega⟩) x : S4x8192x512.Idx)
        = ValueIdx.ix3 b s x := by
      rw [(pt_row b s).1, (pt_row b s).2]
    exact Finset.mem_map.mpr ⟨_, Finset.mem_univ _, he.trans hx⟩

theorem emb13 (t : Fin cfg0.N) (r : Fin 512) (x : Fin 128) :
    ((cfg0.win 13).blk t).view.emb (ValueIdx.ix3 0 r x : S1x512x128.Idx) = (ValueIdx.ix3 (bAt t) (row t r) x : S4x8192x128.Idx) := by
  blk_ext [idxO t, row]

theorem read13 (h : Fin4 m c) (t : Fin cfg0.N) (y : S1x512x128.Idx) : (tile13 m c t) y = thin (outColK m c) (((cfg0.win 13).blk t).view.emb y) := by
  obtain ⟨r, e, rfl⟩ : ∃ (r : Fin 512) (e : Fin 128), y = ValueIdx.ix3 0 r e :=
    ⟨y 1, y 2, by funext a; fin_cases a; exacts [Subsingleton.elim (α := Fin 1) _ _, rfl, rfl]⟩
  exact (tile13_at h t r e).trans (congrArg (thin (outColK m c)) (emb13 t r e)).symm

set_option maxRecDepth 16384 in
theorem arr13 (h : Fin4 m c) : (dats m 0 c).arrAt 13 cfg0.N = thin (outColK m c) := by
  refine (dats m 0 c).arrAt_eq_of_cover 13 (thin (outColK m c)) (fun t _ => ?_) fun i => ?_
  · rw [Value.flushed13]
    exact funext fun y => read13 m c h t y
  · obtain ⟨b, s, x, rfl⟩ : ∃ (b : Fin 4) (s : Fin 8192) (x : Fin 128), i = (ValueIdx.ix3 b s x : S4x8192x128.Idx) :=
      ⟨(i : S4x8192x128.Idx) 0, (i : S4x8192x128.Idx) 1, (i : S4x8192x128.Idx) 2, by funext a; fin_cases a <;> rfl⟩
    refine ⟨pt b ⟨s.val / 512, by omega⟩, flush0_13 _, ?_⟩
    have he := emb13 (pt b ⟨s.val / 512, by omega⟩) ⟨s.val % 512, by omega⟩ x
    have hx : (ValueIdx.ix3 (bAt (pt b ⟨s.val / 512, by omega⟩)) (row (pt b ⟨s.val / 512, by omega⟩) ⟨s.val % 512, by omega⟩) x : S4x8192x128.Idx)
        = ValueIdx.ix3 b s x := by
      rw [(pt_row b s).1, (pt_row b s).2]
    exact Finset.mem_map.mpr ⟨_, Finset.mem_univ _, he.trans hx⟩

theorem emb14 (t : Fin cfg0.N) (r : Fin 512) (x : Fin 128) :
    ((cfg0.win 14).blk t).view.emb (ValueIdx.ix3 0 r x : S1x512x128.Idx) = (ValueIdx.ix3 (bAt t) (row t r) x : S4x8192x128.Idx) := by
  blk_ext [idxO t, row]

theorem read14 (t : Fin cfg0.N) (y : S1x512x128.Idx) : (tile14 m c t) y = thin (colV m c) (((cfg0.win 14).blk t).view.emb y) := by
  obtain ⟨r, e, rfl⟩ : ∃ (r : Fin 512) (e : Fin 128), y = ValueIdx.ix3 0 r e :=
    ⟨y 1, y 2, by funext a; fin_cases a; exacts [Subsingleton.elim (α := Fin 1) _ _, rfl, rfl]⟩
  exact (tile14_at m c t r e).trans (congrArg (thin (colV m c)) (emb14 t r e)).symm

set_option maxRecDepth 16384 in
theorem arr14 : (dats m 0 c).arrAt 14 cfg0.N = thin (colV m c) := by
  refine (dats m 0 c).arrAt_eq_of_cover 14 (thin (colV m c)) (fun t _ => ?_) fun i => ?_
  · rw [Value.flushed14]
    exact funext fun y => read14 m c t y
  · obtain ⟨b, s, x, rfl⟩ : ∃ (b : Fin 4) (s : Fin 8192) (x : Fin 128), i = (ValueIdx.ix3 b s x : S4x8192x128.Idx) :=
      ⟨(i : S4x8192x128.Idx) 0, (i : S4x8192x128.Idx) 1, (i : S4x8192x128.Idx) 2, by funext a; fin_cases a <;> rfl⟩
    refine ⟨pt b ⟨s.val / 512, by omega⟩, flush0_14 _, ?_⟩
    have he := emb14 (pt b ⟨s.val / 512, by omega⟩) ⟨s.val % 512, by omega⟩ x
    have hx : (ValueIdx.ix3 (bAt (pt b ⟨s.val / 512, by omega⟩)) (row (pt b ⟨s.val / 512, by omega⟩) ⟨s.val % 512, by omega⟩) x : S4x8192x128.Idx)
        = ValueIdx.ix3 b s x := by
      rw [(pt_row b s).1, (pt_row b s).2]
    exact Finset.mem_map.mpr ⟨_, Finset.mem_univ _, he.trans hx⟩

end Cert.InProj

end
-- ==== Proof.ProjRef.lean ====
/-
  The input projection's reference over the ideal values, read at an index.
-/
module

public import proofs.«01_k».proof.Proof.Gen.Reference4Ideal.Run
public import proofs.«01_k».proof.Proof.ProjHead
public import Idealize.ShloMosaic.Lib.Pointwise

@[expose] public section

noncomputable section

namespace Cert.InProj.Ref

open Cert.Reference4Ideal Cert.Reference4Ideal.Gen
open Idealize.ShloMosaic Idealize.ShloMosaic.TcCoe Idealize.ShloMosaic.Tactic
open Idealize.SL.Sem

variable (a0 : FVec Ideal S4x8192x1024 .f32) (a1 a2 : FVec Ideal S4x1x1024 .f32) (a3 : FVec Ideal S1024 .f32) (a4 : FVec Ideal S1024x1792 .f32)
  (g5 g6 : FVec Ideal S64 .f32) (cs sn : FVec Ideal S8192x32 .f32)

/-- The product of the normalised and modulated rows. -/
def prod : FVec Ideal S4x8192x1792 .f32 :=
  Host.dotGeneral dot_S4x8192x1024_S1024x1792_S4x8192x1792_2_0_01_1_n_n none (addf (mulf (mulf (mulf a0
    (broadcastInDim S4x8192x1024 ![0, 1, 2] bcast_S4x8192x1_S4x8192x1024_0_1_2 (Host.rsqrt (addf (Host.divf (broadcastInDim S4x8192x1 ![0, 1] bcast_S4x8192_S4x8192x1_0_1
      (Host.reduceAdd (mulf a0 a0) (constant S_ .f32 0x00000000#32) reducesTo_S4x8192x1024_S4x8192_d2 h_S_)) (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 a3)))
    (broadcastInDim S4x8192x1024 ![0, 1, 2] bcast_S4x1x1024_S4x8192x1024_0_1_2 (addf (broadcastInDim S4x1x1024 ![] bcast_S_S4x1x1024 (constant S_ .f32 0x3F800000#32)) a1)))
    (broadcastInDim S4x8192x1024 ![0, 1, 2] bcast_S4x1x1024_S4x8192x1024_0_1_2 a2)) a4

theorem prod_at (b : Fin 4) (s : Fin 8192) (j : Fin 1792) : prod a0 a1 a2 a3 a4 (ValueIdx.ix3 b s j)
    = ∑ d : Fin 1024, modEl (fun d => a0 (ValueIdx.ix3 b s d)) (fun d => a3 (ValueIdx.ix1 d)) (fun d => a1 (ValueIdx.ix3 b 0 d)) (fun d => a2 (ValueIdx.ix3 b 0 d)) d
        * a4 (ValueIdx.ix2 d j) := by
  unfold prod modEl
  pointwise
  rfl

/-! ## The queries -/

/-- Their heads. -/
def heads8 (z : FVec Ideal S4x8192x1792 .f32) : FVec Ideal S4x8192x8x64 .f32 :=
  shapeCast S4x8192x8x64 (extractStridedSlice S4x8192x512 ![0, 0, 1024] z slices_S4x8192x1792_S4x8192x512_0_0_1024) shapeCasts_S4x8192x512_S4x8192x8x64

theorem heads8_at (z : FVec Ideal S4x8192x1792 .f32) (b : Fin 4) (s : Fin 8192) (h : Fin 8) (e : Fin 64) :
    heads8 z (ValueIdx.ix4 b s h e) = z (ValueIdx.ix3 b s ⟨1024 + (h.val * 64 + e.val), by omega⟩) := by
  unfold heads8
  pointwise
  rfl

/-- Normalised. -/
def norm8 (y : FVec Ideal S4x8192x8x64 .f32) (g : FVec Ideal S64 .f32) : FVec Ideal S4x8192x8x64 .f32 :=
  mulf (mulf y (broadcastInDim S4x8192x8x64 ![0, 1, 2, 3] bcast_S4x8192x8x1_S4x8192x8x64_0_1_2_3 (Host.rsqrt (addf (Host.divf
    (broadcastInDim S4x8192x8x1 ![0, 1, 2] bcast_S4x8192x8_S4x8192x8x1_0_1_2 (Host.reduceAdd (mulf y y) (constant S_ .f32 0x00000000#32) reducesTo_S4x8192x8x64_S4x8192x8_d3 h_S_))
    (broadcastInDim S4x8192x8x1 ![] bcast_S_S4x8192x8x1 (constant S_ .f32 0x42800000#32))) (broadcastInDim S4x8192x8x1 ![] bcast_S_S4x8192x8x1 (constant S_ .f32 0x358637BD#32))))))
    (broadcastInDim S4x8192x8x64 ![0, 1, 2, 3] bcast_S1x1x1x64_S4x8192x8x64_0_1_2_3 (broadcastInDim S1x1x1x64 ![3] bcast_S64_S1x1x1x64_3 g))

theorem norm8_at (y : FVec Ideal S4x8192x8x64 .f32) (g : FVec Ideal S64 .f32) (b : Fin 4) (s : Fin 8192) (h : Fin 8) (e : Fin 64) :
    norm8 y g (ValueIdx.ix4 b s h e) = normed (fun e => y (ValueIdx.ix4 b s h e)) (fun e => g (ValueIdx.ix1 e)) e := by
  unfold norm8 normed
  pointwise
  rfl

/-- The pairs turned, side by side. -/
def pairs8 (y : FVec Ideal S4x8192x8x64 .f32) (cs sn : FVec Ideal S8192x32 .f32) : FVec Ideal S4x8192x8x32x2 .f32 :=
  concatenate S4x8192x8x32x2 4 [⟨S4x8192x8x32x1, (broadcastInDim S4x8192x8x32x1 ![0, 1, 2, 3] bcast_S4x8192x8x32_S4x8192x8x32x1_0_1_2_3 (subf
      (mulf (Host.slice S4x8192x8x32 ![0, 0, 0, 0] ![1, 1, 1, 2] y slicesBy_S4x8192x8x64_S4x8192x8x32_0s1_0s1_0s1_0s2)
        (broadcastInDim S4x8192x8x32 ![0, 1, 2, 3] bcast_S1x8192x1x32_S4x8192x8x32_0_1_2_3 (broadcastInDim S1x8192x1x32 ![1, 3] bcast_S8192x32_S1x8192x1x32_1_3 cs)))
      (mulf (Host.slice S4x8192x8x32 ![0, 0, 0, 1] ![1, 1, 1, 2] y slicesBy_S4x8192x8x64_S4x8192x8x32_0s1_0s1_0s1_1s2)
        (broadcastInDim S4x8192x8x32 ![0, 1, 2, 3] bcast_S1x8192x1x32_S4x8192x8x32_0_1_2_3 (broadcastInDim S1x8192x1x32 ![1, 3] bcast_S8192x32_S1x8192x1x32_1_3 sn)))) : FVec Ideal S4x8192x8x32x1 .f32)⟩,
    ⟨S4x8192x8x32x1, (broadcastInDim S4x8192x8x32x1 ![0, 1, 2, 3] bcast_S4x8192x8x32_S4x8192x8x32x1_0_1_2_3 (addf
      (mulf (Host.slice S4x8192x8x32 ![0, 0, 0, 0] ![1, 1, 1, 2] y slicesBy_S4x8192x8x64_S4x8192x8x32_0s1_0s1_0s1_0s2)
        (broadcastInDim S4x8192x8x32 ![0, 1, 2, 3] bcast_S1x8192x1x32_S4x8192x8x32_0_1_2_3 (broadcastInDim S1x8192x1x32 ![1, 3] bcast_S8192x32_S1x8192x1x32_1_3 sn)))
      (mulf (Host.slice S4x8192x8x32 ![0, 0, 0, 1] ![1, 1, 1, 2] y slicesBy_S4x8192x8x64_S4x8192x8x32_0s1_0s1_0s1_1s2)
        (broadcastInDim S4x8192x8x32 ![0, 1, 2, 3] bcast_S1x8192x1x32_S4x8192x8x32_0_1_2_3 (broadcastInDim S1x8192x1x32 ![1, 3] bcast_S8192x32_S1x8192x1x32_1_3 cs)))) : FVec Ideal S4x8192x8x32x1 .f32)⟩]
    concatenates_S4x8192x8x32x1_S4x8192x8x32x1_S4x8192x8x32x2_d4

theorem pairs8_at (y : FVec Ideal S4x8192x8x64 .f32) (b : Fin 4) (s : Fin 8192) (h : Fin 8) (p : Fin 32) (t : Fin 2) :
    pairs8 y cs sn (ValueIdx.ix5 b s h p t) = pair (fun e => y (ValueIdx.ix4 b s h e)) (fun p => cs (ValueIdx.ix2 s p)) (fun p => sn (ValueIdx.ix2 s p)) p t := by
  unfold pairs8 pair
  fin_cases t
  all_goals
    pointwise
    rfl

/-- The pairs in the heads' columns. -/
def flat8 (w : FVec Ideal S4x8192x8x32x2 .f32) : FVec Ideal S4x8192x8x64 .f32 := shapeCast S4x8192x8x64 w shapeCasts_S4x8192x8x32x2_S4x8192x8x64

theorem flat8_at (w : FVec Ideal S4x8192x8x32x2 .f32) (b : Fin 4) (s : Fin 8192) (h : Fin 8) (e : Fin 64) :
    flat8 w (ValueIdx.ix4 b s h e) = w (ValueIdx.ix5 b s h ⟨e.val / 2, by omega⟩ ⟨e.val % 2, by omega⟩) := by
  unfold flat8
  pointwise
  rfl

/-- A head's element, turned, of the product. -/
theorem head8_at (z : FVec Ideal S4x8192x1792 .f32) (g : FVec Ideal S64 .f32) (b : Fin 4) (s : Fin 8192) (h : Fin 8) (e : Fin 64) :
    flat8 (pairs8 (norm8 (heads8 z) g) cs sn) (ValueIdx.ix4 b s h e)
      = rope (normed (fun e => z (ValueIdx.ix3 b s ⟨1024 + (h.val * 64 + e.val), by omega⟩)) (fun e => g (ValueIdx.ix1 e)))
          (fun p => cs (ValueIdx.ix2 s p)) (fun p => sn (ValueIdx.ix2 s p)) e := by
  refine (flat8_at _ b s h e).trans ((pairs8_at cs sn _ b s h _ _).trans ?_)
  unfold rope
  refine congrArg (fun f : Fin 64 → EReal => pair f _ _ _ _) (funext fun e => (norm8_at _ g b s h e).trans ?_)
  exact congrArg (fun f : Fin 64 → EReal => normed f _ e) (funext fun e => heads8_at z b s h e)

/-! ## The keys -/

/-- Their heads. -/
def heads2 (z : FVec Ideal S4x8192x1792 .f32) : FVec Ideal S4x8192x2x64 .f32 :=
  shapeCast S4x8192x2x64 (extractStridedSlice S4x8192x128 ![0, 0, 1536] z slices_S4x8192x1792_S4x8192x128_0_0_1536) shapeCasts_S4x8192x128_S4x8192x2x64

theorem heads2_at (z : FVec Ideal S4x8192x1792 .f32) (b : Fin 4) (s : Fin 8192) (h : Fin 2) (e : Fin 64) :
    heads2 z (ValueIdx.ix4 b s h e) = z (ValueIdx.ix3 b s ⟨1536 + (h.val * 64 + e.val), by omega⟩) := by
  unfold heads2
  pointwise
  rfl

/-- Normalised. -/
def norm2 (y : FVec Ideal S4x8192x2x64 .f32) (g : FVec Ideal S64 .f32) : FVec Ideal S4x8192x2x64 .f32 :=
  mulf (mulf y (broadcastInDim S4x8192x2x64 ![0, 1, 2, 3] bcast_S4x8192x2x1_S4x8192x2x64_0_1_2_3 (Host.rsqrt (addf (Host.divf
    (broadcastInDim S4x8192x2x1 ![0, 1, 2] bcast_S4x8192x2_S4x8192x2x1_0_1_2 (Host.reduceAdd (mulf y y) (constant S_ .f32 0x00000000#32) reducesTo_S4x8192x2x64_S4x8192x2_d3 h_S_))
    (broadcastInDim S4x8192x2x1 ![] bcast_S_S4x8192x2x1 (constant S_ .f32 0x42800000#32))) (broadcastInDim S4x8192x2x1 ![] bcast_S_S4x8192x2x1 (constant S_ .f32 0x358637BD#32))))))
    (broadcastInDim S4x8192x2x64 ![0, 1, 2, 3] bcast_S1x1x1x64_S4x8192x2x64_0_1_2_3 (broadcastInDim S1x1x1x64 ![3] bcast_S64_S1x1x1x64_3 g))

theorem norm2_at (y : FVec Ideal S4x8192x2x64 .f32) (g : FVec Ideal S64 .f32) (b : Fin 4) (s : Fin 8192) (h : Fin 2) (e : Fin 64) :
    norm2 y g (ValueIdx.ix4 b s h e) = normed (fun e => y (ValueIdx.ix4 b s h e)) (fun e => g (ValueIdx.ix1 e)) e := by
  unfold norm2 normed
  pointwise
  rfl

/-- The pairs turned, side by side. -/
def pairs2 (y : FVec Ideal S4x8192x2x64 .f32) (cs sn : FVec Ideal S8192x32 .f32) : FVec Ideal S4x8192x2x32x2 .f32 :=
  concatenate S4x8192x2x32x2 4 [⟨S4x8192x2x32x1, (broadcastInDim S4x8192x2x32x1 ![0, 1, 2, 3] bcast_S4x8192x2x32_S4x8192x2x32x1_0_1_2_3 (subf
      (mulf (Host.slice S4x8192x2x32 ![0, 0, 0, 0] ![1, 1, 1, 2] y slicesBy_S4x8192x2x64_S4x8192x2x32_0s1_0s1_0s1_0s2)
        (broadcastInDim S4x8192x2x32 ![0, 1, 2, 3] bcast_S1x8192x1x32_S4x8192x2x32_0_1_2_3 (broadcastInDim S1x8192x1x32 ![1, 3] bcast_S8192x32_S1x8192x1x32_1_3 cs)))
      (mulf (Host.slice S4x8192x2x32 ![0, 0, 0, 1] ![1, 1, 1, 2] y slicesBy_S4x8192x2x64_S4x8192x2x32_0s1_0s1_0s1_1s2)
        (broadcastInDim S4x8192x2x32 ![0, 1, 2, 3] bcast_S1x8192x1x32_S4x8192x2x32_0_1_2_3 (broadcastInDim S1x8192x1x32 ![1, 3] bcast_S8192x32_S1x8192x1x32_1_3 sn)))) : FVec Ideal S4x8192x2x32x1 .f32)⟩,
    ⟨S4x8192x2x32x1, (broadcastInDim S4x8192x2x32x1 ![0, 1, 2, 3] bcast_S4x8192x2x32_S4x8192x2x32x1_0_1_2_3 (addf
      (mulf (Host.slice S4x8192x2x32 ![0, 0, 0, 0] ![1, 1, 1, 2] y slicesBy_S4x8192x2x64_S4x8192x2x32_0s1_0s1_0s1_0s2)
        (broadcastInDim S4x8192x2x32 ![0, 1, 2, 3] bcast_S1x8192x1x32_S4x8192x2x32_0_1_2_3 (broadcastInDim S1x8192x1x32 ![1, 3] bcast_S8192x32_S1x8192x1x32_1_3 sn)))
      (mulf (Host.slice S4x8192x2x32 ![0, 0, 0, 1] ![1, 1, 1, 2] y slicesBy_S4x8192x2x64_S4x8192x2x32_0s1_0s1_0s1_1s2)
        (broadcastInDim S4x8192x2x32 ![0, 1, 2, 3] bcast_S1x8192x1x32_S4x8192x2x32_0_1_2_3 (broadcastInDim S1x8192x1x32 ![1, 3] bcast_S8192x32_S1x8192x1x32_1_3 cs)))) : FVec Ideal S4x8192x2x32x1 .f32)⟩]
    concatenates_S4x8192x2x32x1_S4x8192x2x32x1_S4x8192x2x32x2_d4

theorem pairs2_at (y : FVec Ideal S4x8192x2x64 .f32) (b : Fin 4) (s : Fin 8192) (h : Fin 2) (p : Fin 32) (t : Fin 2) :
    pairs2 y cs sn (ValueIdx.ix5 b s h p t) = pair (fun e => y (ValueIdx.ix4 b s h e)) (fun p => cs (ValueIdx.ix2 s p)) (fun p => sn (ValueIdx.ix2 s p)) p t := by
  unfold pairs2 pair
  fin_cases t
  all_goals
    pointwise
    rfl

/-- The pairs in the heads' columns. -/
def flat2 (w : FVec Ideal S4x8192x2x32x2 .f32) : FVec Ideal S4x8192x2x64 .f32 := shapeCast S4x8192x2x64 w shapeCasts_S4x8192x2x32x2_S4x8192x2x64

theorem flat2_at (w : FVec Ideal S4x8192x2x32x2 .f32) (b : Fin 4) (s : Fin 8192) (h : Fin 2) (e : Fin 64) :
    flat2 w (ValueIdx.ix4 b s h e) = w (ValueIdx.ix5 b s h ⟨e.val / 2, by omega⟩ ⟨e.val % 2, by omega⟩) := by
  unfold flat2
  pointwise
  rfl

/-- A head's element, turned, of the product. -/
theorem head2_at (z : FVec Ideal S4x8192x1792 .f32) (g : FVec Ideal S64 .f32) (b : Fin 4) (s : Fin 8192) (h : Fin 2) (e : Fin 64) :
    flat2 (pairs2 (norm2 (heads2 z) g) cs sn) (ValueIdx.ix4 b s h e)
      = rope (normed (fun e => z (ValueIdx.ix3 b s ⟨1536 + (h.val * 64 + e.val), by omega⟩)) (fun e => g (ValueIdx.ix1 e)))
          (fun p => cs (ValueIdx.ix2 s p)) (fun p => sn (ValueIdx.ix2 s p)) e := by
  refine (flat2_at _ b s h e).trans ((pairs2_at cs sn _ b s h _ _).trans ?_)
  unfold rope
  refine congrArg (fun f : Fin 64 → EReal => pair f _ _ _ _) (funext fun e => (norm2_at _ g b s h e).trans ?_)
  exact congrArg (fun f : Fin 64 → EReal => normed f _ e) (funext fun e => heads2_at z b s h e)

/-! ## The results -/

def resA (z : FVec Ideal S4x8192x1792 .f32) : FVec Ideal S4x8192x512 .f32 := extractStridedSlice S4x8192x512 ![0, 0, 0] z slices_S4x8192x1792_S4x8192x512_0_0_0
def resG (z : FVec Ideal S4x8192x1792 .f32) : FVec Ideal S4x8192x512 .f32 := extractStridedSlice S4x8192x512 ![0, 0, 512] z slices_S4x8192x1792_S4x8192x512_0_0_512
def resQ (y : FVec Ideal S4x8192x8x64 .f32) : FVec Ideal S4x8192x512 .bf16 :=
  truncf .bf16 (shapeCast S4x8192x512 (mulf y (broadcastInDim S4x8192x8x64 ![] bcast_S_S4x8192x8x64 (constant S_ .f32 0x3E000000#32))) shapeCasts_S4x8192x8x64_S4x8192x512) bitsLt_bf16_f32
def resK (y : FVec Ideal S4x8192x2x64 .f32) : FVec Ideal S4x8192x128 .bf16 :=
  truncf .bf16 (shapeCast S4x8192x128 y shapeCasts_S4x8192x2x64_S4x8192x128) bitsLt_bf16_f32
def resV (z : FVec Ideal S4x8192x1792 .f32) : FVec Ideal S4x8192x128 .bf16 :=
  truncf .bf16 (extractStridedSlice S4x8192x128 ![0, 0, 1664] z slices_S4x8192x1792_S4x8192x128_0_0_1664) bitsLt_bf16_f32

theorem resA_at (z : FVec Ideal S4x8192x1792 .f32) (b : Fin 4) (s : Fin 8192) (x : Fin 512) :
    resA z (ValueIdx.ix3 b s x) = z (ValueIdx.ix3 b s ⟨x.val, by omega⟩) := by
  unfold resA
  pointwise
  rfl

theorem resG_at (z : FVec Ideal S4x8192x1792 .f32) (b : Fin 4) (s : Fin 8192) (x : Fin 512) :
    resG z (ValueIdx.ix3 b s x) = z (ValueIdx.ix3 b s ⟨512 + x.val, by omega⟩) := by
  unfold resG
  pointwise
  rfl

theorem resV_at (z : FVec Ideal S4x8192x1792 .f32) (b : Fin 4) (s : Fin 8192) (x : Fin 128) :
    resV z (ValueIdx.ix3 b s x) = z (ValueIdx.ix3 b s ⟨1664 + x.val, by omega⟩) := by
  unfold resV
  pointwise
  rfl

theorem resQ_at (y : FVec Ideal S4x8192x8x64 .f32) (b : Fin 4) (s : Fin 8192) (x : Fin 512) :
    resQ y (ValueIdx.ix3 b s x) = (y (ValueIdx.ix4 b s ⟨x.val / 64, by omega⟩ ⟨x.val % 64, by omega⟩) : EReal) * cScale := by
  unfold resQ
  pointwise
  rfl

theorem resK_at (y : FVec Ideal S4x8192x2x64 .f32) (b : Fin 4) (s : Fin 8192) (x : Fin 128) :
    resK y (ValueIdx.ix3 b s x) = y (ValueIdx.ix4 b s ⟨x.val / 64, by omega⟩ ⟨x.val % 64, by omega⟩) := by
  unfold resK
  pointwise
  rfl

variable (m : (ℓ : Loc nD τ sig) → Buf (Elt Ideal) ℓ) (c : Dev nD)

/-- The product of the arguments. -/
def argProd : FVec Ideal S4x8192x1792 .f32 := prod (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

set_option maxRecDepth 16384 in
theorem res_q : Value.res_main_v92 m c = resQ (flat8 (pairs8 (norm8 (heads8 (argProd m c)) (m ((c.tc : Thread nD τ).loc main_arg5)))
    (m ((c.tc : Thread nD τ).loc main_arg7)) (m ((c.tc : Thread nD τ).loc main_arg8)))) := rfl

set_option maxRecDepth 16384 in
theorem res_k : Value.res_main_v94 m c = resK (flat2 (pairs2 (norm2 (heads2 (argProd m c)) (m ((c.tc : Thread nD τ).loc main_arg6)))
    (m ((c.tc : Thread nD τ).loc main_arg7)) (m ((c.tc : Thread nD τ).loc main_arg8)))) := rfl

end Cert.InProj.Ref

end
-- ==== Proof.ProjEq.lean ====
/-
  The input projection's value claim: over the ideal values the kernel's five outputs are the reference's.
-/
module

public import proofs.«01_k».proof.Defs
public import proofs.«01_k».proof.Proof.ProjArr
public import proofs.«01_k».proof.Proof.ProjRef
public import proofs.«01_k».proof.Proof.Gen.Pre_finite_projection
public import Idealize.ShloMosaic.Lib.Quiescent
public import Idealize.ShloMosaic.Lib.Claim

@[expose] public section

noncomputable section

namespace Cert.InProj

open Cert.Kernel4Ideal Cert.Kernel4Ideal.Gen
open Idealize.ShloMosaic Idealize.ShloMosaic.TcCoe Idealize.ShloMosaic.Tactic
open Idealize.SL.Sem
open Cert.Moe (finite_of_all)

/-- The precondition, read back. -/
theorem finProj_of {a0 a1 a2 a3 a4 a5 a6 a7 a8} (h : Cert.Pre_finite_projection.fn (F := Ideal) a0 a1 a2 a3 a4 a5 a6 a7 a8 = fun _ => 1#1) : FinProj a0 a1 a2 a3 a4 := by
  have h := congrFun h (ValueIdx.ix0)
  have h23 := IntOp.andi_eq_one.1 h
  have h18 := IntOp.andi_eq_one.1 h23.1
  have h13 := IntOp.andi_eq_one.1 h18.1
  have h8 := IntOp.andi_eq_one.1 h13.1
  exact ⟨finite_of_all _ _ _ _ _ h8.1, finite_of_all _ _ _ _ _ h8.2, finite_of_all _ _ _ _ _ h13.2, finite_of_all _ _ _ _ _ h18.2, finite_of_all _ _ _ _ _ h23.2⟩

variable (m : (ℓ : Loc nD τ sig) → Buf (Elt Ideal) ℓ) (c : Dev nD)

/-- The reference's product of the kernel's arguments. -/
abbrev refZ : FVec Ideal Cert.Reference4Ideal.S4x8192x1792 .f32 := Ref.prod (X m c) (Sc m c) (Sh m c) (G m c) (W m c)

theorem refZ_at (b : Fin 4) (s : Fin 8192) (j : Fin 1792) : (refZ m c (ValueIdx.ix3 b s j) : EReal) = Z m c b s j := Ref.prod_at _ _ _ _ _ b s j

theorem idx_of {n : ℕ} (i : (⟨3, ![4, 8192, n]⟩ : Shape).Idx) : ∃ (b : Fin 4) (s : Fin 8192) (x : Fin n), i = ValueIdx.ix3 b s x :=
  ⟨i 0, i 1, i 2, by funext a; fin_cases a <;> rfl⟩

theorem a_eq : (Ref.resA (refZ m c) : S4x8192x512.Idx → EReal) = wide (colA m c) := by
  funext i
  obtain ⟨b, s, x, rfl⟩ := idx_of i
  exact (Ref.resA_at _ b s x).trans (refZ_at m c b s _)

theorem g_eq : (Ref.resG (refZ m c) : S4x8192x512.Idx → EReal) = wide (colG m c) := by
  funext i
  obtain ⟨b, s, x, rfl⟩ := idx_of i
  exact (Ref.resG_at _ b s x).trans (refZ_at m c b s _)

theorem v_eq : (Ref.resV (refZ m c) : S4x8192x128.Idx → EReal) = thin (colV m c) := by
  funext i
  obtain ⟨b, s, x, rfl⟩ := idx_of i
  exact (Ref.resV_at _ b s x).trans (refZ_at m c b s _)

theorem q_eq : (Ref.resQ (Ref.flat8 (Ref.pairs8 (Ref.norm8 (Ref.heads8 (refZ m c)) (Gq m c)) (Cs m c) (Sn m c))) : S4x8192x512.Idx → EReal) = wide (outColQ m c) := by
  funext i
  obtain ⟨b, s, x, rfl⟩ := idx_of i
  refine (Ref.resQ_at _ b s x).trans (congrArg (fun u : EReal => u * cScale) ((Ref.head8_at (Cs m c) (Sn m c) (refZ m c) (Gq m c) b s _ _).trans ?_))
  exact congrArg (fun f : Fin 64 → EReal => rope (normed f _) _ _ _) (funext fun e => refZ_at m c b s _)

theorem k_eq : (Ref.resK (Ref.flat2 (Ref.pairs2 (Ref.norm2 (Ref.heads2 (refZ m c)) (Gk m c)) (Cs m c) (Sn m c))) : S4x8192x128.Idx → EReal) = thin (outColK m c) := by
  funext i
  obtain ⟨b, s, x, rfl⟩ := idx_of i
  refine (Ref.resK_at _ b s x).trans ((Ref.head2_at (Cs m c) (Sn m c) (refZ m c) (Gk m c) b s _ _).trans ?_)
  exact congrArg (fun f : Fin 64 → EReal => rope (normed f _) _ _ _) (funext fun e => refZ_at m c b s _)

/-- The reference's frame. -/
theorem frame_reference : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

/-- Both programs end with the same results. -/
theorem algebraic : Cert.algebraic_Kernel4Ideal_Reference4Ideal_pre_finite_projection := fun m g m' g' hpre hargs => by
  refine ⟨fun c => wide (colA m c), fun c => wide (colG m c), fun c => wide (outColQ m c), fun c => thin (outColK m c), fun c => thin (colV m c), ?_, ?_⟩
  · refine (θ_run Cert.Kernel4Ideal.defs _ _).mono (fun _ h c => ?_) (Value.run_blocks m g)
    have hf : Fin4 m c := finProj_of (hpre c)
    obtain ⟨h0, h1, h2, h3, h4, hr⟩ := h c
    exact ⟨h0.trans (arr10 m c), h1.trans (arr11 m c), h2.trans (arr12 m c hf), h3.trans (arr13 m c hf), h4.trans (arr14 m c), hr⟩
  · refine (θ_run Cert.Reference4Ideal.defs _ _).mono (fun r h c => ?_) (Cert.Reference4Ideal.Value.run (F := Ideal) m' g')
    obtain ⟨h0, h1, h2, h3, h4, hr⟩ := h c
    clear h
    obtain ⟨e0, e1, e2, e3, e4, e5, e6, e7, e8⟩ := hargs c
    have hz : Ref.argProd m' c = refZ m c := by
      unfold Ref.argProd
      rw [e0, e1, e2, e3, e4]
    refine ⟨h0.trans ?_, h1.trans ?_, h2.trans ((Ref.res_q m' c).trans ?_), h3.trans ((Ref.res_k m' c).trans ?_), h4.trans ?_, hr⟩
    · show Ref.resA (Ref.argProd m' c) = _
      rw [hz]
      exact a_eq m c
    · show Ref.resG (Ref.argProd m' c) = _
      rw [hz]
      exact g_eq m c
    · rw [hz, e5, e7, e8]
      exact q_eq m c
    · rw [hz, e6, e7, e8]
      exact k_eq m c
    · show Ref.resV (Ref.argProd m' c) = _
      rw [hz]
      exact v_eq m c

end Cert.InProj

end
-- ==== Proof.RoRow.lean ====
/-
  The read-out's kernel, tile by tile, over the ideal values.
-/
module

public import proofs.«01_k».proof.Defs
public import proofs.«01_k».proof.Proof.ProjHead
public import proofs.«01_k».proof.Proof.Gen.Kernel5Ideal.Value

@[expose] public section

noncomputable section

namespace Cert.ReadOut

open Cert.Kernel5Ideal Cert.Kernel5Ideal.Gen
open Idealize.ShloMosaic Idealize.ShloMosaic.TcCoe Idealize.ShloMosaic.Tactic
open Cert.InProj (cHead cDim)

/-- The addend of the heads' norm. -/
abbrev cGn : EReal := Ideal.ofBits .f32 0x3A27C5AC#32

/-- The sum over a group's heads of 128 columns, by the table, of an element split in two. -/
def headSum (z : FVec Ideal S256x128 .f32) (t : FVec Ideal S128x128 .bf16) : FVec Ideal S256x128 .f32 :=
  addf (matmul dot_S256x128_S128x128_S256x128_1_0_0_1_n_n none (truncf .bf16 z bitsLt_bf16_f32) t (constant S256x128 .f32 0x00000000#32))
    (matmul dot_S256x128_S128x128_S256x128_1_0_0_1_n_n none
      (truncf .bf16 (subf z (extf .f32 (truncf .bf16 z bitsLt_bf16_f32 : FVec Ideal S256x128 .bf16) bitsLt_bf16_f32)) bitsLt_bf16_f32) t (constant S256x128 .f32 0x00000000#32))

theorem headSum_at (z : FVec Ideal S256x128 .f32) (t : FVec Ideal S128x128 .bf16) (r : Fin 256) (l : Fin 128) :
    headSum z t (ValueIdx.ix2 r l) = (∑ d : Fin 128, z (ValueIdx.ix2 r d) * t (ValueIdx.ix2 d l))
      + ∑ d : Fin 128, ((z (ValueIdx.ix2 r d) : EReal) - z (ValueIdx.ix2 r d)) * t (ValueIdx.ix2 d l) := by
  unfold headSum
  pointwise
  rfl

/-- Eight groups of columns side by side, and their reading. -/
def eight (a b c d e f g h : FVec Ideal S256x128 .f32) : FVec Ideal S256x1024 .f32 :=
  concatenate S256x1024 1 [⟨S256x128, a⟩, ⟨S256x128, b⟩, ⟨S256x128, c⟩, ⟨S256x128, d⟩, ⟨S256x128, e⟩, ⟨S256x128, f⟩, ⟨S256x128, g⟩, ⟨S256x128, h⟩] concatenates_S256x128_S256x128_S256x128_S256x128_S256x128_S256x128_S256x128_S256x128_S256x1024_d1

theorem eight_at (f : Fin 8 → FVec Ideal S256x128 .f32) (r : Fin 256) (q : Fin 8) (l : Fin 128) :
    eight (f 0) (f 1) (f 2) (f 3) (f 4) (f 5) (f 6) (f 7) (ValueIdx.ix2 r ⟨q.val * 128 + l.val, by omega⟩) = f q (ValueIdx.ix2 r l) := by
  unfold eight
  fin_cases q
  all_goals pointwise
  · rfl
  · rfl
  · rw [dif_neg (by omega), dif_neg (by omega), dif_pos (by omega)]
    exact congrArg (f 2) (congrArg (ValueIdx.ix2 r) (Fin.ext (show 256 + l.val - 128 - 128 = l.val by omega)))
  · rw [dif_neg (by omega), dif_neg (by omega), dif_neg (by omega), dif_pos (by omega)]
    exact congrArg (f 3) (congrArg (ValueIdx.ix2 r) (Fin.ext (show 384 + l.val - 128 - 128 - 128 = l.val by omega)))
  · rw [dif_neg (by omega), dif_neg (by omega), dif_neg (by omega), dif_neg (by omega), dif_pos (by omega)]
    exact congrArg (f 4) (congrArg (ValueIdx.ix2 r) (Fin.ext (show 512 + l.val - 128 - 128 - 128 - 128 = l.val by omega)))
  · rw [dif_neg (by omega), dif_neg (by omega), dif_neg (by omega), dif_neg (by omega), dif_neg (by omega), dif_pos (by omega)]
    exact congrArg (f 5) (congrArg (ValueIdx.ix2 r) (Fin.ext (show 640 + l.val - 128 - 128 - 128 - 128 - 128 = l.val by omega)))
  · rw [dif_neg (by omega), dif_neg (by omega), dif_neg (by omega), dif_neg (by omega), dif_neg (by omega), dif_neg (by omega), dif_pos (by omega)]
    exact congrArg (f 6) (congrArg (ValueIdx.ix2 r) (Fin.ext (show 768 + l.val - 128 - 128 - 128 - 128 - 128 - 128 = l.val by omega)))
  · rw [dif_neg (by omega), dif_neg (by omega), dif_neg (by omega), dif_neg (by omega), dif_neg (by omega), dif_neg (by omega), dif_neg (by omega)]
    exact congrArg (f 7) (congrArg (ValueIdx.ix2 r) (Fin.ext (show 896 + l.val - 128 - 128 - 128 - 128 - 128 - 128 - 128 = l.val by omega)))

/-- A group of the columns. -/
def grp (z : FVec Ideal S256x1024 .f32) (q : Fin 8) : FVec Ideal S256x128 .f32 := match q with
  | 0 => extractStridedSlice S256x128 ![0, 0] z slices_S256x1024_o0_0_S256x128
  | 1 => extractStridedSlice S256x128 ![0, 128] z slices_S256x1024_o0_128_S256x128
  | 2 => extractStridedSlice S256x128 ![0, 256] z slices_S256x1024_o0_256_S256x128
  | 3 => extractStridedSlice S256x128 ![0, 384] z slices_S256x1024_o0_384_S256x128
  | 4 => extractStridedSlice S256x128 ![0, 512] z slices_S256x1024_o0_512_S256x128
  | 5 => extractStridedSlice S256x128 ![0, 640] z slices_S256x1024_o0_640_S256x128
  | 6 => extractStridedSlice S256x128 ![0, 768] z slices_S256x1024_o0_768_S256x128
  | 7 => extractStridedSlice S256x128 ![0, 896] z slices_S256x1024_o0_896_S256x128

theorem grp_at (z : FVec Ideal S256x1024 .f32) (q : Fin 8) (r : Fin 256) (l : Fin 128) : grp z q (ValueIdx.ix2 r l) = z (ValueIdx.ix2 r ⟨q.val * 128 + l.val, by omega⟩) := by
  fin_cases q
  all_goals
    unfold grp
    pointwise
    exact congrArg z (by congr 1)

/-- The heads' means, at each of their columns. -/
def means (z : FVec Ideal S256x1024 .f32) (t : FVec Ideal S128x128 .bf16) : FVec Ideal S256x1024 .f32 :=
  mulf (eight (headSum (grp z 0) t) (headSum (grp z 1) t) (headSum (grp z 2) t) (headSum (grp z 3) t) (headSum (grp z 4) t) (headSum (grp z 5) t) (headSum (grp z 6) t) (headSum (grp z 7) t)) (broadcast S256x1024 (Scalar.ofBits .f32 0x3C800000#32))

/-- The two directions' outputs added, less their heads' means, and normalised. -/
def added (x2 x3 : Vec Ideal S1x256x1024 .f32) : FVec Ideal S256x1024 .f32 :=
  addf (shapeCast S256x1024 x2 shapeCasts_S1x256x1024_S256x1024) (shapeCast S256x1024 x3 shapeCasts_S1x256x1024_S256x1024)

def centred (y : FVec Ideal S256x1024 .f32) (t : FVec Ideal S128x128 .bf16) : FVec Ideal S256x1024 .f32 := subf y (means y t)

def scaled (c : FVec Ideal S256x1024 .f32) (t : FVec Ideal S128x128 .bf16) : FVec Ideal S256x1024 .f32 :=
  mulf c (rsqrt (addf (means (mulf c c) t) (broadcast S256x1024 (Scalar.ofBits .f32 0x3A27C5AC#32))))

/-- What a tile holds, of the normalised columns. -/
def tile (y : FVec Ideal S256x1024 .f32) (x0 : Vec Ideal S1x256x1024 .f32) (x1 : Vec Ideal S1x1x1024 .f32) (x4 : Vec Ideal S1x256x1024 .f32) (x5 : Vec Ideal S1x256x1024 .bf16)
    (x6 x7 : Vec Ideal S1x1024 .f32) (x9 : Vec Ideal S1024x1024 .bf16) : FVec Ideal S1x256x1024 .f32 :=
  shapeCast S1x256x1024 (addf (shapeCast S256x1024 x0 shapeCasts_S1x256x1024_S256x1024)
    (mulf (broadcastTo S256x1024 (shapeCast S1x1024 x1 shapeCasts_S1x1x1024_S1x1024) broadcasts_S1x1024_S256x1024)
      (matmul dot_S256x1024_S1024x1024_S256x1024_1_0_0_1_n_n none
        (truncf .bf16 (mulf (addf (addf (mulf y (broadcastTo S256x1024 (shapeCast S1x1024 x6 shapeCasts_S1x1024_S1x1024) broadcasts_S1x1024_S256x1024))
          (broadcastTo S256x1024 (shapeCast S1x1024 x7 shapeCasts_S1x1024_S1x1024) broadcasts_S1x1024_S256x1024))
          (shapeCast S256x1024 x4 shapeCasts_S1x256x1024_S256x1024))
          (extf .f32 (shapeCast S256x1024 x5 shapeCasts_S1x256x1024_S256x1024 : FVec Ideal S256x1024 .bf16) bitsLt_bf16_f32)) bitsLt_bf16_f32 : FVec Ideal S256x1024 .bf16)
        (shapeCast S1024x1024 x9 shapeCasts_S1024x1024_S1024x1024 : FVec Ideal S1024x1024 .bf16) (constant S256x1024 .f32 0x00000000#32))) : FVec Ideal S256x1024 .f32)
    shapeCasts_S256x1024_S1x256x1024

section out
variable (x0 : Vec Ideal S1x256x1024 .f32) (x1 : Vec Ideal S1x1x1024 .f32) (x2 x3 x4 : Vec Ideal S1x256x1024 .f32) (x5 : Vec Ideal S1x256x1024 .bf16)
  (x6 x7 : Vec Ideal S1x1024 .f32) (x8 : Vec Ideal S128x128 .bf16) (x9 : Vec Ideal S1024x1024 .bf16)

theorem z2 : (![0, 0] : Fin 2 → ℕ) = fun _ => 0 := by decide
theorem z3 : (![0, 0, 0] : Fin 3 → ℕ) = fun _ => 0 := by decide
theorem ld0 : View.ld x0 r0_1 = x0 := View.ld_unit_zero z3 _ x0
theorem ld1 : View.ld x1 r0_3 = x1 := View.ld_unit_zero z3 _ x1
theorem ld5 : View.ld x5 r0_1 = x5 := View.ld_unit_zero z3 _ x5
theorem ld6 : View.ld x6 r0_2 = x6 := View.ld_unit_zero z2 _ x6
theorem ld8 : View.ld x8 r0_0 = x8 := View.ld_unit_zero z2 _ x8
theorem ld9 : View.ld x9 r0_4 = x9 := View.ld_unit_zero z2 _ x9

theorem out10_eq : out0_10 x0 x1 x2 x3 x4 x5 x6 x7 x8 x9 = tile (scaled (centred (added x2 x3) x8) x8) x0 x1 x4 x5 x6 x7 x9 := by
  unfold_out out0_10
  simp only [ld0, ld1, ld5, ld6, ld8, ld9]
  exact (View.canon_unit_zero z3 _ _).trans rfl

end out

/-! ## The tile's elements -/

variable (t : FVec Ideal S128x128 .bf16)

theorem added_at (x2 x3 : Vec Ideal S1x256x1024 .f32) (r : Fin 256) (d : Fin 1024) :
    added x2 x3 (ValueIdx.ix2 r d) = (x2 (ValueIdx.ix3 0 r d) : EReal) + x3 (ValueIdx.ix3 0 r d) := by
  unfold added
  pointwise
  rfl

/-- A head's mean as the kernel sums it, from a group's columns. -/
def headMean (o : Fin 128 → EReal) (l : Fin 128) : EReal :=
  ((∑ d : Fin 128, o d * t (ValueIdx.ix2 d l)) + ∑ d : Fin 128, (o d - o d) * t (ValueIdx.ix2 d l)) * cHead

/-- A column of a group. -/
def col (q : Fin 8) (l : Fin 128) : Fin 1024 := ⟨q.val * 128 + l.val, by omega⟩

theorem means_at (z : FVec Ideal S256x1024 .f32) (r : Fin 256) (q : Fin 8) (l : Fin 128) :
    means z t (ValueIdx.ix2 r (col q l)) = headMean t (fun d => z (ValueIdx.ix2 r (col q d))) l := by
  have h := (eight_at (fun q => headSum (grp z q) t) r q l).trans (headSum_at _ t r l)
  simp only [grp_at] at h
  exact congrArg (fun u : EReal => u * cHead) h

/-- A group's column less its head's mean, and normalised, by the kernel. -/
def cenK (o : Fin 128 → EReal) (l : Fin 128) : EReal := o l - headMean t o l
def normK (o : Fin 128 → EReal) (l : Fin 128) : EReal := cenK t o l * Ideal.rsqrt (headMean t (fun d => cenK t o d * cenK t o d) l + cGn)

theorem centred_at (z : FVec Ideal S256x1024 .f32) (r : Fin 256) (q : Fin 8) (l : Fin 128) :
    centred z t (ValueIdx.ix2 r (col q l)) = cenK t (fun d => z (ValueIdx.ix2 r (col q d))) l :=
  congrArg (fun u : EReal => z (ValueIdx.ix2 r (col q l)) - u) (means_at t z r q l)

theorem scaled_at (z : FVec Ideal S256x1024 .f32) (r : Fin 256) (q : Fin 8) (l : Fin 128) :
    scaled (centred z t) t (ValueIdx.ix2 r (col q l)) = normK t (fun d => z (ValueIdx.ix2 r (col q d))) l := by
  have hc := fun l => centred_at t z r q l
  generalize centred z t = c at hc ⊢
  have hm := means_at t (mulf c c) r q l
  have hs : ∀ d : Fin 128, mulf c c (ValueIdx.ix2 r (col q d)) = cenK t (fun d => z (ValueIdx.ix2 r (col q d))) d * cenK t (fun d => z (ValueIdx.ix2 r (col q d))) d := fun d =>
    congrArg₂ (fun u v : EReal => u * v) (hc d) (hc d)
  simp only [hs] at hm
  refine Eq.trans ?_ (congrArg₂ (fun u v : EReal => u * Ideal.rsqrt (v + cGn)) (hc l) hm)
  rfl

theorem tile_at (y : FVec Ideal S256x1024 .f32) (x0 : Vec Ideal S1x256x1024 .f32) (x1 : Vec Ideal S1x1x1024 .f32) (x4 : Vec Ideal S1x256x1024 .f32) (x5 : Vec Ideal S1x256x1024 .bf16)
    (x6 x7 : Vec Ideal S1x1024 .f32) (x9 : Vec Ideal S1024x1024 .bf16) (r : Fin 256) (e : Fin 1024) :
    tile y x0 x1 x4 x5 x6 x7 x9 (ValueIdx.ix3 0 r e) = (x0 (ValueIdx.ix3 0 r e) : EReal) + x1 (ValueIdx.ix3 0 0 e) *
      ∑ d : Fin 1024, ((y (ValueIdx.ix2 r d) : EReal) * x6 (ValueIdx.ix2 0 d) + x7 (ValueIdx.ix2 0 d) + x4 (ValueIdx.ix3 0 r d)) * x5 (ValueIdx.ix3 0 r d) * x9 (ValueIdx.ix2 d e) := by
  unfold tile
  pointwise
  rfl

end Cert.ReadOut

end
-- ==== Proof.RoHead.lean ====
/-
  The norm of a head of 64 columns, and the kernel's by the table of heads.
-/
module

public import proofs.«01_k».proof.Proof.RoRow

@[expose] public section

noncomputable section

namespace Cert.ReadOut

open Cert.Kernel5Ideal Cert.Kernel5Ideal.Gen
open Idealize.ShloMosaic Idealize.ShloMosaic.TcCoe Idealize.ShloMosaic.Tactic
open Cert.InProj (cHead cDim inGroup hdL coL inGroup_hd IsTable sum_table num_sub_self num_div cHead_eq IsNum.add)
open Cert.Moe (IsNum isNum_of)

/-- A head's mean. -/
def mu (y : Fin 64 → EReal) : EReal := Ideal.div (∑ i : Fin 64, y i) cDim

/-- A head's element less its mean, over the root of the mean square of these. -/
def normRow (y : Fin 64 → EReal) (e : Fin 64) : EReal :=
  (y e - mu y) * Ideal.rsqrt (Ideal.div (∑ i : Fin 64, (y i - mu y) * (y i - mu y)) cDim + cGn)

theorem num_sub {x y : EReal} (hx : IsNum x) (hy : IsNum y) : IsNum (x - y) := by
  obtain ⟨a, rfl⟩ := hx
  obtain ⟨b, rfl⟩ := hy
  exact ⟨a - b, (EReal.coe_sub a b).symm⟩

theorem hd_inGroup (h : Fin 2) (e : Fin 64) : hdL (inGroup h e) = h := Fin.ext (show (h.val * 64 + e.val) / 64 = h.val by omega)

variable {t : FVec Ideal S128x128 .bf16} (ht : IsTable t)
include ht

/-- The kernel's mean is the head's, of numbers. -/
theorem headMean_eq (o : Fin 128 → EReal) (ho : ∀ d, IsNum (o d)) (l : Fin 128) : headMean t o l = mu (fun e => o (inGroup (hdL l) e)) := by
  unfold headMean mu
  have h0 : ∑ d : Fin 128, (o d - o d) * (t (ValueIdx.ix2 d l) : EReal) = 0 :=
    Finset.sum_eq_zero fun d _ => by rw [num_sub_self (ho d), zero_mul]
  rw [sum_table ht o l, h0, add_zero]
  exact num_div (IsNum.sum fun e => ho _)

/-- It is a number. -/
theorem headMean_num (o : Fin 128 → EReal) (ho : ∀ d, IsNum (o d)) (l : Fin 128) : IsNum (headMean t o l) := by
  rw [headMean_eq ht o ho l]
  unfold mu
  rw [← num_div (IsNum.sum fun e => ho _)]
  exact (IsNum.sum fun e => ho _).mul ⟨_, cHead_eq⟩

/-- A column normalised by the kernel is the head's normalised element. -/
theorem normK_eq (o : Fin 128 → EReal) (ho : ∀ d, IsNum (o d)) (l : Fin 128) : normK t o l = normRow (fun e => o (inGroup (hdL l) e)) (coL l) := by
  have hc : ∀ d, IsNum (cenK t o d) := fun d => num_sub (ho d) (headMean_num ht o ho d)
  unfold normK normRow
  rw [headMean_eq ht (fun d => cenK t o d * cenK t o d) (fun d => (hc d).mul (hc d)) l]
  have he : ∀ e : Fin 64, cenK t o (inGroup (hdL l) e) = o (inGroup (hdL l) e) - mu (fun e => o (inGroup (hdL l) e)) := fun e => by
    unfold cenK
    rw [headMean_eq ht o ho, hd_inGroup]
  have hl : cenK t o l = o (inGroup (hdL l) (coL l)) - mu (fun e => o (inGroup (hdL l) e)) := by
    rw [← he, inGroup_hd]
  rw [hl]
  unfold mu at he ⊢
  simp only [he]

end Cert.ReadOut

end
-- ==== Proof.RoTab.lean ====
/-
  The read-out's table of heads: one where row and column are of one head of a group, else zero.
-/
module

public import proofs.«01_k».proof.Kernel5Ideal

@[expose] public section

noncomputable section

namespace Cert.ReadOut

open Cert.Kernel5Ideal

set_option maxRecDepth 65536 in
/-- The printed table's words. -/
theorem lit_at : ∀ i j : Fin 128, lit0t (i.val * 128 + j.val) = if i.val / 64 = j.val / 64 then 0x3F80#16 else 0#16 := by
  decide +kernel

end Cert.ReadOut

end
-- ==== Proof.RoOut.lean ====
/-
  The read-out's array after the kernel's run, of the arguments, over the ideal values.
-/
module

public import proofs.«01_k».proof.Proof.RoHead
public import proofs.«01_k».proof.Proof.RoTab
public import proofs.«01_k».proof.Proof.PreFin

@[expose] public section

noncomputable section

namespace Cert.ReadOut

open Cert.Kernel5Ideal Cert.Kernel5Ideal.Gen
open Idealize.ShloMosaic Idealize.ShloMosaic.TcCoe Idealize.ShloMosaic.Tactic
open Idealize.SL.Sem
open Cert.InProj (inGroup hdL coL inGroup_hd IsTable one16 zero16 IsNum.add)
open Cert.Moe (IsNum isNum_of FinArr)

variable (m : (ℓ : Loc nD τ sig) → Buf (Elt Ideal) ℓ) (c : Dev nD)

/-- The arguments: the residual stream, the layer's gate, the two directions' outputs, the bonus, the gates, the norm's
    gain and shift and the weights. -/
abbrev X : S4x8192x1024.Idx → EReal := m ((c : Thread nD τ).loc main_arg0)
abbrev Gt : S4x1x1024.Idx → EReal := m ((c : Thread nD τ).loc main_arg1)
abbrev Yf : S4x8192x16x64.Idx → EReal := m ((c : Thread nD τ).loc main_arg2)
abbrev Yb : S4x8192x16x64.Idx → EReal := m ((c : Thread nD τ).loc main_arg3)
abbrev Bo : S4x8192x16x64.Idx → EReal := m ((c : Thread nD τ).loc main_arg4)
abbrev G : S4x8192x1024.Idx → EReal := m ((c : Thread nD τ).loc main_arg5)
abbrev Ga : S1024.Idx → EReal := m ((c : Thread nD τ).loc main_arg6)
abbrev Gb : S1024.Idx → EReal := m ((c : Thread nD τ).loc main_arg7)
abbrev W : S1024x1024.Idx → EReal := m ((c : Thread nD τ).loc main_arg8)

/-- A column's head and its place in it. -/
abbrev hd (d : Fin 1024) : Fin 16 := ⟨d.val / 64, by omega⟩
abbrev co (d : Fin 1024) : Fin 64 := ⟨d.val % 64, by omega⟩

/-! ## What the region finds -/

theorem flat_at (z : FVec Ideal S4x8192x16x64 .f32) (b : Fin 4) (s : Fin 8192) (d : Fin 1024) :
    shapeCast S4x8192x1024 z shapeCasts_S4x8192x16x64_S4x8192x1024 (ValueIdx.ix3 b s d) = z (ValueIdx.ix4 b s (hd d) (co d)) := by
  pointwise
  rfl

theorem V_yf (b : Fin 4) (s : Fin 8192) (d : Fin 1024) : (V m c main_v0 : S4x8192x1024.Idx → EReal) (ValueIdx.ix3 b s d) = Yf m c (ValueIdx.ix4 b s (hd d) (co d)) := by
  have h : (V m c main_v0 : S4x8192x1024.Idx → EReal) = shapeCast S4x8192x1024 (Yf m c : FVec Ideal S4x8192x16x64 .f32) shapeCasts_S4x8192x16x64_S4x8192x1024 := by
    show StableHlo.after hostOps0 _ (Proc.devRef .tc main_v0) = _
    unfold hostOps0
    after_results <;> rfl
  rw [h]
  exact flat_at _ b s d

theorem V_yb (b : Fin 4) (s : Fin 8192) (d : Fin 1024) : (V m c main_v1 : S4x8192x1024.Idx → EReal) (ValueIdx.ix3 b s d) = Yb m c (ValueIdx.ix4 b s (hd d) (co d)) := by
  have h : (V m c main_v1 : S4x8192x1024.Idx → EReal) = shapeCast S4x8192x1024 (Yb m c : FVec Ideal S4x8192x16x64 .f32) shapeCasts_S4x8192x16x64_S4x8192x1024 := by
    show StableHlo.after hostOps0 _ (Proc.devRef .tc main_v1) = _
    unfold hostOps0
    after_results <;> rfl
  rw [h]
  exact flat_at _ b s d

theorem V_bo (b : Fin 4) (s : Fin 8192) (d : Fin 1024) : (V m c main_v2 : S4x8192x1024.Idx → EReal) (ValueIdx.ix3 b s d) = Bo m c (ValueIdx.ix4 b s (hd d) (co d)) := by
  have h : (V m c main_v2 : S4x8192x1024.Idx → EReal) = shapeCast S4x8192x1024 (Bo m c : FVec Ideal S4x8192x16x64 .f32) shapeCasts_S4x8192x16x64_S4x8192x1024 := by
    show StableHlo.after hostOps0 _ (Proc.devRef .tc main_v2) = _
    unfold hostOps0
    after_results <;> rfl
  rw [h]
  exact flat_at _ b s d

theorem V_g : V m c main_v3 = G m c := by
  show StableHlo.after hostOps0 _ (Proc.devRef .tc main_v3) = _
  unfold hostOps0
  after_results <;> rfl

theorem V_w : V m c main_v4 = W m c := by
  show StableHlo.after hostOps0 _ (Proc.devRef .tc main_v4) = _
  unfold hostOps0
  after_results <;> rfl

theorem V_ga (d : Fin 1024) : (V m c main_v5 : S1x1024.Idx → EReal) (ValueIdx.ix2 0 d) = Ga m c (ValueIdx.ix1 d) := by
  have h : (V m c main_v5 : S1x1024.Idx → EReal) = shapeCast S1x1024 (Ga m c : FVec Ideal S1024 .f32) shapeCasts_S1024_S1x1024 := by
    show StableHlo.after hostOps0 _ (Proc.devRef .tc main_v5) = _
    unfold hostOps0
    after_results <;> rfl
  rw [h]
  generalize (Ga m c : FVec Ideal S1024 .f32) = g
  pointwise
  rfl

theorem V_gb (d : Fin 1024) : (V m c main_v6 : S1x1024.Idx → EReal) (ValueIdx.ix2 0 d) = Gb m c (ValueIdx.ix1 d) := by
  have h : (V m c main_v6 : S1x1024.Idx → EReal) = shapeCast S1x1024 (Gb m c : FVec Ideal S1024 .f32) shapeCasts_S1024_S1x1024 := by
    show StableHlo.after hostOps0 _ (Proc.devRef .tc main_v6) = _
    unfold hostOps0
    after_results <;> rfl
  rw [h]
  generalize (Gb m c : FVec Ideal S1024 .f32) = g
  pointwise
  rfl

/-- The printed table of heads. -/
def tab : FVec Ideal S128x128 .bf16 := fun i => FloatOps.ofBits .bf16 (lit0 (S128x128.rowMajor i))

/-- The table of heads, as the region finds it. -/
theorem V_tab : IsTable (V m c main_cst : S128x128.Idx → EReal) := by
  have h : (V m c main_cst : S128x128.Idx → EReal) = tab := by
    show StableHlo.after hostOps0 _ (Proc.devRef .tc main_cst) = _
    unfold hostOps0
    after_results <;> rfl
  intro d l
  have hr : (S128x128.rowMajor (ValueIdx.ix2 d l : S128x128.Idx)).val = d.val * 128 + l.val := by
    exact Shape.rowMajor_val_two _
  have hl : lit0 (S128x128.rowMajor (ValueIdx.ix2 d l : S128x128.Idx)) = lit0t (d.val * 128 + l.val) := by
    show lit0t (S128x128.rowMajor (ValueIdx.ix2 d l : S128x128.Idx)).val = _
    rw [hr]
  rw [h]
  show Ideal.ofBits .bf16 (lit0 (S128x128.rowMajor (ValueIdx.ix2 d l : S128x128.Idx))) = _
  rw [hl, lit_at]
  by_cases he : d.val / 64 = l.val / 64
  · rw [if_pos he, if_pos he]
    exact one16
  · rw [if_neg he, if_neg he]
    exact zero16

/-! ## The blocks -/

/-- The batch and the block of rows of a grid point. -/
def bAt (t : Fin cfg0.N) : Fin 4 := ⟨(grid0.coords t 0).val, (grid0.coords t 0).isLt⟩
def iAt (t : Fin cfg0.N) : Fin 32 := ⟨(grid0.coords t 1).val, (grid0.coords t 1).isLt⟩
def row (t : Fin cfg0.N) (r : Fin 256) : Fin 8192 := ⟨(iAt t).val * 256 + r.val, by omega⟩

theorem idxA (t : Fin cfg0.N) : win0_0.index t = ![(bAt t).val, (iAt t).val, 0] ∧ win0_1.index t = ![(bAt t).val, 0, 0]
    ∧ win0_2.index t = ![(bAt t).val, (iAt t).val, 0] ∧ win0_3.index t = ![(bAt t).val, (iAt t).val, 0]
    ∧ win0_4.index t = ![(bAt t).val, (iAt t).val, 0] ∧ win0_5.index t = ![(bAt t).val, (iAt t).val, 0] := by
  revert t; decide

theorem idxB (t : Fin cfg0.N) : win0_6.index t = ![0, 0] ∧ win0_7.index t = ![0, 0] ∧ win0_8.index t = ![0, 0] ∧ win0_9.index t = ![0, 0]
    ∧ win0_10.index t = ![(bAt t).val, (iAt t).val, 0] := by
  revert t; decide

theorem iblk0 (t : Fin cfg0.N) (r : Fin 256) (e : Fin 1024) : (iblk m c 0 t : S1x256x1024.Idx → EReal) (ValueIdx.ix3 0 r e) = X m c (ValueIdx.ix3 (bAt t) (row t r) e) := by
  refine Eq.trans ?_ (congrFun (V_main_arg0 m c) _)
  unfold iblk
  show (V m c main_arg0 : S4x8192x1024.Idx → EReal) _ = (V m c main_arg0 : S4x8192x1024.Idx → EReal) _
  blk_ext [idxA t, row]

theorem iblk1 (t : Fin cfg0.N) (e : Fin 1024) : (iblk m c 1 t : S1x1x1024.Idx → EReal) (ValueIdx.ix3 0 0 e) = Gt m c (ValueIdx.ix3 (bAt t) 0 e) := by
  refine Eq.trans ?_ (congrFun (V_main_arg1 m c) _)
  unfold iblk
  show (V m c main_arg1 : S4x1x1024.Idx → EReal) _ = (V m c main_arg1 : S4x1x1024.Idx → EReal) _
  blk_ext [idxA t]

theorem iblk2 (t : Fin cfg0.N) (r : Fin 256) (d : Fin 1024) : (iblk m c 2 t : S1x256x1024.Idx → EReal) (ValueIdx.ix3 0 r d) = Yf m c (ValueIdx.ix4 (bAt t) (row t r) (hd d) (co d)) := by
  refine Eq.trans ?_ (V_yf m c (bAt t) (row t r) d)
  unfold iblk
  show (V m c main_v0 : S4x8192x1024.Idx → EReal) _ = (V m c main_v0 : S4x8192x1024.Idx → EReal) _
  blk_ext [idxA t, row]

theorem iblk3 (t : Fin cfg0.N) (r : Fin 256) (d : Fin 1024) : (iblk m c 3 t : S1x256x1024.Idx → EReal) (ValueIdx.ix3 0 r d) = Yb m c (ValueIdx.ix4 (bAt t) (row t r) (hd d) (co d)) := by
  refine Eq.trans ?_ (V_yb m c (bAt t) (row t r) d)
  unfold iblk
  show (V m c main_v1 : S4x8192x1024.Idx → EReal) _ = (V m c main_v1 : S4x8192x1024.Idx → EReal) _
  blk_ext [idxA t, row]

theorem iblk4 (t : Fin cfg0.N) (r : Fin 256) (d : Fin 1024) : (iblk m c 4 t : S1x256x1024.Idx → EReal) (ValueIdx.ix3 0 r d) = Bo m c (ValueIdx.ix4 (bAt t) (row t r) (hd d) (co d)) := by
  refine Eq.trans ?_ (V_bo m c (bAt t) (row t r) d)
  unfold iblk
  show (V m c main_v2 : S4x8192x1024.Idx → EReal) _ = (V m c main_v2 : S4x8192x1024.Idx → EReal) _
  blk_ext [idxA t, row]

theorem iblk5 (t : Fin cfg0.N) (r : Fin 256) (d : Fin 1024) : (iblk m c 5 t : S1x256x1024.Idx → EReal) (ValueIdx.ix3 0 r d) = G m c (ValueIdx.ix3 (bAt t) (row t r) d) := by
  unfold iblk
  rw [← V_g m c]
  show (V m c main_v3 : S4x8192x1024.Idx → EReal) _ = (V m c main_v3 : S4x8192x1024.Idx → EReal) _
  blk_ext [idxA t, row]

theorem iblk6 (t : Fin cfg0.N) (d : Fin 1024) : (iblk m c 6 t : S1x1024.Idx → EReal) (ValueIdx.ix2 0 d) = Ga m c (ValueIdx.ix1 d) := by
  refine Eq.trans ?_ (V_ga m c d)
  unfold iblk
  show (V m c main_v5 : S1x1024.Idx → EReal) _ = (V m c main_v5 : S1x1024.Idx → EReal) _
  blk_ext [idxB t]

theorem iblk7 (t : Fin cfg0.N) (d : Fin 1024) : (iblk m c 7 t : S1x1024.Idx → EReal) (ValueIdx.ix2 0 d) = Gb m c (ValueIdx.ix1 d) := by
  refine Eq.trans ?_ (V_gb m c d)
  unfold iblk
  show (V m c main_v6 : S1x1024.Idx → EReal) _ = (V m c main_v6 : S1x1024.Idx → EReal) _
  blk_ext [idxB t]

theorem iblk8 (t : Fin cfg0.N) : IsTable (iblk m c 8 t) := fun d l => by
  refine Eq.trans ?_ (V_tab m c d l)
  unfold iblk
  show (V m c main_cst : S128x128.Idx → EReal) _ = (V m c main_cst : S128x128.Idx → EReal) _
  blk_ext [idxB t]

theorem iblk9 (t : Fin cfg0.N) (d e : Fin 1024) : (iblk m c 9 t : S1024x1024.Idx → EReal) (ValueIdx.ix2 d e) = W m c (ValueIdx.ix2 d e) := by
  unfold iblk
  rw [← V_w m c]
  show (V m c main_v4 : S1024x1024.Idx → EReal) _ = (V m c main_v4 : S1024x1024.Idx → EReal) _
  blk_ext [idxB t]

/-! ## The output of the arguments -/

/-- A head of the two directions' outputs added. -/
def Y (b : Fin 4) (s : Fin 8192) (h : Fin 16) (e : Fin 64) : EReal := Yf m c (ValueIdx.ix4 b s h e) + Yb m c (ValueIdx.ix4 b s h e)

def outG : S4x8192x1024.Idx → EReal := fun i => X m c i + Gt m c (ValueIdx.ix3 (i 0) 0 (i 2)) *
  ∑ d : Fin 1024, (normRow (Y m c (i 0) (i 1) (hd d)) (co d) * Ga m c (ValueIdx.ix1 d) + Gb m c (ValueIdx.ix1 d) + Bo m c (ValueIdx.ix4 (i 0) (i 1) (hd d) (co d)))
    * G m c (ValueIdx.ix3 (i 0) (i 1) d) * W m c (ValueIdx.ix2 d (i 2))

/-- The directions' outputs are finite. -/
structure FinStates (a2 a3 : FVec Ideal S4x8192x16x64 .f32) : Prop where
  f : FinArr (s := S4x8192x16x64) a2
  b : FinArr (s := S4x8192x16x64) a3

abbrev Fin5 : Prop := FinStates (Yf m c) (Yb m c)

/-- The tile of the output and of the normalised columns at a grid point. -/
abbrev tile10 (t : Fin cfg0.N) := out0_10 (F := Ideal) (iblk m c 0 t) (iblk m c 1 t) (iblk m c 2 t) (iblk m c 3 t) (iblk m c 4 t) (iblk m c 5 t) (iblk m c 6 t) (iblk m c 7 t) (iblk m c 8 t) (iblk m c 9 t)
abbrev tileN (t : Fin cfg0.N) : FVec Ideal S256x1024 .f32 := scaled (centred (added (iblk m c 2 t) (iblk m c 3 t)) (iblk m c 8 t)) (iblk m c 8 t)

variable {m c} in
theorem tileN_at (h : Fin5 m c) (t : Fin cfg0.N) (r : Fin 256) (d : Fin 1024) :
    (tileN m c t (ValueIdx.ix2 r d) : EReal) = normRow (Y m c (bAt t) (row t r) (hd d)) (co d) := by
  obtain ⟨q, l, rfl⟩ : ∃ (q : Fin 8) (l : Fin 128), d = col q l :=
    ⟨⟨d.val / 128, by omega⟩, ⟨d.val % 128, by omega⟩, Fin.ext (show d.val = d.val / 128 * 128 + d.val % 128 by omega)⟩
  have ha : ∀ d : Fin 1024, (added (iblk m c 2 t) (iblk m c 3 t) (ValueIdx.ix2 r d) : EReal) = Y m c (bAt t) (row t r) (hd d) (co d) := fun d =>
    (added_at _ _ r d).trans (congrArg₂ (fun u v : EReal => u + v) (iblk2 m c t r d) (iblk3 m c t r d))
  have hn : ∀ d : Fin 1024, IsNum (Y m c (bAt t) (row t r) (hd d) (co d)) := fun d => IsNum.add (isNum_of (h.f _)) (isNum_of (h.b _))
  refine (scaled_at (iblk m c 8 t) (added (iblk m c 2 t) (iblk m c 3 t)) r q l).trans ?_
  simp only [ha]
  refine (normK_eq (iblk8 m c t) _ (fun d => hn _) l).trans ?_
  have e1 : coL l = co (col q l) := Fin.ext (show l.val % 64 = (q.val * 128 + l.val) % 64 by omega)
  rw [e1]
  refine congrArg (fun f : Fin 64 → EReal => normRow f (co (col q l))) (funext fun e => ?_)
  refine congrArg₂ (Y m c (bAt t) (row t r)) (Fin.ext ?_) (Fin.ext ?_)
  · show (q.val * 128 + (l.val / 64 * 64 + e.val)) / 64 = (q.val * 128 + l.val) / 64
    omega
  · show (q.val * 128 + (l.val / 64 * 64 + e.val)) % 64 = e.val
    omega

variable {m c} in
theorem tile10_at (h : Fin5 m c) (t : Fin cfg0.N) (r : Fin 256) (e : Fin 1024) : tile10 m c t (ValueIdx.ix3 0 r e) = outG m c (ValueIdx.ix3 (bAt t) (row t r) e) := by
  refine (congrFun (out10_eq _ _ _ _ _ _ _ _ _ _) _).trans ((tile_at _ _ _ _ _ _ _ _ r e).trans ?_)
  exact congrArg₂ (fun u v : EReal => u + v) (iblk0 m c t r e) (congrArg₂ (fun u v : EReal => u * v) (iblk1 m c t e)
    (Finset.sum_congr rfl fun d _ => congrArg₂ (fun u v : EReal => u * v) (congrArg₂ (fun u v : EReal => u * v)
      (congrArg₂ (fun u v : EReal => u + v) (congrArg₂ (fun u v : EReal => u + v) (congrArg₂ (fun u v : EReal => u * v) (tileN_at h t r d) (iblk6 m c t d)) (iblk7 m c t d))
        (iblk4 m c t r d)) (iblk5 m c t r d)) (iblk9 m c t d e)))

/-! ## The array -/

theorem emb10 (t : Fin cfg0.N) (r : Fin 256) (x : Fin 1024) :
    ((cfg0.win 10).blk t).view.emb (ValueIdx.ix3 0 r x : S1x256x1024.Idx) = (ValueIdx.ix3 (bAt t) (row t r) x : S4x8192x1024.Idx) := by
  blk_ext [idxB t, row]

theorem read10 (h : Fin5 m c) (t : Fin cfg0.N) (y : S1x256x1024.Idx) : (tile10 m c t) y = outG m c (((cfg0.win 10).blk t).view.emb y) := by
  obtain ⟨r, e, rfl⟩ : ∃ (r : Fin 256) (e : Fin 1024), y = ValueIdx.ix3 0 r e :=
    ⟨y 1, y 2, by funext a; fin_cases a; exacts [Subsingleton.elim (α := Fin 1) _ _, rfl, rfl]⟩
  exact (tile10_at h t r e).trans (congrArg (outG m c) (emb10 t r e)).symm

/-- The point of a batch and a block of rows. -/
def pt (b : Fin 4) (i : Fin 32) : Fin cfg0.N := ⟨b.val * 32 + i.val, by show _ < 128; omega⟩

theorem pt_facts : ∀ (b : Fin 4) (i : Fin 32), bAt (pt b i) = b ∧ iAt (pt b i) = i := by decide

theorem pt_row (b : Fin 4) (s : Fin 8192) : bAt (pt b ⟨s.val / 256, by omega⟩) = b ∧ row (pt b ⟨s.val / 256, by omega⟩) ⟨s.val % 256, by omega⟩ = s := by
  obtain ⟨h1, h2⟩ := pt_facts b ⟨s.val / 256, by omega⟩
  refine ⟨h1, Fin.ext ?_⟩
  unfold row
  simp only [h2]
  omega

set_option maxRecDepth 16384 in
theorem arr10 (h : Fin5 m c) : (dats m 0 c).arrAt 10 cfg0.N = outG m c := by
  refine (dats m 0 c).arrAt_eq_of_cover 10 (outG m c) (fun t _ => ?_) fun i => ?_
  · rw [Value.flushed10]
    exact funext fun y => read10 m c h t y
  · obtain ⟨b, s, x, rfl⟩ : ∃ (b : Fin 4) (s : Fin 8192) (x : Fin 1024), i = (ValueIdx.ix3 b s x : S4x8192x1024.Idx) :=
      ⟨(i : S4x8192x1024.Idx) 0, (i : S4x8192x1024.Idx) 1, (i : S4x8192x1024.Idx) 2, by funext a; fin_cases a <;> rfl⟩
    refine ⟨pt b ⟨s.val / 256, by omega⟩, flush0_10 _, ?_⟩
    have he := emb10 (pt b ⟨s.val / 256, by omega⟩) ⟨s.val % 256, by omega⟩ x
    have hx : (ValueIdx.ix3 (bAt (pt b ⟨s.val / 256, by omega⟩)) (row (pt b ⟨s.val / 256, by omega⟩) ⟨s.val % 256, by omega⟩) x : S4x8192x1024.Idx)
        = ValueIdx.ix3 b s x := by
      rw [(pt_row b s).1, (pt_row b s).2]
    exact Finset.mem_map.mpr ⟨_, Finset.mem_univ _, he.trans hx⟩

end Cert.ReadOut

end
-- ==== Proof.RoRef.lean ====
/-
  The read-out's reference over the ideal values, read at an index.
-/
module

public import proofs.«01_k».proof.Proof.Gen.Reference5Ideal.Run
public import proofs.«01_k».proof.Proof.RoHead
public import Idealize.ShloMosaic.Lib.Pointwise

@[expose] public section

noncomputable section

namespace Cert.ReadOut.Ref

open Cert.Reference5Ideal Cert.Reference5Ideal.Gen
open Idealize.ShloMosaic Idealize.ShloMosaic.TcCoe Idealize.ShloMosaic.Tactic
open Cert.InProj (cDim)

/-- A head's mean, at each of its columns. -/
def means (y : FVec Ideal S4x8192x16x64 .f32) : FVec Ideal S4x8192x16x1 .f32 :=
  Host.divf (broadcastInDim S4x8192x16x1 ![0, 1, 2] bcast_S4x8192x16_S4x8192x16x1_0_1_2 (Host.reduceAdd y (constant S_ .f32 0x00000000#32) reducesTo_S4x8192x16x64_S4x8192x16_d3 h_S_))
    (broadcastInDim S4x8192x16x1 ![] bcast_S_S4x8192x16x1 (constant S_ .f32 0x42800000#32))

theorem means_at (y : FVec Ideal S4x8192x16x64 .f32) (b : Fin 4) (s : Fin 8192) (h : Fin 16) :
    means y (ValueIdx.ix4 b s h 0) = Ideal.div (∑ e : Fin 64, y (ValueIdx.ix4 b s h e)) cDim := by
  unfold means
  pointwise
  rfl

/-- The heads less their means. -/
def centred (y : FVec Ideal S4x8192x16x64 .f32) : FVec Ideal S4x8192x16x64 .f32 :=
  subf y (broadcastInDim S4x8192x16x64 ![0, 1, 2, 3] bcast_S4x8192x16x1_S4x8192x16x64_0_1_2_3 (means y))

theorem centred_at (y : FVec Ideal S4x8192x16x64 .f32) (b : Fin 4) (s : Fin 8192) (h : Fin 16) (e : Fin 64) :
    centred y (ValueIdx.ix4 b s h e) = (y (ValueIdx.ix4 b s h e) : EReal) - mu (fun e => y (ValueIdx.ix4 b s h e)) := by
  refine Eq.trans ?_ (congrArg (fun u : EReal => y (ValueIdx.ix4 b s h e) - u) (means_at y b s h))
  unfold centred
  generalize means y = w
  pointwise
  rfl

/-- The heads normalised. -/
def scaled (c : FVec Ideal S4x8192x16x64 .f32) : FVec Ideal S4x8192x16x64 .f32 :=
  mulf c (broadcastInDim S4x8192x16x64 ![0, 1, 2, 3] bcast_S4x8192x16x1_S4x8192x16x64_0_1_2_3
    (Host.rsqrt (addf (means (mulf c c)) (broadcastInDim S4x8192x16x1 ![] bcast_S_S4x8192x16x1 (constant S_ .f32 0x3A27C5AC#32)))))

theorem scaled_at (y : FVec Ideal S4x8192x16x64 .f32) (b : Fin 4) (s : Fin 8192) (h : Fin 16) (e : Fin 64) :
    scaled (centred y) (ValueIdx.ix4 b s h e) = normRow (fun e => y (ValueIdx.ix4 b s h e)) e := by
  have hc := centred_at y b s h
  generalize centred y = c at hc ⊢
  have hm := means_at (mulf c c) b s h
  have hs : ∀ e : Fin 64, mulf c c (ValueIdx.ix4 b s h e) = ((y (ValueIdx.ix4 b s h e) : EReal) - mu (fun e => y (ValueIdx.ix4 b s h e)))
      * (y (ValueIdx.ix4 b s h e) - mu (fun e => y (ValueIdx.ix4 b s h e))) := fun e =>
    congrArg₂ (fun u v : EReal => u * v) (hc e) (hc e)
  simp only [hs] at hm
  refine Eq.trans ?_ (congrArg₂ (fun u v : EReal => u * Ideal.rsqrt (v + cGn)) (hc e) hm)
  unfold scaled
  generalize means (mulf c c) = w
  pointwise
  rfl

/-- The result, of the normalised heads. -/
def res (n : FVec Ideal S4x8192x16x64 .f32) (a0 : FVec Ideal S4x8192x1024 .f32) (a1 : FVec Ideal S4x1x1024 .f32) (a4 : FVec Ideal S4x8192x16x64 .f32) (a5 : FVec Ideal S4x8192x1024 .f32)
    (a6 a7 : FVec Ideal S1024 .f32) (a8 : FVec Ideal S1024x1024 .f32) : FVec Ideal S4x8192x1024 .f32 :=
  addf a0 (mulf (broadcastInDim S4x8192x1024 ![0, 1, 2] bcast_S4x1x1024_S4x8192x1024_0_1_2 a1)
    (Host.dotGeneral dot_S4x8192x1024_S1024x1024_S4x8192x1024_2_0_01_1_n_n none
      (mulf (addf (addf (mulf (shapeCast S4x8192x1024 n shapeCasts_S4x8192x16x64_S4x8192x1024)
        (broadcastInDim S4x8192x1024 ![0, 1, 2] bcast_S1x1x1024_S4x8192x1024_0_1_2 (broadcastInDim S1x1x1024 ![2] bcast_S1024_S1x1x1024_2 a6)))
        (broadcastInDim S4x8192x1024 ![0, 1, 2] bcast_S1x1x1024_S4x8192x1024_0_1_2 (broadcastInDim S1x1x1024 ![2] bcast_S1024_S1x1x1024_2 a7)))
        (shapeCast S4x8192x1024 a4 shapeCasts_S4x8192x16x64_S4x8192x1024)) a5) a8))

/-- A column's head and its place in it. -/
abbrev hd (d : Fin 1024) : Fin 16 := ⟨d.val / 64, by omega⟩
abbrev co (d : Fin 1024) : Fin 64 := ⟨d.val % 64, by omega⟩

theorem res_at (n : FVec Ideal S4x8192x16x64 .f32) (a0 : FVec Ideal S4x8192x1024 .f32) (a1 : FVec Ideal S4x1x1024 .f32) (a4 : FVec Ideal S4x8192x16x64 .f32) (a5 : FVec Ideal S4x8192x1024 .f32)
    (a6 a7 : FVec Ideal S1024 .f32) (a8 : FVec Ideal S1024x1024 .f32) (b : Fin 4) (s : Fin 8192) (x : Fin 1024) :
    res n a0 a1 a4 a5 a6 a7 a8 (ValueIdx.ix3 b s x) = (a0 (ValueIdx.ix3 b s x) : EReal) + a1 (ValueIdx.ix3 b 0 x) *
      ∑ d : Fin 1024, ((n (ValueIdx.ix4 b s (hd d) (co d)) : EReal) * a6 (ValueIdx.ix1 d) + a7 (ValueIdx.ix1 d) + a4 (ValueIdx.ix4 b s (hd d) (co d)))
        * a5 (ValueIdx.ix3 b s d) * a8 (ValueIdx.ix2 d x) := by
  unfold res
  pointwise
  rfl

end Cert.ReadOut.Ref

end
-- ==== Proof.RoEq.lean ====
/-
  The read-out's value claim: over the ideal values the kernel's output is the reference's.
-/
module

public import proofs.«01_k».proof.Defs
public import proofs.«01_k».proof.Proof.RoOut
public import proofs.«01_k».proof.Proof.RoRef
public import proofs.«01_k».proof.Proof.Gen.Pre_finite_states
public import Idealize.ShloMosaic.Lib.Quiescent
public import Idealize.ShloMosaic.Lib.Claim

@[expose] public section

noncomputable section

namespace Cert.ReadOut

open Cert.Kernel5Ideal Cert.Kernel5Ideal.Gen
open Idealize.ShloMosaic Idealize.ShloMosaic.TcCoe Idealize.ShloMosaic.Tactic
open Idealize.SL.Sem
open Cert.Moe (finite_of_all)

/-- The precondition, read back. -/
theorem finStates_of {a0 a1 a2 a3 a4 a5 a6 a7 a8} (h : Cert.Pre_finite_states.fn (F := Ideal) a0 a1 a2 a3 a4 a5 a6 a7 a8 = fun _ => 1#1) : FinStates a2 a3 := by
  have h := IntOp.andi_eq_one.1 (congrFun h (ValueIdx.ix0))
  exact ⟨finite_of_all _ _ _ _ _ h.1, finite_of_all _ _ _ _ _ h.2⟩

variable (m : (ℓ : Loc nD τ sig) → Buf (Elt Ideal) ℓ) (c : Dev nD)

/-- The reference's result of the kernel's arguments. -/
theorem ref_eq : (Ref.res (Ref.scaled (Ref.centred (addf (Yf m c : FVec Ideal S4x8192x16x64 .f32) (Yb m c : FVec Ideal S4x8192x16x64 .f32)))) (X m c) (Gt m c) (Bo m c) (G m c) (Ga m c) (Gb m c) (W m c)
    : S4x8192x1024.Idx → EReal) = outG m c := by
  funext i
  obtain ⟨b, s, x, rfl⟩ : ∃ (b : Fin 4) (s : Fin 8192) (x : Fin 1024), i = ValueIdx.ix3 b s x :=
    ⟨i 0, i 1, i 2, by funext a; fin_cases a <;> rfl⟩
  refine (Ref.res_at _ _ _ _ _ _ _ _ b s x).trans ?_
  simp only [Ref.scaled_at]
  rfl

/-- The reference's frame. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Both programs end with the same result. -/
theorem algebraic : Cert.algebraic_Kernel5Ideal_Reference5Ideal_pre_finite_states := fun m g m' g' hpre hargs => by
  refine ⟨fun c => outG m c, ?_, ?_⟩
  · exact (θ_run Cert.Kernel5Ideal.defs _ _).mono (fun _ h c => ⟨(h c).1.trans (arr10 m c (finStates_of (hpre c))), (h c).2⟩) (Value.run_blocks m g)
  · refine (θ_run Cert.Reference5Ideal.defs _ _).mono (fun r h c => ⟨(h c).1.trans ?_, (h c).2⟩) (Cert.Reference5Ideal.Value.run (F := Ideal) m' g')
    obtain ⟨e0, e1, e2, e3, e4, e5, e6, e7, e8⟩ := hargs c
    refine Eq.trans ?_ (ref_eq m c)
    rw [e0, e1, e2, e3, e4, e5, e6, e7, e8]
    rfl

end Cert.ReadOut

end
-- ==== Proof.lean ====
/-
  The certificate: every claim of `Cert.Claim`, proved.
-/
module

public import proofs.«01_k».proof.Defs
public import proofs.«01_k».proof.Proof.Gen.Pre_finite_layer
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite_scores
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite_projection
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite_states
public import proofs.«01_k».proof.Proof.Algebraic
public import proofs.«01_k».proof.Proof.AttnEq
public import proofs.«01_k».proof.Proof.ResProj
public import proofs.«01_k».proof.Proof.ProjEq
public import proofs.«01_k».proof.Proof.RoEq

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_distinct_tokens.Gen.facts, Cert.Pre_finite_layer.Gen.facts, Cert.Pre_finite_scores.Gen.facts, Cert.Pre_finite_projection.Gen.facts, Cert.Pre_finite_states.Gen.facts,
    Cert.Moe.frame_kernel, Cert.Moe.frame_kernelIdeal, Cert.Moe.frame_kernelIdeal_fin,
    Cert.Moe.frame_referenceIdeal, Cert.Moe.frame_referenceIdeal_fin,
    fun m ρ _ => Cert.Kernel2.Gen.frame m ρ, fun m ρ _ => Cert.Kernel2Ideal.Gen.frame m ρ, fun m ρ _ => Cert.Kernel2Ideal.Gen.frame m ρ,
    Cert.Attn.frame_reference, fun m ρ _ => Cert.Attn.frame_reference m ρ trivial,
    fun m ρ _ => Cert.Kernel3.Gen.frame m ρ, fun m ρ _ => Cert.Kernel3Ideal.Gen.frame m ρ, Cert.ResProj.frame_reference,
    fun m ρ _ => Cert.Kernel4.Gen.frame m ρ, fun m ρ _ => Cert.Kernel4Ideal.Gen.frame m ρ, fun m ρ _ => Cert.Kernel4Ideal.Gen.frame m ρ,
    Cert.InProj.frame_reference, fun m ρ _ => Cert.InProj.frame_reference m ρ trivial,
    fun m ρ _ => Cert.Kernel5.Gen.frame m ρ, fun m ρ _ => Cert.Kernel5Ideal.Gen.frame m ρ, fun m ρ _ => Cert.Kernel5Ideal.Gen.frame m ρ,
    Cert.ReadOut.frame_reference, fun m ρ _ => Cert.ReadOut.frame_reference m ρ trivial,
    trivial, Cert.Moe.algebraic, trivial, Cert.Attn.algebraic, trivial, Cert.ResProj.algebraic,
    trivial, Cert.InProj.algebraic, trivial, Cert.ReadOut.algebraic⟩

end Cert.Proof

end
